-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_InEvenS (m : (ℓ : Loc Cert.InEvenS.nD Cert.InEvenS.τ Cert.InEvenS.sig) → Buf (Elt Bits) ℓ) : Prop :=
  True

def Pre_InEvenSIdeal (m : (ℓ : Loc Cert.InEvenSIdeal.nD Cert.InEvenSIdeal.τ Cert.InEvenSIdeal.sig) → Buf (Elt Ideal) ℓ) : Prop :=
  True

def Pre_InEvenSRefIdeal (m : (ℓ : Loc Cert.InEvenSRefIdeal.nD Cert.InEvenSRefIdeal.τ Cert.InEvenSRefIdeal.sig) → Buf (Elt Ideal) ℓ) : Prop :=
  True

def Pre_FfnDownS (m : (ℓ : Loc Cert.FfnDownS.nD Cert.FfnDownS.τ Cert.FfnDownS.sig) → Buf (Elt Bits) ℓ) : Prop :=
  True

def Pre_FfnDownSIdeal (m : (ℓ : Loc Cert.FfnDownSIdeal.nD Cert.FfnDownSIdeal.τ Cert.FfnDownSIdeal.sig) → Buf (Elt Ideal) ℓ) : Prop :=
  True

def Pre_FfnDownSRefIdeal (m : (ℓ : Loc Cert.FfnDownSRefIdeal.nD Cert.FfnDownSRefIdeal.τ Cert.FfnDownSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5)
      ∧ r.2.mem ((c.tc : Thread Cert.FfnDown.nD Cert.FfnDown.τ).loc Cert.FfnDown.main_arg6) = m ((c.tc : Thread Cert.FfnDown.nD Cert.FfnDown.τ).loc Cert.FfnDown.main_arg6))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_InEvenS [hInEvenS : Cert.InEvenS.Facts] : Prop :=
  ∀ (m : (ℓ : Loc Cert.InEvenS.nD Cert.InEvenS.τ Cert.InEvenS.sig) → Buf (Elt Bits) ℓ) (g : Dev Cert.InEvenS.nD → PrngReg), Pre_InEvenS m →
    θ_run (Cert.InEvenS.defs (F := Bits)) (onTc (τ := Cert.InEvenS.τ) (Cert.InEvenS.main (F := Bits))) ⟨m, fun _ => 0, g⟩ (fun r => (∀ c : Dev Cert.InEvenS.nD,
      r.2.mem ((c.tc : Thread Cert.InEvenS.nD Cert.InEvenS.τ).loc Cert.InEvenS.main_arg0) = m ((c.tc : Thread Cert.InEvenS.nD Cert.InEvenS.τ).loc Cert.InEvenS.main_arg0)
      ∧ r.2.mem ((c.tc : Thread Cert.InEvenS.nD Cert.InEvenS.τ).loc Cert.InEvenS.main_arg1) = m ((c.tc : Thread Cert.InEvenS.nD Cert.InEvenS.τ).loc Cert.InEvenS.main_arg1)
      ∧ r.2.mem ((c.tc : Thread Cert.InEvenS.nD Cert.InEvenS.τ).loc Cert.InEvenS.main_arg2) = m ((c.tc : Thread Cert.InEvenS.nD Cert.InEvenS.τ).loc Cert.InEvenS.main_arg2))
      ∧ r.2.sem = fun _ => 0)

def quiescent_InEvenSIdeal [hInEvenSIdeal : Cert.InEvenSIdeal.Facts] : Prop :=
  ∀ (m : (ℓ : Loc Cert.InEvenSIdeal.nD Cert.InEvenSIdeal.τ Cert.InEvenSIdeal.sig) → Buf (Elt Ideal) ℓ) (g : Dev Cert.InEvenSIdeal.nD → PrngReg), Pre_InEvenSIdeal m →
    θ_run (Cert.InEvenSIdeal.defs (F := Ideal)) (onTc (τ := Cert.InEvenSIdeal.τ) (Cert.InEvenSIdeal.main (F := Ideal))) ⟨m, fun _ => 0, g⟩ (fun r => (∀ c : Dev Cert.InEvenSIdeal.nD,
      r.2.mem ((c.tc : Thread Cert.InEvenSIdeal.nD Cert.InEvenSIdeal.τ).loc Cert.InEvenSIdeal.main_arg0) = m ((c.tc : Thread Cert.InEvenSIdeal.nD Cert.InEvenSIdeal.τ).loc Cert.InEvenSIdeal.main_arg0)
      ∧ r.2.mem ((c.tc : Thread Cert.InEvenSIdeal.nD Cert.InEvenSIdeal.τ).loc Cert.InEvenSIdeal.main_arg1) = m ((c.tc : Thread Cert.InEvenSIdeal.nD Cert.InEvenSIdeal.τ).loc Cert.InEvenSIdeal.main_arg1)
      ∧ r.2.mem ((c.tc : Thread Cert.InEvenSIdeal.nD Cert.InEvenSIdeal.τ).loc Cert.InEvenSIdeal.main_arg2) = m ((c.tc : Thread Cert.InEvenSIdeal.nD Cert.InEvenSIdeal.τ).loc Cert.InEvenSIdeal.main_arg2))
      ∧ r.2.sem = fun _ => 0)

def quiescent_InEvenSRefIdeal [hInEvenSRefIdeal : Cert.InEvenSRefIdeal.Facts] : Prop :=
  ∀ (m : (ℓ : Loc Cert.InEvenSRefIdeal.nD Cert.InEvenSRefIdeal.τ Cert.InEvenSRefIdeal.sig) → Buf (Elt Ideal) ℓ) (g : Dev Cert.InEvenSRefIdeal.nD → PrngReg), Pre_InEvenSRefIdeal m →
    θ_run (Cert.InEvenSRefIdeal.defs (F := Ideal)) (onTc (τ := Cert.InEvenSRefIdeal.τ) (Cert.InEvenSRefIdeal.main (F := Ideal))) ⟨m, fun _ => 0, g⟩ (fun r => (∀ c : Dev Cert.InEvenSRefIdeal.nD,
      r.2.mem ((c.tc : Thread Cert.InEvenSRefIdeal.nD Cert.InEvenSRefIdeal.τ).loc Cert.InEvenSRefIdeal.main_arg0) = m ((c.tc : Thread Cert.InEvenSRefIdeal.nD Cert.InEvenSRefIdeal.τ).loc Cert.InEvenSRefIdeal.main_arg0)
      ∧ r.2.mem ((c.tc : Thread Cert.InEvenSRefIdeal.nD Cert.InEvenSRefIdeal.τ).loc Cert.InEvenSRefIdeal.main_arg1) = m ((c.tc : Thread Cert.InEvenSRefIdeal.nD Cert.InEvenSRefIdeal.τ).loc Cert.InEvenSRefIdeal.main_arg1)
      ∧ r.2.mem ((c.tc : Thread Cert.InEvenSRefIdeal.nD Cert.InEvenSRefIdeal.τ).loc Cert.InEvenSRefIdeal.main_arg2) = m ((c.tc : Thread Cert.InEvenSRefIdeal.nD Cert.InEvenSRefIdeal.τ).loc Cert.InEvenSRefIdeal.main_arg2))
      ∧ r.2.sem = fun _ => 0)

def quiescent_FfnDownS [hFfnDownS : Cert.FfnDownS.Facts] : Prop :=
  ∀ (m : (ℓ : Loc Cert.FfnDownS.nD Cert.FfnDownS.τ Cert.FfnDownS.sig) → Buf (Elt Bits) ℓ) (g : Dev Cert.FfnDownS.nD → PrngReg), Pre_FfnDownS m →
    θ_run (Cert.FfnDownS.defs (F := Bits)) (onTc (τ := Cert.FfnDownS.τ) (Cert.FfnDownS.main (F := Bits))) ⟨m, fun _ => 0, g⟩ (fun r => (∀ c : Dev Cert.FfnDownS.nD,
      r.2.mem ((c.tc : Thread Cert.FfnDownS.nD Cert.FfnDownS.τ).loc Cert.FfnDownS.main_arg0) = m ((c.tc : Thread Cert.FfnDownS.nD Cert.FfnDownS.τ).loc Cert.FfnDownS.main_arg0)
      ∧ r.2.mem ((c.tc : Thread Cert.FfnDownS.nD Cert.FfnDownS.τ).loc Cert.FfnDownS.main_arg1) = m ((c.tc : Thread Cert.FfnDownS.nD Cert.FfnDownS.τ).loc Cert.FfnDownS.main_arg1)
      ∧ r.2.mem ((c.tc : Thread Cert.FfnDownS.nD Cert.FfnDownS.τ).loc Cert.FfnDownS.main_arg2) = m ((c.tc : Thread Cert.FfnDownS.nD Cert.FfnDownS.τ).loc Cert.FfnDownS.main_arg2)
      ∧ r.2.mem ((c.tc : Thread Cert.FfnDownS.nD Cert.FfnDownS.τ).loc Cert.FfnDownS.main_arg3) = m ((c.tc : Thread Cert.FfnDownS.nD Cert.FfnDownS.τ).loc Cert.FfnDownS.main_arg3)
      ∧ r.2.mem ((c.tc : Thread Cert.FfnDownS.nD Cert.FfnDownS.τ).loc Cert.FfnDownS.main_arg4) = m ((c.tc : Thread Cert.FfnDownS.nD Cert.FfnDownS.τ).loc Cert.FfnDownS.main_arg4)
      ∧ r.2.mem ((c.tc : Thread Cert.FfnDownS.nD Cert.FfnDownS.τ).loc Cert.FfnDownS.main_arg5) = m ((c.tc : Thread Cert.FfnDownS.nD Cert.FfnDownS.τ).loc Cert.FfnDownS.main_arg5)
      ∧ r.2.mem ((c.tc : Thread Cert.FfnDownS.nD Cert.FfnDownS.τ).loc Cert.FfnDownS.main_arg6) = m ((c.tc : Thread Cert.FfnDownS.nD Cert.FfnDownS.τ).loc Cert.FfnDownS.main_arg6))
      ∧ r.2.sem = fun _ => 0)

def quiescent_FfnDownSIdeal [hFfnDownSIdeal : Cert.FfnDownSIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg), Pre_FfnDownSIdeal m →
    θ_run (Cert.FfnDownSIdeal.defs (F := Ideal)) (onTc (τ := Cert.FfnDownSIdeal.τ) (Cert.FfnDownSIdeal.main (F := Ideal))) ⟨m, fun _ => 0, g⟩ (fun r => (∀ c : Dev Cert.FfnDownSIdeal.nD,
      r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
      ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
      ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2)
      ∧ r.2.mem ((c.tc : Thread Cert.FfnDownSIdeal.nD Cert.FfnDownSIdeal.τ).loc Cert.FfnDownSIdeal.main_arg3) = m ((c.tc : Thread Cert.FfnDownSIdeal.nD Cert.FfnDownSIdeal.τ).loc Cert.FfnDownSIdeal.main_arg3)
      ∧ r.2.mem ((c.tc : Thread Cert.FfnDownSIdeal.nD Cert.FfnDownSIdeal.τ).loc Cert.FfnDownSIdeal.main_arg4) = m ((c.tc : Thread Cert.FfnDownSIdeal.nD Cert.FfnDownSIdeal.τ).loc Cert.FfnDownSIdeal.main_arg4)
      ∧ r.2.mem ((c.tc : Thread Cert.FfnDownSIdeal.nD Cert.FfnDownSIdeal.τ).loc Cert.FfnDownSIdeal.main_arg5) = m ((c.tc : Thread Cert.FfnDownSIdeal.nD Cert.FfnDownSIdeal.τ).loc Cert.FfnDownSIdeal.main_arg5)
      ∧ r.2.mem ((c.tc : Thread Cert.FfnDownSIdeal.nD Cert.FfnDownSIdeal.τ).loc Cert.FfnDownSIdeal.main_arg6) = m ((c.tc : Thread Cert.FfnDownSIdeal.nD Cert.FfnDownSIdeal.τ).loc Cert.FfnDownSIdeal.main_arg6))
      ∧ r.2.sem = fun _ => 0)

def quiescent_FfnDownSRefIdeal [hFfnDownSRefIdeal : Cert.FfnDownSRefIdeal.Facts] : Prop :=
  ∀ (m : (ℓ : Loc Cert.FfnDownSRefIdeal.nD Cert.FfnDownSRefIdeal.τ Cert.FfnDownSRefIdeal.sig) → Buf (Elt Ideal) ℓ) (g : Dev Cert.FfnDownSRefIdeal.nD → PrngReg), Pre_FfnDownSRefIdeal m →
    θ_run (Cert.FfnDownSRefIdeal.defs (F := Ideal)) (onTc (τ := Cert.FfnDownSRefIdeal.τ) (Cert.FfnDownSRefIdeal.main (F := Ideal))) ⟨m, fun _ => 0, g⟩ (fun r => (∀ c : Dev Cert.FfnDownSRefIdeal.nD,
      r.2.mem ((c.tc : Thread Cert.FfnDownSRefIdeal.nD Cert.FfnDownSRefIdeal.τ).loc Cert.FfnDownSRefIdeal.main_arg0) = m ((c.tc : Thread Cert.FfnDownSRefIdeal.nD Cert.FfnDownSRefIdeal.τ).loc Cert.FfnDownSRefIdeal.main_arg0)
      ∧ r.2.mem ((c.tc : Thread Cert.FfnDownSRefIdeal.nD Cert.FfnDownSRefIdeal.τ).loc Cert.FfnDownSRefIdeal.main_arg1) = m ((c.tc : Thread Cert.FfnDownSRefIdeal.nD Cert.FfnDownSRefIdeal.τ).loc Cert.FfnDownSRefIdeal.main_arg1)
      ∧ r.2.mem ((c.tc : Thread Cert.FfnDownSRefIdeal.nD Cert.FfnDownSRefIdeal.τ).loc Cert.FfnDownSRefIdeal.main_arg2) = m ((c.tc : Thread Cert.FfnDownSRefIdeal.nD Cert.FfnDownSRefIdeal.τ).loc Cert.FfnDownSRefIdeal.main_arg2)
      ∧ r.2.mem ((c.tc : Thread Cert.FfnDownSRefIdeal.nD Cert.FfnDownSRefIdeal.τ).loc Cert.FfnDownSRefIdeal.main_arg3) = m ((c.tc : Thread Cert.FfnDownSRefIdeal.nD Cert.FfnDownSRefIdeal.τ).loc Cert.FfnDownSRefIdeal.main_arg3)
      ∧ r.2.mem ((c.tc : Thread Cert.FfnDownSRefIdeal.nD Cert.FfnDownSRefIdeal.τ).loc Cert.FfnDownSRefIdeal.main_arg4) = m ((c.tc : Thread Cert.FfnDownSRefIdeal.nD Cert.FfnDownSRefIdeal.τ).loc Cert.FfnDownSRefIdeal.main_arg4)
      ∧ r.2.mem ((c.tc : Thread Cert.FfnDownSRefIdeal.nD Cert.FfnDownSRefIdeal.τ).loc Cert.FfnDownSRefIdeal.main_arg5) = m ((c.tc : Thread Cert.FfnDownSRefIdeal.nD Cert.FfnDownSRefIdeal.τ).loc Cert.FfnDownSRefIdeal.main_arg5)
      ∧ r.2.mem ((c.tc : Thread Cert.FfnDownSRefIdeal.nD Cert.FfnDownSRefIdeal.τ).loc Cert.FfnDownSRefIdeal.main_arg6) = m ((c.tc : Thread Cert.FfnDownSRefIdeal.nD Cert.FfnDownSRefIdeal.τ).loc Cert.FfnDownSRefIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "qscale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v6)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v6) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v24) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)
      ∧ m' ((c.tc : Thread Cert.FfnDownRefIdeal.nD Cert.FfnDownRefIdeal.τ).loc Cert.FfnDownRefIdeal.main_arg6) = m ((c.tc : Thread Cert.FfnDownIdeal.nD Cert.FfnDownIdeal.τ).loc Cert.FfnDownIdeal.main_arg6)) →
    ∃ (v0 : (c : Dev Cert.FfnDownIdeal.nD) → Buf (Elt Ideal) ((c.tc : Thread Cert.FfnDownIdeal.nD Cert.FfnDownIdeal.τ).loc Cert.FfnDownIdeal.main_v20)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v20) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
          ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v53) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5)
          ∧ r.2.mem ((c.tc : Thread Cert.FfnDownRefIdeal.nD Cert.FfnDownRefIdeal.τ).loc Cert.FfnDownRefIdeal.main_arg6) = m' ((c.tc : Thread Cert.FfnDownRefIdeal.nD Cert.FfnDownRefIdeal.τ).loc Cert.FfnDownRefIdeal.main_arg6))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v17)) (v1 : (c : Dev Cert.InEvenIdeal.nD) → Buf (Elt Ideal) ((c.tc : Thread Cert.InEvenIdeal.nD Cert.InEvenIdeal.τ).loc Cert.InEvenIdeal.main_v19)) (v2 : (c : Dev Cert.InEvenIdeal.nD) → Buf (Elt Ideal) ((c.tc : Thread Cert.InEvenIdeal.nD Cert.InEvenIdeal.τ).loc Cert.InEvenIdeal.main_v21)) (v3 : (c : Dev Cert.InEvenIdeal.nD) → Buf (Elt Ideal) ((c.tc : Thread Cert.InEvenIdeal.nD Cert.InEvenIdeal.τ).loc Cert.InEvenIdeal.main_v22)) (v4 : (c : Dev Cert.InEvenIdeal.nD) → Buf (Elt Ideal) ((c.tc : Thread Cert.InEvenIdeal.nD Cert.InEvenIdeal.τ).loc Cert.InEvenIdeal.main_v23)) (v5 : (c : Dev Cert.InEvenIdeal.nD) → Buf (Elt Ideal) ((c.tc : Thread Cert.InEvenIdeal.nD Cert.InEvenIdeal.τ).loc Cert.InEvenIdeal.main_v24)) (v6 : (c : Dev Cert.InEvenIdeal.nD) → Buf (Elt Ideal) ((c.tc : Thread Cert.InEvenIdeal.nD Cert.InEvenIdeal.τ).loc Cert.InEvenIdeal.main_v25)) (v7 : (c : Dev Cert.InEvenIdeal.nD) → Buf (Elt Ideal) ((c.tc : Thread Cert.InEvenIdeal.nD Cert.InEvenIdeal.τ).loc Cert.InEvenIdeal.main_v26)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v17) = v0 c
          ∧ r.2.mem ((c.tc : Thread Cert.InEvenIdeal.nD Cert.InEvenIdeal.τ).loc Cert.InEvenIdeal.main_v19) = v1 c
          ∧ r.2.mem ((c.tc : Thread Cert.InEvenIdeal.nD Cert.InEvenIdeal.τ).loc Cert.InEvenIdeal.main_v21) = v2 c
          ∧ r.2.mem ((c.tc : Thread Cert.InEvenIdeal.nD Cert.InEvenIdeal.τ).loc Cert.InEvenIdeal.main_v22) = v3 c
          ∧ r.2.mem ((c.tc : Thread Cert.InEvenIdeal.nD Cert.InEvenIdeal.τ).loc Cert.InEvenIdeal.main_v23) = v4 c
          ∧ r.2.mem ((c.tc : Thread Cert.InEvenIdeal.nD Cert.InEvenIdeal.τ).loc Cert.InEvenIdeal.main_v24) = v5 c
          ∧ r.2.mem ((c.tc : Thread Cert.InEvenIdeal.nD Cert.InEvenIdeal.τ).loc Cert.InEvenIdeal.main_v25) = v6 c
          ∧ r.2.mem ((c.tc : Thread Cert.InEvenIdeal.nD Cert.InEvenIdeal.τ).loc Cert.InEvenIdeal.main_v26) = v7 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v29) = v0 c
          ∧ r.2.mem ((c.tc : Thread Cert.InEvenRefIdeal.nD Cert.InEvenRefIdeal.τ).loc Cert.InEvenRefIdeal.main_v32) = v1 c
          ∧ r.2.mem ((c.tc : Thread Cert.InEvenRefIdeal.nD Cert.InEvenRefIdeal.τ).loc Cert.InEvenRefIdeal.main_v33) = v2 c
          ∧ r.2.mem ((c.tc : Thread Cert.InEvenRefIdeal.nD Cert.InEvenRefIdeal.τ).loc Cert.InEvenRefIdeal.main_v19) = v3 c
          ∧ r.2.mem ((c.tc : Thread Cert.InEvenRefIdeal.nD Cert.InEvenRefIdeal.τ).loc Cert.InEvenRefIdeal.main_v34) = v4 c
          ∧ r.2.mem ((c.tc : Thread Cert.InEvenRefIdeal.nD Cert.InEvenRefIdeal.τ).loc Cert.InEvenRefIdeal.main_v22) = v5 c
          ∧ r.2.mem ((c.tc : Thread Cert.InEvenRefIdeal.nD Cert.InEvenRefIdeal.τ).loc Cert.InEvenRefIdeal.main_v21) = v6 c
          ∧ r.2.mem ((c.tc : Thread Cert.InEvenRefIdeal.nD Cert.InEvenRefIdeal.τ).loc Cert.InEvenRefIdeal.main_v25) = v7 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v7)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v7) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v20) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)) →
    ∃ (v0 : (c : Dev Cert.OutOddIdeal.nD) → Buf (Elt Ideal) ((c.tc : Thread Cert.OutOddIdeal.nD Cert.OutOddIdeal.τ).loc Cert.OutOddIdeal.main_v7)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v7) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v19) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v22)) (v1 : (c : Dev Cert.InOddIdeal.nD) → Buf (Elt Ideal) ((c.tc : Thread Cert.InOddIdeal.nD Cert.InOddIdeal.τ).loc Cert.InOddIdeal.main_v23)) (v2 : (c : Dev Cert.InOddIdeal.nD) → Buf (Elt Ideal) ((c.tc : Thread Cert.InOddIdeal.nD Cert.InOddIdeal.τ).loc Cert.InOddIdeal.main_v27)) (v3 : (c : Dev Cert.InOddIdeal.nD) → Buf (Elt Ideal) ((c.tc : Thread Cert.InOddIdeal.nD Cert.InOddIdeal.τ).loc Cert.InOddIdeal.main_v31)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v22) = v0 c
          ∧ r.2.mem ((c.tc : Thread Cert.InOddIdeal.nD Cert.InOddIdeal.τ).loc Cert.InOddIdeal.main_v23) = v1 c
          ∧ r.2.mem ((c.tc : Thread Cert.InOddIdeal.nD Cert.InOddIdeal.τ).loc Cert.InOddIdeal.main_v27) = v2 c
          ∧ r.2.mem ((c.tc : Thread Cert.InOddIdeal.nD Cert.InOddIdeal.τ).loc Cert.InOddIdeal.main_v31) = v3 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v32) = v0 c
          ∧ r.2.mem ((c.tc : Thread Cert.InOddRefIdeal.nD Cert.InOddRefIdeal.τ).loc Cert.InOddRefIdeal.main_v20) = v1 c
          ∧ r.2.mem ((c.tc : Thread Cert.InOddRefIdeal.nD Cert.InOddRefIdeal.τ).loc Cert.InOddRefIdeal.main_v27) = v2 c
          ∧ r.2.mem ((c.tc : Thread Cert.InOddRefIdeal.nD Cert.InOddRefIdeal.τ).loc Cert.InOddRefIdeal.main_v27) = v3 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v7)) (v1 : (c : Dev Cert.GatesIdeal.nD) → Buf (Elt Ideal) ((c.tc : Thread Cert.GatesIdeal.nD Cert.GatesIdeal.τ).loc Cert.GatesIdeal.main_v8)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7) = v0 c
          ∧ r.2.mem ((c.tc : Thread Cert.GatesIdeal.nD Cert.GatesIdeal.τ).loc Cert.GatesIdeal.main_v8) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v5) = v0 c
          ∧ r.2.mem ((c.tc : Thread Cert.GatesRefIdeal.nD Cert.GatesRefIdeal.τ).loc Cert.GatesRefIdeal.main_v6) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_InEvenS_InEvenSIdeal : Prop :=
  True

def algebraic_InEvenSIdeal_InEvenSRefIdeal [hInEvenSIdeal : Cert.InEvenSIdeal.Facts] [hInEvenSRefIdeal : Cert.InEvenSRefIdeal.Facts] : Prop :=
  ∀ (m : (ℓ : Loc Cert.InEvenSIdeal.nD Cert.InEvenSIdeal.τ Cert.InEvenSIdeal.sig) → Buf (Elt Ideal) ℓ) (g : Dev Cert.InEvenSIdeal.nD → PrngReg)
    (m' : (ℓ : Loc Cert.InEvenSRefIdeal.nD Cert.InEvenSRefIdeal.τ Cert.InEvenSRefIdeal.sig) → Buf (Elt Ideal) ℓ) (g' : Dev Cert.InEvenSRefIdeal.nD → PrngReg), Pre_InEvenSIdeal m →
    (∀ c : Dev Cert.InEvenSIdeal.nD,
      m' ((c.tc : Thread Cert.InEvenSRefIdeal.nD Cert.InEvenSRefIdeal.τ).loc Cert.InEvenSRefIdeal.main_arg0) = m ((c.tc : Thread Cert.InEvenSIdeal.nD Cert.InEvenSIdeal.τ).loc Cert.InEvenSIdeal.main_arg0)
      ∧ m' ((c.tc : Thread Cert.InEvenSRefIdeal.nD Cert.InEvenSRefIdeal.τ).loc Cert.InEvenSRefIdeal.main_arg1) = m ((c.tc : Thread Cert.InEvenSIdeal.nD Cert.InEvenSIdeal.τ).loc Cert.InEvenSIdeal.main_arg1)
      ∧ m' ((c.tc : Thread Cert.InEvenSRefIdeal.nD Cert.InEvenSRefIdeal.τ).loc Cert.InEvenSRefIdeal.main_arg2) = m ((c.tc : Thread Cert.InEvenSIdeal.nD Cert.InEvenSIdeal.τ).loc Cert.InEvenSIdeal.main_arg2)) →
    ∃ (v0 : (c : Dev Cert.InEvenSIdeal.nD) → Buf (Elt Ideal) ((c.tc : Thread Cert.InEvenSIdeal.nD Cert.InEvenSIdeal.τ).loc Cert.InEvenSIdeal.main_v16)) (v1 : (c : Dev Cert.InEvenSIdeal.nD) → Buf (Elt Ideal) ((c.tc : Thread Cert.InEvenSIdeal.nD Cert.InEvenSIdeal.τ).loc Cert.InEvenSIdeal.main_v18)) (v2 : (c : Dev Cert.InEvenSIdeal.nD) → Buf (Elt Ideal) ((c.tc : Thread Cert.InEvenSIdeal.nD Cert.InEvenSIdeal.τ).loc Cert.InEvenSIdeal.main_v19)) (v3 : (c : Dev Cert.InEvenSIdeal.nD) → Buf (Elt Ideal) ((c.tc : Thread Cert.InEvenSIdeal.nD Cert.InEvenSIdeal.τ).loc Cert.InEvenSIdeal.main_v20)) (v4 : (c : Dev Cert.InEvenSIdeal.nD) → Buf (Elt Ideal) ((c.tc : Thread Cert.InEvenSIdeal.nD Cert.InEvenSIdeal.τ).loc Cert.InEvenSIdeal.main_v21)) (v5 : (c : Dev Cert.InEvenSIdeal.nD) → Buf (Elt Ideal) ((c.tc : Thread Cert.InEvenSIdeal.nD Cert.InEvenSIdeal.τ).loc Cert.InEvenSIdeal.main_v22)) (v6 : (c : Dev Cert.InEvenSIdeal.nD) → Buf (Elt Ideal) ((c.tc : Thread Cert.InEvenSIdeal.nD Cert.InEvenSIdeal.τ).loc Cert.InEvenSIdeal.main_v23)),
      θ_run (Cert.InEvenSIdeal.defs (F := Ideal)) (onTc (τ := Cert.InEvenSIdeal.τ) (Cert.InEvenSIdeal.main (F := Ideal))) ⟨m, fun _ => 0, g⟩ (fun r => ∀ c : Dev Cert.InEvenSIdeal.nD,
          r.2.mem ((c.tc : Thread Cert.InEvenSIdeal.nD Cert.InEvenSIdeal.τ).loc Cert.InEvenSIdeal.main_v16) = v0 c
          ∧ r.2.mem ((c.tc : Thread Cert.InEvenSIdeal.nD Cert.InEvenSIdeal.τ).loc Cert.InEvenSIdeal.main_v18) = v1 c
          ∧ r.2.mem ((c.tc : Thread Cert.InEvenSIdeal.nD Cert.InEvenSIdeal.τ).loc Cert.InEvenSIdeal.main_v19) = v2 c
          ∧ r.2.mem ((c.tc : Thread Cert.InEvenSIdeal.nD Cert.InEvenSIdeal.τ).loc Cert.InEvenSIdeal.main_v20) = v3 c
          ∧ r.2.mem ((c.tc : Thread Cert.InEvenSIdeal.nD Cert.InEvenSIdeal.τ).loc Cert.InEvenSIdeal.main_v21) = v4 c
          ∧ r.2.mem ((c.tc : Thread Cert.InEvenSIdeal.nD Cert.InEvenSIdeal.τ).loc Cert.InEvenSIdeal.main_v22) = v5 c
          ∧ r.2.mem ((c.tc : Thread Cert.InEvenSIdeal.nD Cert.InEvenSIdeal.τ).loc Cert.InEvenSIdeal.main_v23) = v6 c
          ∧ r.2.mem ((c.tc : Thread Cert.InEvenSIdeal.nD Cert.InEvenSIdeal.τ).loc Cert.InEvenSIdeal.main_arg0) = m ((c.tc : Thread Cert.InEvenSIdeal.nD Cert.InEvenSIdeal.τ).loc Cert.InEvenSIdeal.main_arg0)
          ∧ r.2.mem ((c.tc : Thread Cert.InEvenSIdeal.nD Cert.InEvenSIdeal.τ).loc Cert.InEvenSIdeal.main_arg1) = m ((c.tc : Thread Cert.InEvenSIdeal.nD Cert.InEvenSIdeal.τ).loc Cert.InEvenSIdeal.main_arg1)
          ∧ r.2.mem ((c.tc : Thread Cert.InEvenSIdeal.nD Cert.InEvenSIdeal.τ).loc Cert.InEvenSIdeal.main_arg2) = m ((c.tc : Thread Cert.InEvenSIdeal.nD Cert.InEvenSIdeal.τ).loc Cert.InEvenSIdeal.main_arg2))
      ∧ θ_run (Cert.InEvenSRefIdeal.defs (F := Ideal)) (onTc (τ := Cert.InEvenSRefIdeal.τ) (Cert.InEvenSRefIdeal.main (F := Ideal))) ⟨m', fun _ => 0, g'⟩ (fun r => ∀ c : Dev Cert.InEvenSRefIdeal.nD,
          r.2.mem ((c.tc : Thread Cert.InEvenSRefIdeal.nD Cert.InEvenSRefIdeal.τ).loc Cert.InEvenSRefIdeal.main_v29) = v0 c
          ∧ r.2.mem ((c.tc : Thread Cert.InEvenSRefIdeal.nD Cert.InEvenSRefIdeal.τ).loc Cert.InEvenSRefIdeal.main_v32) = v1 c
          ∧ r.2.mem ((c.tc : Thread Cert.InEvenSRefIdeal.nD Cert.InEvenSRefIdeal.τ).loc Cert.InEvenSRefIdeal.main_v33) = v2 c
          ∧ r.2.mem ((c.tc : Thread Cert.InEvenSRefIdeal.nD Cert.InEvenSRefIdeal.τ).loc Cert.InEvenSRefIdeal.main_v35) = v3 c
          ∧ r.2.mem ((c.tc : Thread Cert.InEvenSRefIdeal.nD Cert.InEvenSRefIdeal.τ).loc Cert.InEvenSRefIdeal.main_v36) = v4 c
          ∧ r.2.mem ((c.tc : Thread Cert.InEvenSRefIdeal.nD Cert.InEvenSRefIdeal.τ).loc Cert.InEvenSRefIdeal.main_v37) = v5 c
          ∧ r.2.mem ((c.tc : Thread Cert.InEvenSRefIdeal.nD Cert.InEvenSRefIdeal.τ).loc Cert.InEvenSRefIdeal.main_v38) = v6 c
          ∧ r.2.mem ((c.tc : Thread Cert.InEvenSRefIdeal.nD Cert.InEvenSRefIdeal.τ).loc Cert.InEvenSRefIdeal.main_arg0) = m' ((c.tc : Thread Cert.InEvenSRefIdeal.nD Cert.InEvenSRefIdeal.τ).loc Cert.InEvenSRefIdeal.main_arg0)
          ∧ r.2.mem ((c.tc : Thread Cert.InEvenSRefIdeal.nD Cert.InEvenSRefIdeal.τ).loc Cert.InEvenSRefIdeal.main_arg1) = m' ((c.tc : Thread Cert.InEvenSRefIdeal.nD Cert.InEvenSRefIdeal.τ).loc Cert.InEvenSRefIdeal.main_arg1)
          ∧ r.2.mem ((c.tc : Thread Cert.InEvenSRefIdeal.nD Cert.InEvenSRefIdeal.τ).loc Cert.InEvenSRefIdeal.main_arg2) = m' ((c.tc : Thread Cert.InEvenSRefIdeal.nD Cert.InEvenSRefIdeal.τ).loc Cert.InEvenSRefIdeal.main_arg2))

def preserves_FfnDownS_FfnDownSIdeal : Prop :=
  True

def algebraic_FfnDownSIdeal_FfnDownSRefIdeal [hFfnDownSIdeal : Cert.FfnDownSIdeal.Facts] [hFfnDownSRefIdeal : Cert.FfnDownSRefIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg)
    (m' : (ℓ : Loc Cert.FfnDownSRefIdeal.nD Cert.FfnDownSRefIdeal.τ Cert.FfnDownSRefIdeal.sig) → Buf (Elt Ideal) ℓ) (g' : Dev Cert.FfnDownSRefIdeal.nD → PrngReg), Pre_FfnDownSIdeal m →
    (∀ c : Dev Cert.FfnDownSIdeal.nD,
      m' ((c.tc : Thread Cert.FfnDownSRefIdeal.nD Cert.FfnDownSRefIdeal.τ).loc Cert.FfnDownSRefIdeal.main_arg0) = m ((c.tc : Thread Cert.FfnDownSIdeal.nD Cert.FfnDownSIdeal.τ).loc Cert.FfnDownSIdeal.main_arg0)
      ∧ m' ((c.tc : Thread Cert.FfnDownSRefIdeal.nD Cert.FfnDownSRefIdeal.τ).loc Cert.FfnDownSRefIdeal.main_arg1) = m ((c.tc : Thread Cert.FfnDownSIdeal.nD Cert.FfnDownSIdeal.τ).loc Cert.FfnDownSIdeal.main_arg1)
      ∧ m' ((c.tc : Thread Cert.FfnDownSRefIdeal.nD Cert.FfnDownSRefIdeal.τ).loc Cert.FfnDownSRefIdeal.main_arg2) = m ((c.tc : Thread Cert.FfnDownSIdeal.nD Cert.FfnDownSIdeal.τ).loc Cert.FfnDownSIdeal.main_arg2)
      ∧ m' ((c.tc : Thread Cert.FfnDownSRefIdeal.nD Cert.FfnDownSRefIdeal.τ).loc Cert.FfnDownSRefIdeal.main_arg3) = m ((c.tc : Thread Cert.FfnDownSIdeal.nD Cert.FfnDownSIdeal.τ).loc Cert.FfnDownSIdeal.main_arg3)
      ∧ m' ((c.tc : Thread Cert.FfnDownSRefIdeal.nD Cert.FfnDownSRefIdeal.τ).loc Cert.FfnDownSRefIdeal.main_arg4) = m ((c.tc : Thread Cert.FfnDownSIdeal.nD Cert.FfnDownSIdeal.τ).loc Cert.FfnDownSIdeal.main_arg4)
      ∧ m' ((c.tc : Thread Cert.FfnDownSRefIdeal.nD Cert.FfnDownSRefIdeal.τ).loc Cert.FfnDownSRefIdeal.main_arg5) = m ((c.tc : Thread Cert.FfnDownSIdeal.nD Cert.FfnDownSIdeal.τ).loc Cert.FfnDownSIdeal.main_arg5)
      ∧ m' ((c.tc : Thread Cert.FfnDownSRefIdeal.nD Cert.FfnDownSRefIdeal.τ).loc Cert.FfnDownSRefIdeal.main_arg6) = m ((c.tc : Thread Cert.FfnDownSIdeal.nD Cert.FfnDownSIdeal.τ).loc Cert.FfnDownSIdeal.main_arg6)) →
    ∃ (v0 : (c : Dev Cert.FfnDownSIdeal.nD) → Buf (Elt Ideal) ((c.tc : Thread Cert.FfnDownSIdeal.nD Cert.FfnDownSIdeal.τ).loc Cert.FfnDownSIdeal.main_v20)),
      θ_run (Cert.FfnDownSIdeal.defs (F := Ideal)) (onTc (τ := Cert.FfnDownSIdeal.τ) (Cert.FfnDownSIdeal.main (F := Ideal))) ⟨m, fun _ => 0, g⟩ (fun r => ∀ c : Dev Cert.FfnDownSIdeal.nD,
          r.2.mem ((c.tc : Thread Cert.FfnDownSIdeal.nD Cert.FfnDownSIdeal.τ).loc Cert.FfnDownSIdeal.main_v20) = v0 c
          ∧ r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
          ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
          ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2)
          ∧ r.2.mem ((c.tc : Thread Cert.FfnDownSIdeal.nD Cert.FfnDownSIdeal.τ).loc Cert.FfnDownSIdeal.main_arg3) = m ((c.tc : Thread Cert.FfnDownSIdeal.nD Cert.FfnDownSIdeal.τ).loc Cert.FfnDownSIdeal.main_arg3)
          ∧ r.2.mem ((c.tc : Thread Cert.FfnDownSIdeal.nD Cert.FfnDownSIdeal.τ).loc Cert.FfnDownSIdeal.main_arg4) = m ((c.tc : Thread Cert.FfnDownSIdeal.nD Cert.FfnDownSIdeal.τ).loc Cert.FfnDownSIdeal.main_arg4)
          ∧ r.2.mem ((c.tc : Thread Cert.FfnDownSIdeal.nD Cert.FfnDownSIdeal.τ).loc Cert.FfnDownSIdeal.main_arg5) = m ((c.tc : Thread Cert.FfnDownSIdeal.nD Cert.FfnDownSIdeal.τ).loc Cert.FfnDownSIdeal.main_arg5)
          ∧ r.2.mem ((c.tc : Thread Cert.FfnDownSIdeal.nD Cert.FfnDownSIdeal.τ).loc Cert.FfnDownSIdeal.main_arg6) = m ((c.tc : Thread Cert.FfnDownSIdeal.nD Cert.FfnDownSIdeal.τ).loc Cert.FfnDownSIdeal.main_arg6))
      ∧ θ_run (Cert.FfnDownSRefIdeal.defs (F := Ideal)) (onTc (τ := Cert.FfnDownSRefIdeal.τ) (Cert.FfnDownSRefIdeal.main (F := Ideal))) ⟨m', fun _ => 0, g'⟩ (fun r => ∀ c : Dev Cert.FfnDownSRefIdeal.nD,
          r.2.mem ((c.tc : Thread Cert.FfnDownSRefIdeal.nD Cert.FfnDownSRefIdeal.τ).loc Cert.FfnDownSRefIdeal.main_v53) = v0 c
          ∧ r.2.mem ((c.tc : Thread Cert.FfnDownSRefIdeal.nD Cert.FfnDownSRefIdeal.τ).loc Cert.FfnDownSRefIdeal.main_arg0) = m' ((c.tc : Thread Cert.FfnDownSRefIdeal.nD Cert.FfnDownSRefIdeal.τ).loc Cert.FfnDownSRefIdeal.main_arg0)
          ∧ r.2.mem ((c.tc : Thread Cert.FfnDownSRefIdeal.nD Cert.FfnDownSRefIdeal.τ).loc Cert.FfnDownSRefIdeal.main_arg1) = m' ((c.tc : Thread Cert.FfnDownSRefIdeal.nD Cert.FfnDownSRefIdeal.τ).loc Cert.FfnDownSRefIdeal.main_arg1)
          ∧ r.2.mem ((c.tc : Thread Cert.FfnDownSRefIdeal.nD Cert.FfnDownSRefIdeal.τ).loc Cert.FfnDownSRefIdeal.main_arg2) = m' ((c.tc : Thread Cert.FfnDownSRefIdeal.nD Cert.FfnDownSRefIdeal.τ).loc Cert.FfnDownSRefIdeal.main_arg2)
          ∧ r.2.mem ((c.tc : Thread Cert.FfnDownSRefIdeal.nD Cert.FfnDownSRefIdeal.τ).loc Cert.FfnDownSRefIdeal.main_arg3) = m' ((c.tc : Thread Cert.FfnDownSRefIdeal.nD Cert.FfnDownSRefIdeal.τ).loc Cert.FfnDownSRefIdeal.main_arg3)
          ∧ r.2.mem ((c.tc : Thread Cert.FfnDownSRefIdeal.nD Cert.FfnDownSRefIdeal.τ).loc Cert.FfnDownSRefIdeal.main_arg4) = m' ((c.tc : Thread Cert.FfnDownSRefIdeal.nD Cert.FfnDownSRefIdeal.τ).loc Cert.FfnDownSRefIdeal.main_arg4)
          ∧ r.2.mem ((c.tc : Thread Cert.FfnDownSRefIdeal.nD Cert.FfnDownSRefIdeal.τ).loc Cert.FfnDownSRefIdeal.main_arg5) = m' ((c.tc : Thread Cert.FfnDownSRefIdeal.nD Cert.FfnDownSRefIdeal.τ).loc Cert.FfnDownSRefIdeal.main_arg5)
          ∧ r.2.mem ((c.tc : Thread Cert.FfnDownSRefIdeal.nD Cert.FfnDownSRefIdeal.τ).loc Cert.FfnDownSRefIdeal.main_arg6) = m' ((c.tc : Thread Cert.FfnDownSRefIdeal.nD Cert.FfnDownSRefIdeal.τ).loc Cert.FfnDownSRefIdeal.main_arg6))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hFfnDown : Cert.FfnDown.Facts) (hFfnDownIdeal : Cert.FfnDownIdeal.Facts) (hFfnDownRefIdeal : Cert.FfnDownRefIdeal.Facts) (hInEven : Cert.InEven.Facts) (hInEvenIdeal : Cert.InEvenIdeal.Facts) (hInEvenRefIdeal : Cert.InEvenRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hInOdd : Cert.InOdd.Facts) (hInOddIdeal : Cert.InOddIdeal.Facts) (hInOddRefIdeal : Cert.InOddRefIdeal.Facts) (hGates : Cert.Gates.Facts) (hGatesIdeal : Cert.GatesIdeal.Facts) (hGatesRefIdeal : Cert.GatesRefIdeal.Facts) (hInEvenS : Cert.InEvenS.Facts) (hInEvenSIdeal : Cert.InEvenSIdeal.Facts) (hInEvenSRefIdeal : Cert.InEvenSRefIdeal.Facts) (hFfnDownS : Cert.FfnDownS.Facts) (hFfnDownSIdeal : Cert.FfnDownSIdeal.Facts) (hFfnDownSRefIdeal : Cert.FfnDownSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_Gates (hGates := hGates)
    ∧ quiescent_GatesIdeal (hGatesIdeal := hGatesIdeal)
    ∧ quiescent_GatesRefIdeal (hGatesRefIdeal := hGatesRefIdeal)
    ∧ quiescent_InEvenS (hInEvenS := hInEvenS)
    ∧ quiescent_InEvenSIdeal (hInEvenSIdeal := hInEvenSIdeal)
    ∧ quiescent_InEvenSRefIdeal (hInEvenSRefIdeal := hInEvenSRefIdeal)
    ∧ quiescent_FfnDownS (hFfnDownS := hFfnDownS)
    ∧ quiescent_FfnDownSIdeal (hFfnDownSIdeal := hFfnDownSIdeal)
    ∧ quiescent_FfnDownSRefIdeal (hFfnDownSRefIdeal := hFfnDownSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluRefIdeal (hSwigluIdeal := hSwigluIdeal) (hSwigluRefIdeal := hSwigluRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InEven_InEvenIdeal
    ∧ algebraic_InEvenIdeal_InEvenRefIdeal (hInEvenIdeal := hInEvenIdeal) (hInEvenRefIdeal := hInEvenRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_InOdd_InOddIdeal
    ∧ algebraic_InOddIdeal_InOddRefIdeal (hInOddIdeal := hInOddIdeal) (hInOddRefIdeal := hInOddRefIdeal)
    ∧ preserves_Gates_GatesIdeal
    ∧ algebraic_GatesIdeal_GatesRefIdeal (hGatesIdeal := hGatesIdeal) (hGatesRefIdeal := hGatesRefIdeal)
    ∧ preserves_InEvenS_InEvenSIdeal
    ∧ algebraic_InEvenSIdeal_InEvenSRefIdeal (hInEvenSIdeal := hInEvenSIdeal) (hInEvenSRefIdeal := hInEvenSRefIdeal)
    ∧ preserves_FfnDownS_FfnDownSIdeal
    ∧ algebraic_FfnDownSIdeal_FfnDownSRefIdeal (hFfnDownSIdeal := hFfnDownSIdeal) (hFfnDownSRefIdeal := hFfnDownSRefIdeal)
-- ==== Pre_finite.lean ====
abbrev S4x2048x6144 : Shape := ⟨3, ![4, 2048, 6144]⟩
abbrev S4x2048x128 : Shape := ⟨3, ![4, 2048, 128]⟩
abbrev S_ : Shape := ⟨0, ![]⟩

class Facts : Prop where
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_

variable [Facts]

def fn {F : FTy → Type} [FloatOps F] (main_arg0 : FVec F S4x2048x6144 .f32) (main_arg1 : FVec F S4x2048x128 .f32) : IVec S_ 1 :=
  let main_v0 : FVec F S4x2048x6144 .f32 := Host.absf main_arg0
  let main_cst : FVec F S_ .f32 := constant S_ .f32 0x7F800000#32
  let main_v1 : FVec F S4x2048x6144 .f32 := broadcastInDim S4x2048x6144 ![] bcast_S_S4x2048x6144 main_cst
  let main_v2 : IVec S4x2048x6144 1 := cmpf .olt main_v0 main_v1
  let main_c : IVec S_ 1 := constantI S_ 1 1#1
  let main_v3 : IVec S_ 1 := (fun x v => Host.reduce IntOp.andi x v reducesTo_S4x2048x6144_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  main_v8
-- ==== Kernel.lean ====
abbrev S4x2048x6144 : Shape := ⟨3, ![4, 2048, 6144]⟩
abbrev S4x2048x128 : Shape := ⟨3, ![4, 2048, 128]⟩
abbrev S4x128x2048 : Shape := ⟨3, ![4, 128, 2048]⟩
abbrev S4x8x2048 : Shape := ⟨3, ![4, 8, 2048]⟩
abbrev S4x8x1x2048 : Shape := ⟨4, ![4, 8, 1, 2048]⟩
abbrev S4x2048x1024 : Shape := ⟨3, ![4, 2048, 1024]⟩
abbrev S1x512x128 : Shape := ⟨3, ![1, 512, 128]⟩
abbrev S1x1024x128 : Shape := ⟨3, ![1, 1024, 128]⟩
abbrev S1x1x1x512 : Shape := ⟨4, ![1, 1, 1, 512]⟩
abbrev S2x1x256 : Shape := ⟨3, ![2, 1, 256]⟩
abbrev S2x128x256 : Shape := ⟨3, ![2, 128, 256]⟩
abbrev S1024x128 : Shape := ⟨2, ![1024, 128]⟩
abbrev S128x1024 : Shape := ⟨2, ![128, 1024]⟩
abbrev S1024x256 : Shape := ⟨2, ![1024, 256]⟩
abbrev S1x1x1x1 : Shape := ⟨4, ![1, 1, 1, 1]⟩
abbrev S1x1 : Shape := ⟨2, ![1, 1]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩

abbrev nBuf : Space → Nat
  | .hbm => 6
  | .vmem => 15
  | .smem => 0
  | _ => 0

abbrev bufTy : (tb : Table) → Fin (tcTables nBuf tb) → BufTy
  | .hbm, ⟨0, _⟩ => ⟨S4x2048x6144, .f32⟩
  | .hbm, ⟨1, _⟩ => ⟨S4x2048x128, .f32⟩
  | .hbm, ⟨2, _⟩ => ⟨S4x128x2048, .f32⟩
  | .hbm, ⟨3, _⟩ => ⟨S4x8x2048, .f32⟩
  | .hbm, ⟨4, _⟩ => ⟨S4x8x1x2048, .f32⟩
  | .hbm, ⟨5, _⟩ => ⟨S4x2048x1024, .f32⟩
  | .local _ .vmem, ⟨0, _⟩ => ⟨S1x512x128, .f32⟩
  | .local _ .vmem, ⟨1, _⟩ => ⟨S1x512x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x128, .f32⟩
  | .local _ .vmem, ⟨9, _⟩ => ⟨S1x1024x128, .f32⟩
  | .local _ .vmem, ⟨10, _⟩ => ⟨S1x512x128, .f32⟩
  | .local _ .vmem, ⟨11, _⟩ => ⟨S1x512x128, .f32⟩
  | .local _ .vmem, ⟨12, _⟩ => ⟨S2x1x256, .f32⟩
  | .local _ .vmem, ⟨13, _⟩ => ⟨S2x1x256, .f32⟩
  | .local _ .vmem, ⟨14, _⟩ => ⟨S2x128x256, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 8, 4, 2], ![false, false, false, false]⟩

def k0_cond3 (i : grid0.Coords) : BitVec 1 :=
  let arg3 : BitVec 32 := BitVec.ofNat 32 (i 3).val
  let c1_i32_5 : BitVec 32 := 1#32
  let v12 : BitVec 1 := Scalar.cmpi .eq arg3 c1_i32_5
  let v13 : BitVec 32 := Scalar.extui v12
  let c0_i32_6 : BitVec 32 := 0#32
  let v14 : BitVec 1 := Scalar.cmpi .ne v13 c0_i32_6
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c20_i32 : BitVec 32 := 20#32
  let v0 : BitVec 32 := Scalar.addi c20_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c512_i32 : BitVec 32 := 512#32
  let v0 : BitVec 32 := Scalar.muli arg2 c512_i32
  let c512_i32_0 : BitVec 32 := 512#32
  let v1 : BitVec 32 := Scalar.addi v0 c512_i32_0
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 32 := Scalar.addi c0_i32 arg3
  let v5 : BitVec 32 := Scalar.minsi v4 v3
  let c28_i32 : BitVec 32 := 28#32
  let v6 : BitVec 32 := Scalar.addi c28_i32 arg1
  let c0_i32_1 : BitVec 32 := 0#32
  ![arg0.toNat, v5.toNat, v6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c512_i32 : BitVec 32 := 512#32
  let v0 : BitVec 32 := Scalar.muli arg2 c512_i32
  let c512_i32_0 : BitVec 32 := 512#32
  let v1 : BitVec 32 := Scalar.addi v0 c512_i32_0
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 32 := Scalar.addi c0_i32 arg3
  let v5 : BitVec 32 := Scalar.minsi v4 v3
  let c36_i32 : BitVec 32 := 36#32
  let v6 : BitVec 32 := Scalar.addi c36_i32 arg1
  let c0_i32_1 : BitVec 32 := 0#32
  ![arg0.toNat, v5.toNat, v6.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c512_i32 : BitVec 32 := 512#32
  let v0 : BitVec 32 := Scalar.muli arg2 c512_i32
  let c512_i32_0 : BitVec 32 := 512#32
  let v1 : BitVec 32 := Scalar.addi v0 c512_i32_0
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 32 := Scalar.addi c0_i32 arg3
  let v5 : BitVec 32 := Scalar.minsi v4 v3
  let c0_i32_1 : BitVec 32 := 0#32
  let v6 : BitVec 32 := Scalar.addi c0_i32_1 arg1
  let c0_i32_2 : BitVec 32 := 0#32
  let c0_i32_3 : BitVec 32 := 0#32
  ![arg0.toNat, v5.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "log2e" => some (((Real.log 2)⁻¹ : ℝ) : EReal)
  | "mask" => some ⊥
  | "qscale" => some (((Real.sqrt 128)⁻¹ * (Real.log 2)⁻¹ : ℝ) : EReal)
  | _ => none
-- ==== ReferenceIdeal.lean ====
abbrev S4x2048x6144 : Shape := ⟨3, ![4, 2048, 6144]⟩
abbrev S4x2048x128 : Shape := ⟨3, ![4, 2048, 128]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S4x2048x128, .f32⟩
  | .hbm, ⟨2, _⟩ => ⟨S4x2048x1024, .f32⟩
  | .hbm, ⟨3, _⟩ => ⟨S4x2048x8x128, .f32⟩
  | .hbm, ⟨4, _⟩ => ⟨S4x2048x1024, .f32⟩
  | .hbm, ⟨5, _⟩ => ⟨S4x2048x8x128, .f32⟩
  | .hbm, ⟨6, _⟩ => ⟨S4x2048x1024, .f32⟩
  | .hbm, ⟨7, _⟩ => ⟨S4x2048x8x128, .f32⟩
  | .hbm, ⟨8, _⟩ => ⟨S4x2048x8, .f32⟩
  | .hbm, ⟨9, _⟩ => ⟨S4x8x2048x2048, .f32⟩
  | .hbm, ⟨10, _⟩ => ⟨S_, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S4x8x2048, .f32⟩
  | .hbm, ⟨15, _⟩ => ⟨S4x8x2048x1, .f32⟩
  | .hbm, ⟨16, _⟩ => ⟨S4x8x2048x2048, .f32⟩
  | .hbm, ⟨17, _⟩ => ⟨S4x8x2048x2048, .f32⟩
  | .hbm, ⟨18, _⟩ => ⟨S4x8x2048, .f32⟩
  | .hbm, ⟨19, _⟩ => ⟨S4x8x1x2048, .f32⟩
  | .hbm, ⟨20, _⟩ => ⟨S4x8x2048x2048, .f32⟩
  | .hbm, ⟨21, _⟩ => ⟨S4x8x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048x1, .f32⟩
  | .hbm, ⟨37, _⟩ => ⟨S_, .f32⟩
  | .hbm, ⟨38, _⟩ => ⟨S4x8x2048x1, .f32⟩
  | .hbm, ⟨39, _⟩ => ⟨S4x8x2048x1, .i1⟩
  | .hbm, ⟨40, _⟩ => ⟨S_, .f32⟩
  | .hbm, ⟨41, _⟩ => ⟨S_, .f32⟩
  | .hbm, ⟨42, _⟩ => ⟨S4x8x2048x1, .f32⟩
  | .hbm, ⟨43, _⟩ => ⟨S4x8x2048x1, .f32⟩
  | .hbm, ⟨44, _⟩ => ⟨S4x8x2048x2048, .f32⟩
  | .hbm, ⟨45, _⟩ => ⟨S4x8x2048x2048, .f32⟩
  | .hbm, ⟨46, _⟩ => ⟨S4x8x2048x2048, .f32⟩
  | .hbm, ⟨47, _⟩ => ⟨S_, .f32⟩
  | .hbm, ⟨48, _⟩ => ⟨S4x8x2048, .f32⟩
  | .hbm, ⟨49, _⟩ => ⟨S4x8x2048x1, .f32⟩
  | .hbm, ⟨50, _⟩ => ⟨S_, .f32⟩
  | .hbm, ⟨51, _⟩ => ⟨S4x8x2048x1, .f32⟩
  | .hbm, ⟨52, _⟩ => ⟨S4x8x2048x1, .f32⟩
  | .hbm, ⟨53, _⟩ => ⟨S4x8x2048x2048, .f32⟩
  | .hbm, ⟨54, _⟩ => ⟨S4x8x2048x2048, .f32⟩
  | .hbm, ⟨55, _⟩ => ⟨S4x8x128x2048, .f32⟩
  | .hbm, ⟨56, _⟩ => ⟨S4x2048x8x128, .f32⟩
  | .hbm, ⟨57, _⟩ => ⟨S4x2048x1024, .f32⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Swiglu.lean ====
abbrev S8192x2048 : Shape := ⟨2, ![8192, 2048]⟩
abbrev S2x5x2048 : Shape := ⟨3, ![2, 5, 2048]⟩
abbrev S2x2048x11264 : Shape := ⟨3, ![2, 2048, 11264]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x5x2048, .f32⟩
  | .hbm, ⟨2, _⟩ => ⟨S2x2048x11264, .f32⟩
  | .hbm, ⟨3, _⟩ => ⟨S1x5x2048, .f32⟩
  | .hbm, ⟨4, _⟩ => ⟨S5x2048, .f32⟩
  | .hbm, ⟨5, _⟩ => ⟨S1x2048, .f32⟩
  | .hbm, ⟨6, _⟩ => ⟨S2048, .f32⟩
  | .hbm, ⟨7, _⟩ => ⟨S2x2048x11264, .bf16⟩
  | .hbm, ⟨8, _⟩ => ⟨S1x2048, .f32⟩
  | .hbm, ⟨9, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluRefIdeal.lean ====
abbrev S8192x2048 : Shape := ⟨2, ![8192, 2048]⟩
abbrev S2x5x2048 : Shape := ⟨3, ![2, 5, 2048]⟩
abbrev S2x2048x11264 : Shape := ⟨3, ![2, 2048, 11264]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x5x2048, .f32⟩
  | .hbm, ⟨2, _⟩ => ⟨S2x2048x11264, .f32⟩
  | .hbm, ⟨3, _⟩ => ⟨S1x5x2048, .f32⟩
  | .hbm, ⟨4, _⟩ => ⟨S5x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x11264, .f32⟩
  | .hbm, ⟨24, _⟩ => ⟨S2048x11264, .f32⟩
  | .hbm, ⟨25, _⟩ => ⟨S8192x11264, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FfnDown.lean ====
abbrev S8192x5632 : Shape := ⟨2, ![8192, 5632]⟩
abbrev S8192x2048 : Shape := ⟨2, ![8192, 2048]⟩
abbrev S2x4x2048x256 : Shape := ⟨4, ![2, 4, 2048, 256]⟩
abbrev S2x5x2048 : Shape := ⟨3, ![2, 5, 2048]⟩
abbrev S2x5632x2048 : Shape := ⟨3, ![2, 5632, 2048]⟩
abbrev S2x256x2048 : Shape := ⟨3, ![2, 256, 2048]⟩
abbrev S2x2048x2048 : Shape := ⟨3, ![2, 2048, 2048]⟩
abbrev S1x5x2048 : Shape := ⟨3, ![1, 5, 2048]⟩
abbrev S5x2048 : Shape := ⟨2, ![5, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S1x4x2048x256 : Shape := ⟨4, ![1, 4, 2048, 256]⟩
abbrev S4x2048x256 : Shape := ⟨3, ![4, 2048, 256]⟩
abbrev S8192x256 : Shape := ⟨2, ![8192, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S256x5632 : Shape := ⟨2, ![256, 5632]⟩
abbrev S256x256 : Shape := ⟨2, ![256, 256]⟩
abbrev S256 : Shape := ⟨1, ![256]⟩
abbrev S256x1 : Shape := ⟨2, ![256, 1]⟩

abbrev nBuf : Space → Nat
  | .hbm => 28
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S2x4x2048x256, .f32⟩
  | .hbm, ⟨3, _⟩ => ⟨S2x5x2048, .f32⟩
  | .hbm, ⟨4, _⟩ => ⟨S2x5632x2048, .f32⟩
  | .hbm, ⟨5, _⟩ => ⟨S2x256x2048, .f32⟩
  | .hbm, ⟨6, _⟩ => ⟨S2x2048x2048, .f32⟩
  | .hbm, ⟨7, _⟩ => ⟨S1x5x2048, .f32⟩
  | .hbm, ⟨8, _⟩ => ⟨S5x2048, .f32⟩
  | .hbm, ⟨9, _⟩ => ⟨S1x5632x2048, .f32⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S2048, .f32⟩
  | .hbm, ⟨14, _⟩ => ⟨S1x4x2048x256, .f32⟩
  | .hbm, ⟨15, _⟩ => ⟨S4x2048x256, .f32⟩
  | .hbm, ⟨16, _⟩ => ⟨S8192x256, .f32⟩
  | .hbm, ⟨17, _⟩ => ⟨S1x256x2048, .f32⟩
  | .hbm, ⟨18, _⟩ => ⟨S256x2048, .f32⟩
  | .hbm, ⟨19, _⟩ => ⟨S256x2048, .bf16⟩
  | .hbm, ⟨20, _⟩ => ⟨S1x2048x2048, .f32⟩
  | .hbm, ⟨21, _⟩ => ⟨S2048x2048, .f32⟩
  | .hbm, ⟨22, _⟩ => ⟨S2048x2048, .bf16⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S1x2048, .f32⟩
  | .hbm, ⟨27, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x256, .f32⟩
  | .local _ .vmem, ⟨7, _⟩ => ⟨S256x256, .f32⟩
  | .local _ .vmem, ⟨8, _⟩ => ⟨S256x2048, .bf16⟩
  | .local _ .vmem, ⟨9, _⟩ => ⟨S2048x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownRefIdeal.lean ====
abbrev S8192x5632 : Shape := ⟨2, ![8192, 5632]⟩
abbrev S8192x2048 : Shape := ⟨2, ![8192, 2048]⟩
abbrev S2x4x2048x256 : Shape := ⟨4, ![2, 4, 2048, 256]⟩
abbrev S2x5x2048 : Shape := ⟨3, ![2, 5, 2048]⟩
abbrev S2x5632x2048 : Shape := ⟨3, ![2, 5632, 2048]⟩
abbrev S2x256x2048 : Shape := ⟨3, ![2, 256, 2048]⟩
abbrev S2x2048x2048 : Shape := ⟨3, ![2, 2048, 2048]⟩
abbrev S1x4x2048x256 : Shape := ⟨4, ![1, 4, 2048, 256]⟩
abbrev S4x2048x256 : Shape := ⟨3, ![4, 2048, 256]⟩
abbrev S8192x256 : Shape := ⟨2, ![8192, 256]⟩
abbrev S1x5x2048 : Shape := ⟨3, ![1, 5, 2048]⟩
abbrev S5x2048 : Shape := ⟨2, ![5, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 69
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S2x4x2048x256, .f32⟩
  | .hbm, ⟨3, _⟩ => ⟨S2x5x2048, .f32⟩
  | .hbm, ⟨4, _⟩ => ⟨S2x5632x2048, .f32⟩
  | .hbm, ⟨5, _⟩ => ⟨S2x256x2048, .f32⟩
  | .hbm, ⟨6, _⟩ => ⟨S2x2048x2048, .f32⟩
  | .hbm, ⟨7, _⟩ => ⟨S1x4x2048x256, .f32⟩
  | .hbm, ⟨8, _⟩ => ⟨S4x2048x256, .f32⟩
  | .hbm, ⟨9, _⟩ => ⟨S8192x256, .f32⟩
  | .hbm, ⟨10, _⟩ => ⟨S1x5x2048, .f32⟩
  | .hbm, ⟨11, _⟩ => ⟨S5x2048, .f32⟩
  | .hbm, ⟨12, _⟩ => ⟨S8192x5632, .f32⟩
  | .hbm, ⟨13, _⟩ => ⟨S1x5632x2048, .f32⟩
  | .hbm, ⟨14, _⟩ => ⟨S5632x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S1x256x2048, .f32⟩
  | .hbm, ⟨36, _⟩ => ⟨S256x2048, .f32⟩
  | .hbm, ⟨37, _⟩ => ⟨S8192x2048, .f32⟩
  | .hbm, ⟨38, _⟩ => ⟨S1x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S1x2048x2048, .f32⟩
  | .hbm, ⟨57, _⟩ => ⟨S2048x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== InEven.lean ====
abbrev S4x2048x2048 : Shape := ⟨3, ![4, 2048, 2048]⟩
abbrev S2x5x2048 : Shape := ⟨3, ![2, 5, 2048]⟩
abbrev S1x2048x5664 : Shape := ⟨3, ![1, 2048, 5664]⟩
abbrev S8192x2048 : Shape := ⟨2, ![8192, 2048]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S2048x5664 : Shape := ⟨2, ![2048, 5664]⟩
abbrev S2048x2560 : Shape := ⟨2, ![2048, 2560]⟩
abbrev S2048x3072 : Shape := ⟨2, ![2048, 3072]⟩
abbrev S2048x24 : Shape := ⟨2, ![2048, 24]⟩
abbrev S2048x8 : Shape := ⟨2, ![2048, 8]⟩
abbrev S_ : Shape := ⟨0, ![]⟩
abbrev S2048x480 : Shape := ⟨2, ![2048, 480]⟩
abbrev S2048x6144 : Shape := ⟨2, ![2048, 6144]⟩
abbrev S8192x6144 : Shape := ⟨2, ![8192, 6144]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S4x2048x6144 : Shape := ⟨3, ![4, 2048, 6144]⟩
abbrev S4x2048x1024 : Shape := ⟨3, ![4, 2048, 1024]⟩
abbrev S4x2048x4x2x128 : Shape := ⟨5, ![4, 2048, 4, 2, 128]⟩
abbrev S4x2048x2x8x128 : Shape := ⟨5, ![4, 2048, 2, 8, 128]⟩
abbrev S4x512x512 : Shape := ⟨3, ![4, 512, 512]⟩
abbrev S4x512x2x2x128 : Shape := ⟨5, ![4, 512, 2, 2, 128]⟩
abbrev S4x2048x512 : Shape := ⟨3, ![4, 2048, 512]⟩
abbrev S4x2048x24 : Shape := ⟨3, ![4, 2048, 24]⟩
abbrev S4x2048x8 : Shape := ⟨3, ![4, 2048, 8]⟩

abbrev nBuf : Space → Nat
  | .hbm => 31
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2x5x2048, .f32⟩
  | .hbm, ⟨2, _⟩ => ⟨S1x2048x5664, .f32⟩
  | .hbm, ⟨3, _⟩ => ⟨S8192x2048, .f32⟩
  | .hbm, ⟨4, _⟩ => ⟨S1x5x2048, .f32⟩
  | .hbm, ⟨5, _⟩ => ⟨S5x2048, .f32⟩
  | .hbm, ⟨6, _⟩ => ⟨S1x2048, .f32⟩
  | .hbm, ⟨7, _⟩ => ⟨S2048, .f32⟩
  | .hbm, ⟨8, _⟩ => ⟨S2048x5664, .f32⟩
  | .hbm, ⟨9, _⟩ => ⟨S2048x2560, .f32⟩
  | .hbm, ⟨10, _⟩ => ⟨S2048x3072, .f32⟩
  | .hbm, ⟨11, _⟩ => ⟨S2048x24, .f32⟩
  | .hbm, ⟨12, _⟩ => ⟨S2048x8, .f32⟩
  | .hbm, ⟨13, _⟩ => ⟨S_, .f32⟩
  | .hbm, ⟨14, _⟩ => ⟨S2048x480, .f32⟩
  | .hbm, ⟨15, _⟩ => ⟨S2048x6144, .f32⟩
  | .hbm, ⟨16, _⟩ => ⟨S2048x6144, .bf16⟩
  | .hbm, ⟨17, _⟩ => ⟨S1x2048, .f32⟩
  | .hbm, ⟨18, _⟩ => ⟨S8192x6144, .f32⟩
  | .hbm, ⟨19, _⟩ => ⟨S4x2048x6144, .f32⟩
  | .hbm, ⟨20, _⟩ => ⟨S4x2048x1024, .f32⟩
  | .hbm, ⟨21, _⟩ => ⟨S4x2048x4x2x128, .f32⟩
  | .hbm, ⟨22, _⟩ => ⟨S4x2048x2048, .f32⟩
  | .hbm, ⟨23, _⟩ => ⟨S4x2048x2x8x128, .f32⟩
  | .hbm, ⟨24, _⟩ => ⟨S4x512x512, .f32⟩
  | .hbm, ⟨25, _⟩ => ⟨S4x512x2x2x128, .f32⟩
  | .hbm, ⟨26, _⟩ => ⟨S4x2048x1024, .f32⟩
  | .hbm, ⟨27, _⟩ => ⟨S4x2048x512, .f32⟩
  | .hbm, ⟨28, _⟩ => ⟨S4x2048x1024, .f32⟩
  | .hbm, ⟨29, _⟩ => ⟨S4x2048x24, .f32⟩
  | .hbm, ⟨30, _⟩ => ⟨S4x2048x8, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InEvenRefIdeal.lean ====
abbrev S4x2048x2048 : Shape := ⟨3, ![4, 2048, 2048]⟩
abbrev S2x5x2048 : Shape := ⟨3, ![2, 5, 2048]⟩
abbrev S1x2048x5664 : Shape := ⟨3, ![1, 2048, 5664]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x5664 : Shape := ⟨2, ![2048, 5664]⟩
abbrev S4x2048x5664 : Shape := ⟨3, ![4, 2048, 5664]⟩
abbrev S4x2048x1024 : Shape := ⟨3, ![4, 2048, 1024]⟩
abbrev S4x2048x1536 : Shape := ⟨3, ![4, 2048, 1536]⟩
abbrev S4x2048x24 : Shape := ⟨3, ![4, 2048, 24]⟩
abbrev S4x2048x8 : Shape := ⟨3, ![4, 2048, 8]⟩
abbrev S4x2048x6x2x128 : Shape := ⟨5, ![4, 2048, 6, 2, 128]⟩
abbrev S4x2048x8x128 : Shape := ⟨4, ![4, 2048, 8, 128]⟩
abbrev S4x2048x4x2x128 : Shape := ⟨5, ![4, 2048, 4, 2, 128]⟩
abbrev S4x2048x1x8x128 : Shape := ⟨5, ![4, 2048, 1, 8, 128]⟩
abbrev S4x2048x2x8x128 : Shape := ⟨5, ![4, 2048, 2, 8, 128]⟩
abbrev S4x512x2x2x128 : Shape := ⟨5, ![4, 512, 2, 2, 128]⟩
abbrev S4x2048x512 : Shape := ⟨3, ![4, 2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x5x2048, .f32⟩
  | .hbm, ⟨2, _⟩ => ⟨S1x2048x5664, .f32⟩
  | .hbm, ⟨3, _⟩ => ⟨S1x5x2048, .f32⟩
  | .hbm, ⟨4, _⟩ => ⟨S5x2048, .f32⟩
  | .hbm, ⟨5, _⟩ => ⟨S1x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S2048x5664, .f32⟩
  | .hbm, ⟨24, _⟩ => ⟨S4x2048x5664, .f32⟩
  | .hbm, ⟨25, _⟩ => ⟨S4x2048x1024, .f32⟩
  | .hbm, ⟨26, _⟩ => ⟨S4x2048x1536, .f32⟩
  | .hbm, ⟨27, _⟩ => ⟨S4x2048x24, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x8, .f32⟩
  | .hbm, ⟨32, _⟩ => ⟨S4x2048x6x2x128, .f32⟩
  | .hbm, ⟨33, _⟩ => ⟨S4x2048x8x128, .f32⟩
  | .hbm, ⟨34, _⟩ => ⟨S4x2048x8x128, .f32⟩
  | .hbm, ⟨35, _⟩ => ⟨S4x2048x4x2x128, .f32⟩
  | .hbm, ⟨36, _⟩ => ⟨S4x2048x1x8x128, .f32⟩
  | .hbm, ⟨37, _⟩ => ⟨S4x2048x1x8x128, .f32⟩
  | .hbm, ⟨38, _⟩ => ⟨S4x2048x2x8x128, .f32⟩
  | .hbm, ⟨39, _⟩ => ⟨S4x512x2x2x128, .f32⟩
  | .hbm, ⟨40, _⟩ => ⟨S4x2048x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== OutEven.lean ====
abbrev S8192x1024 : Shape := ⟨2, ![8192, 1024]⟩
abbrev S8192x2048 : Shape := ⟨2, ![8192, 2048]⟩
abbrev S2x5x2048 : Shape := ⟨3, ![2, 5, 2048]⟩
abbrev S1x2048x2048 : Shape := ⟨3, ![1, 2048, 2048]⟩
abbrev S2048x2048 : Shape := ⟨2, ![2048, 2048]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S2x5x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S1x5x2048, .f32⟩
  | .hbm, ⟨8, _⟩ => ⟨S5x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenRefIdeal.lean ====
abbrev S8192x1024 : Shape := ⟨2, ![8192, 1024]⟩
abbrev S8192x2048 : Shape := ⟨2, ![8192, 2048]⟩
abbrev S2x5x2048 : Shape := ⟨3, ![2, 5, 2048]⟩
abbrev S1x2048x2048 : Shape := ⟨3, ![1, 2048, 2048]⟩
abbrev S2048x2048 : Shape := ⟨2, ![2048, 2048]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S2x5x2048, .f32⟩
  | .hbm, ⟨4, _⟩ => ⟨S1x2048x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S1x5x2048, .f32⟩
  | .hbm, ⟨9, _⟩ => ⟨S5x2048, .f32⟩
  | .hbm, ⟨10, _⟩ => ⟨S1x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== OutOdd.lean ====
abbrev S8192x2048 : Shape := ⟨2, ![8192, 2048]⟩
abbrev S2x5x2048 : Shape := ⟨3, ![2, 5, 2048]⟩
abbrev S1x2048x2048 : Shape := ⟨3, ![1, 2048, 2048]⟩
abbrev S2048x2048 : Shape := ⟨2, ![2048, 2048]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x5x2048, .f32⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S1x5x2048, .f32⟩
  | .hbm, ⟨7, _⟩ => ⟨S5x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutOddRefIdeal.lean ====
abbrev S8192x2048 : Shape := ⟨2, ![8192, 2048]⟩
abbrev S2x5x2048 : Shape := ⟨3, ![2, 5, 2048]⟩
abbrev S1x2048x2048 : Shape := ⟨3, ![1, 2048, 2048]⟩
abbrev S2048x2048 : Shape := ⟨2, ![2048, 2048]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x5x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | .hbm, ⟨6, _⟩ => ⟨S1x5x2048, .f32⟩
  | .hbm, ⟨7, _⟩ => ⟨S5x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InOdd.lean ====
abbrev S8192x2048 : Shape := ⟨2, ![8192, 2048]⟩
abbrev S2x5x2048 : Shape := ⟨3, ![2, 5, 2048]⟩
abbrev S1x2048x2560 : Shape := ⟨3, ![1, 2048, 2560]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S2048x2560 : Shape := ⟨2, ![2048, 2560]⟩
abbrev S2048x256 : Shape := ⟨2, ![2048, 256]⟩
abbrev S2048x4x64 : Shape := ⟨3, ![2048, 4, 64]⟩
abbrev S2048x2048 : Shape := ⟨2, ![2048, 2048]⟩
abbrev S2048x4x128 : Shape := ⟨3, ![2048, 4, 128]⟩
abbrev S2048x512 : Shape := ⟨2, ![2048, 512]⟩
abbrev S2048x3072 : Shape := ⟨2, ![2048, 3072]⟩
abbrev S8192x3072 : Shape := ⟨2, ![8192, 3072]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S4x2048x3072 : Shape := ⟨3, ![4, 2048, 3072]⟩
abbrev S4x128x1024 : Shape := ⟨3, ![4, 128, 1024]⟩
abbrev S4x128x2x4x2x64 : Shape := ⟨6, ![4, 128, 2, 4, 2, 64]⟩
abbrev S4x128x2x4x1x64 : Shape := ⟨6, ![4, 128, 2, 4, 1, 64]⟩
abbrev S4x128x2x4x64 : Shape := ⟨5, ![4, 128, 2, 4, 64]⟩
abbrev S4x2048x2048 : Shape := ⟨3, ![4, 2048, 2048]⟩
abbrev S4x2048x1024 : Shape := ⟨3, ![4, 2048, 1024]⟩
abbrev S4x2048x2x4x2x64 : Shape := ⟨6, ![4, 2048, 2, 4, 2, 64]⟩
abbrev S4x2048x2x4x1x64 : Shape := ⟨6, ![4, 2048, 2, 4, 1, 64]⟩
abbrev S4x2048x2x4x64 : Shape := ⟨5, ![4, 2048, 2, 4, 64]⟩

abbrev nBuf : Space → Nat
  | .hbm => 35
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x5x2048, .f32⟩
  | .hbm, ⟨2, _⟩ => ⟨S1x2048x2560, .f32⟩
  | .hbm, ⟨3, _⟩ => ⟨S1x5x2048, .f32⟩
  | .hbm, ⟨4, _⟩ => ⟨S5x2048, .f32⟩
  | .hbm, ⟨5, _⟩ => ⟨S1x2048, .f32⟩
  | .hbm, ⟨6, _⟩ => ⟨S2048, .f32⟩
  | .hbm, ⟨7, _⟩ => ⟨S2048x2560, .f32⟩
  | .hbm, ⟨8, _⟩ => ⟨S2048x256, .f32⟩
  | .hbm, ⟨9, _⟩ => ⟨S2048x4x64, .f32⟩
  | .hbm, ⟨10, _⟩ => ⟨S2048x256, .f32⟩
  | .hbm, ⟨11, _⟩ => ⟨S2048x4x64, .f32⟩
  | .hbm, ⟨12, _⟩ => ⟨S2048x2048, .f32⟩
  | .hbm, ⟨13, _⟩ => ⟨S2048x4x128, .f32⟩
  | .hbm, ⟨14, _⟩ => ⟨S2048x512, .f32⟩
  | .hbm, ⟨15, _⟩ => ⟨S2048x4x128, .f32⟩
  | .hbm, ⟨16, _⟩ => ⟨S2048x512, .f32⟩
  | .hbm, ⟨17, _⟩ => ⟨S2048x3072, .f32⟩
  | .hbm, ⟨18, _⟩ => ⟨S2048x3072, .bf16⟩
  | .hbm, ⟨19, _⟩ => ⟨S1x2048, .f32⟩
  | .hbm, ⟨20, _⟩ => ⟨S8192x3072, .f32⟩
  | .hbm, ⟨21, _⟩ => ⟨S4x2048x3072, .f32⟩
  | .hbm, ⟨22, _⟩ => ⟨S4x128x1024, .f32⟩
  | .hbm, ⟨23, _⟩ => ⟨S4x128x2x4x2x64, .f32⟩
  | .hbm, ⟨24, _⟩ => ⟨S4x128x2x4x1x64, .f32⟩
  | .hbm, ⟨25, _⟩ => ⟨S4x128x2x4x64, .f32⟩
  | .hbm, ⟨26, _⟩ => ⟨S4x2048x2048, .f32⟩
  | .hbm, ⟨27, _⟩ => ⟨S4x2048x1024, .f32⟩
  | .hbm, ⟨28, _⟩ => ⟨S4x2048x2x4x2x64, .f32⟩
  | .hbm, ⟨29, _⟩ => ⟨S4x2048x2x4x1x64, .f32⟩
  | .hbm, ⟨30, _⟩ => ⟨S4x2048x2x4x64, .f32⟩
  | .hbm, ⟨31, _⟩ => ⟨S4x2048x1024, .f32⟩
  | .hbm, ⟨32, _⟩ => ⟨S4x2048x2x4x2x64, .f32⟩
  | .hbm, ⟨33, _⟩ => ⟨S4x2048x2x4x1x64, .f32⟩
  | .hbm, ⟨34, _⟩ => ⟨S4x2048x2x4x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InOddRefIdeal.lean ====
abbrev S8192x2048 : Shape := ⟨2, ![8192, 2048]⟩
abbrev S2x5x2048 : Shape := ⟨3, ![2, 5, 2048]⟩
abbrev S1x2048x2560 : Shape := ⟨3, ![1, 2048, 2560]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x2560 : Shape := ⟨2, ![2048, 2560]⟩
abbrev S8192x2560 : Shape := ⟨2, ![8192, 2560]⟩
abbrev S4x2048x2560 : Shape := ⟨3, ![4, 2048, 2560]⟩
abbrev S4x2048x2048 : Shape := ⟨3, ![4, 2048, 2048]⟩
abbrev S4x2048x256 : Shape := ⟨3, ![4, 2048, 256]⟩
abbrev S4x2048x4x64 : Shape := ⟨4, ![4, 2048, 4, 64]⟩
abbrev S4x2048x1x4x64 : Shape := ⟨5, ![4, 2048, 1, 4, 64]⟩
abbrev S4x2048x2x4x64 : Shape := ⟨5, ![4, 2048, 2, 4, 64]⟩
abbrev S4x128x4x64 : Shape := ⟨4, ![4, 128, 4, 64]⟩
abbrev S4x128x1x4x64 : Shape := ⟨5, ![4, 128, 1, 4, 64]⟩
abbrev S4x128x2x4x64 : Shape := ⟨5, ![4, 128, 2, 4, 64]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x5x2048, .f32⟩
  | .hbm, ⟨2, _⟩ => ⟨S1x2048x2560, .f32⟩
  | .hbm, ⟨3, _⟩ => ⟨S1x5x2048, .f32⟩
  | .hbm, ⟨4, _⟩ => ⟨S5x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x2560, .f32⟩
  | .hbm, ⟨24, _⟩ => ⟨S8192x2560, .f32⟩
  | .hbm, ⟨25, _⟩ => ⟨S4x2048x2560, .f32⟩
  | .hbm, ⟨26, _⟩ => ⟨S4x2048x2048, .f32⟩
  | .hbm, ⟨27, _⟩ => ⟨S4x2048x256, .f32⟩
  | .hbm, ⟨28, _⟩ => ⟨S4x2048x256, .f32⟩
  | .hbm, ⟨29, _⟩ => ⟨S4x2048x4x64, .f32⟩
  | .hbm, ⟨30, _⟩ => ⟨S4x2048x4x64, .f32⟩
  | .hbm, ⟨31, _⟩ => ⟨S4x2048x1x4x64, .f32⟩
  | .hbm, ⟨32, _⟩ => ⟨S4x2048x1x4x64, .f32⟩
  | .hbm, ⟨33, _⟩ => ⟨S4x2048x2x4x64, .f32⟩
  | .hbm, ⟨34, _⟩ => ⟨S4x128x4x64, .f32⟩
  | .hbm, ⟨35, _⟩ => ⟨S4x128x4x64, .f32⟩
  | .hbm, ⟨36, _⟩ => ⟨S4x128x1x4x64, .f32⟩
  | .hbm, ⟨37, _⟩ => ⟨S4x128x1x4x64, .f32⟩
  | .hbm, ⟨38, _⟩ => ⟨S4x128x2x4x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Gates.lean ====
abbrev S4x2048x6144 : Shape := ⟨3, ![4, 2048, 6144]⟩
abbrev S1x8 : Shape := ⟨2, ![1, 8]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S4x2048x128 : Shape := ⟨3, ![4, 2048, 128]⟩
abbrev S4x128x2048 : Shape := ⟨3, ![4, 128, 2048]⟩
abbrev S1x2048x128 : Shape := ⟨3, ![1, 2048, 128]⟩
abbrev S1x128x2048 : Shape := ⟨3, ![1, 128, 2048]⟩
abbrev S2048x128 : Shape := ⟨2, ![2048, 128]⟩
abbrev S256x256 : Shape := ⟨2, ![256, 256]⟩
abbrev S256x128 : Shape := ⟨2, ![256, 128]⟩
abbrev S1x256x128 : Shape := ⟨3, ![1, 256, 128]⟩
abbrev S128x2048 : Shape := ⟨2, ![128, 2048]⟩
abbrev S4x2048x8 : Shape := ⟨3, ![4, 2048, 8]⟩

abbrev nBuf : Space → Nat
  | .hbm => 16
  | .vmem => 9
  | .smem => 0
  | _ => 0

abbrev bufTy : (tb : Table) → Fin (tcTables nBuf tb) → BufTy
  | .hbm, ⟨0, _⟩ => ⟨S4x2048x6144, .f32⟩
  | .hbm, ⟨1, _⟩ => ⟨S1x8, .f32⟩
  | .hbm, ⟨2, _⟩ => ⟨S8, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S4x2048x128, .f32⟩
  | .hbm, ⟨12, _⟩ => ⟨S4x2048x128, .f32⟩
  | .hbm, ⟨13, _⟩ => ⟨S4x128x2048, .f32⟩
  | .hbm, ⟨14, _⟩ => ⟨S4x2048x8, .f32⟩
  | .hbm, ⟨15, _⟩ => ⟨S4x2048x8, .f32⟩
  | .local _ .vmem, ⟨0, _⟩ => ⟨S1x2048x128, .f32⟩
  | .local _ .vmem, ⟨1, _⟩ => ⟨S1x2048x128, .f32⟩
  | .local _ .vmem, ⟨2, _⟩ => ⟨S1x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x128x2048, .f32⟩
  | .local _ .vmem, ⟨8, _⟩ => ⟨S1x128x2048, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c44_i32 : BitVec 32 := 44#32
  let c0_i32_0 : BitVec 32 := 0#32
  ![arg0.toNat, c0_i32.toNat, c44_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesRefIdeal.lean ====
abbrev S4x2048x6144 : Shape := ⟨3, ![4, 2048, 6144]⟩
abbrev S1x8 : Shape := ⟨2, ![1, 8]⟩
abbrev S4x2048x8 : Shape := ⟨3, ![4, 2048, 8]⟩
abbrev S8 : Shape := ⟨1, ![8]⟩
abbrev S1x1x8 : Shape := ⟨3, ![1, 1, 8]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S1x8, .f32⟩
  | .hbm, ⟨2, _⟩ => ⟨S4x2048x8, .f32⟩
  | .hbm, ⟨3, _⟩ => ⟨S8, .f32⟩
  | .hbm, ⟨4, _⟩ => ⟨S1x1x8, .f32⟩
  | .hbm, ⟨5, _⟩ => ⟨S4x2048x8, .f32⟩
  | .hbm, ⟨6, _⟩ => ⟨S4x2048x8, .f32⟩
  | .hbm, ⟨7, _⟩ => ⟨S4x2048x8, .f32⟩
  | .hbm, ⟨8, _⟩ => ⟨S_, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S4x2048x8, .f32⟩
  | .hbm, ⟨13, _⟩ => ⟨S4x2048x8, .i1⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S4x2048x8, .f32⟩
  | .hbm, ⟨23, _⟩ => ⟨S_, .f32⟩
  | .hbm, ⟨24, _⟩ => ⟨S_, .f32⟩
  | .hbm, ⟨25, _⟩ => ⟨S4x2048x8, .f32⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== InEvenS.lean ====
abbrev S32x1x2048 : Shape := ⟨3, ![32, 1, 2048]⟩
abbrev S2x5x2048 : Shape := ⟨3, ![2, 5, 2048]⟩
abbrev S1x2048x5664 : Shape := ⟨3, ![1, 2048, 5664]⟩
abbrev S32x2048 : Shape := ⟨2, ![32, 2048]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S2048x5664 : Shape := ⟨2, ![2048, 5664]⟩
abbrev S2048x2560 : Shape := ⟨2, ![2048, 2560]⟩
abbrev S2048x3072 : Shape := ⟨2, ![2048, 3072]⟩
abbrev S2048x24 : Shape := ⟨2, ![2048, 24]⟩
abbrev S2048x8 : Shape := ⟨2, ![2048, 8]⟩
abbrev S_ : Shape := ⟨0, ![]⟩
abbrev S2048x480 : Shape := ⟨2, ![2048, 480]⟩
abbrev S2048x6144 : Shape := ⟨2, ![2048, 6144]⟩
abbrev S32x6144 : Shape := ⟨2, ![32, 6144]⟩
abbrev S2048x1024 : Shape := ⟨2, ![2048, 1024]⟩
abbrev S32x1024 : Shape := ⟨2, ![32, 1024]⟩
abbrev S32 : Shape := ⟨1, ![32]⟩
abbrev S32x1 : Shape := ⟨2, ![32, 1]⟩
abbrev S32x1x4x2x128 : Shape := ⟨5, ![32, 1, 4, 2, 128]⟩
abbrev S32x1x2x8x128 : Shape := ⟨5, ![32, 1, 2, 8, 128]⟩
abbrev S32x512 : Shape := ⟨2, ![32, 512]⟩
abbrev S32x24 : Shape := ⟨2, ![32, 24]⟩
abbrev S32x8 : Shape := ⟨2, ![32, 8]⟩

abbrev nBuf : Space → Nat
  | .hbm => 28
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S2x5x2048, .f32⟩
  | .hbm, ⟨2, _⟩ => ⟨S1x2048x5664, .f32⟩
  | .hbm, ⟨3, _⟩ => ⟨S32x2048, .f32⟩
  | .hbm, ⟨4, _⟩ => ⟨S1x5x2048, .f32⟩
  | .hbm, ⟨5, _⟩ => ⟨S5x2048, .f32⟩
  | .hbm, ⟨6, _⟩ => ⟨S1x2048, .f32⟩
  | .hbm, ⟨7, _⟩ => ⟨S2048, .f32⟩
  | .hbm, ⟨8, _⟩ => ⟨S2048x5664, .f32⟩
  | .hbm, ⟨9, _⟩ => ⟨S2048x2560, .f32⟩
  | .hbm, ⟨10, _⟩ => ⟨S2048x3072, .f32⟩
  | .hbm, ⟨11, _⟩ => ⟨S2048x24, .f32⟩
  | .hbm, ⟨12, _⟩ => ⟨S2048x8, .f32⟩
  | .hbm, ⟨13, _⟩ => ⟨S_, .f32⟩
  | .hbm, ⟨14, _⟩ => ⟨S2048x480, .f32⟩
  | .hbm, ⟨15, _⟩ => ⟨S2048x6144, .f32⟩
  | .hbm, ⟨16, _⟩ => ⟨S2048x6144, .bf16⟩
  | .hbm, ⟨17, _⟩ => ⟨S1x2048, .f32⟩
  | .hbm, ⟨18, _⟩ => ⟨S32x6144, .f32⟩
  | .hbm, ⟨19, _⟩ => ⟨S32x1024, .f32⟩
  | .hbm, ⟨20, _⟩ => ⟨S32x1x4x2x128, .f32⟩
  | .hbm, ⟨21, _⟩ => ⟨S32x2048, .f32⟩
  | .hbm, ⟨22, _⟩ => ⟨S32x1x2x8x128, .f32⟩
  | .hbm, ⟨23, _⟩ => ⟨S32x1024, .f32⟩
  | .hbm, ⟨24, _⟩ => ⟨S32x512, .f32⟩
  | .hbm, ⟨25, _⟩ => ⟨S32x1024, .f32⟩
  | .hbm, ⟨26, _⟩ => ⟨S32x24, .f32⟩
  | .hbm, ⟨27, _⟩ => ⟨S32x8, .f32⟩
  | .local _ .vmem, ⟨0, _⟩ => ⟨S32x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S32x1024, .f32⟩
  | .local _ .vmem, ⟨5, _⟩ => ⟨S32x1024, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InEvenSRefIdeal.lean ====
abbrev S32x1x2048 : Shape := ⟨3, ![32, 1, 2048]⟩
abbrev S2x5x2048 : Shape := ⟨3, ![2, 5, 2048]⟩
abbrev S1x2048x5664 : Shape := ⟨3, ![1, 2048, 5664]⟩
abbrev S1x5x2048 : Shape := ⟨3, ![1, 5, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x5664 : Shape := ⟨2, ![2048, 5664]⟩
abbrev S32x1x5664 : Shape := ⟨3, ![32, 1, 5664]⟩
abbrev S32x1x1024 : Shape := ⟨3, ![32, 1, 1024]⟩
abbrev S32x1x1536 : Shape := ⟨3, ![32, 1, 1536]⟩
abbrev S32x1x24 : Shape := ⟨3, ![32, 1, 24]⟩
abbrev S32x1x8 : Shape := ⟨3, ![32, 1, 8]⟩
abbrev S32x1x6x2x128 : Shape := ⟨5, ![32, 1, 6, 2, 128]⟩
abbrev S32x1x8x128 : Shape := ⟨4, ![32, 1, 8, 128]⟩
abbrev S32x1x4x2x128 : Shape := ⟨5, ![32, 1, 4, 2, 128]⟩
abbrev S32x1x1x8x128 : Shape := ⟨5, ![32, 1, 1, 8, 128]⟩
abbrev S32x1x2x8x128 : Shape := ⟨5, ![32, 1, 2, 8, 128]⟩
abbrev S32x1024 : Shape := ⟨2, ![32, 1024]⟩
abbrev S32x1x512 : Shape := ⟨3, ![32, 1, 512]⟩
abbrev S32x512 : Shape := ⟨2, ![32, 512]⟩
abbrev S32x24 : Shape := ⟨2, ![32, 24]⟩
abbrev S32x8 : Shape := ⟨2, ![32, 8]⟩

abbrev nBuf : Space → Nat
  | .hbm => 45
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2x5x2048, .f32⟩
  | .hbm, ⟨2, _⟩ => ⟨S1x2048x5664, .f32⟩
  | .hbm, ⟨3, _⟩ => ⟨S1x5x2048, .f32⟩
  | .hbm, ⟨4, _⟩ => ⟨S5x2048, .f32⟩
  | .hbm, ⟨5, _⟩ => ⟨S1x2048, .f32⟩
  | .hbm, ⟨6, _⟩ => ⟨S2048, .f32⟩
  | .hbm, ⟨7, _⟩ => ⟨S32x1x2048, .f32⟩
  | .hbm, ⟨8, _⟩ => ⟨S_, .f32⟩
  | .hbm, ⟨9, _⟩ => ⟨S32x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S32x1x1, .f32⟩
  | .hbm, ⟨18, _⟩ => ⟨S32x1x2048, .f32⟩
  | .hbm, ⟨19, _⟩ => ⟨S32x1x2048, .f32⟩
  | .hbm, ⟨20, _⟩ => ⟨S1x1x2048, .f32⟩
  | .hbm, ⟨21, _⟩ => ⟨S32x1x2048, .f32⟩
  | .hbm, ⟨22, _⟩ => ⟨S32x1x2048, .f32⟩
  | .hbm, ⟨23, _⟩ => ⟨S2048x5664, .f32⟩
  | .hbm, ⟨24, _⟩ => ⟨S32x1x5664, .f32⟩
  | .hbm, ⟨25, _⟩ => ⟨S32x1x1024, .f32⟩
  | .hbm, ⟨26, _⟩ => ⟨S32x1x1536, .f32⟩
  | .hbm, ⟨27, _⟩ => ⟨S32x1x24, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x8, .f32⟩
  | .hbm, ⟨32, _⟩ => ⟨S32x1x6x2x128, .f32⟩
  | .hbm, ⟨33, _⟩ => ⟨S32x1x8x128, .f32⟩
  | .hbm, ⟨34, _⟩ => ⟨S32x1x8x128, .f32⟩
  | .hbm, ⟨35, _⟩ => ⟨S32x1x4x2x128, .f32⟩
  | .hbm, ⟨36, _⟩ => ⟨S32x1x1x8x128, .f32⟩
  | .hbm, ⟨37, _⟩ => ⟨S32x1x1x8x128, .f32⟩
  | .hbm, ⟨38, _⟩ => ⟨S32x1x2x8x128, .f32⟩
  | .hbm, ⟨39, _⟩ => ⟨S32x1024, .f32⟩
  | .hbm, ⟨40, _⟩ => ⟨S32x1x512, .f32⟩
  | .hbm, ⟨41, _⟩ => ⟨S32x512, .f32⟩
  | .hbm, ⟨42, _⟩ => ⟨S32x1024, .f32⟩
  | .hbm, ⟨43, _⟩ => ⟨S32x24, .f32⟩
  | .hbm, ⟨44, _⟩ => ⟨S32x8, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== FfnDownS.lean ====
abbrev S32x5632 : Shape := ⟨2, ![32, 5632]⟩
abbrev S32x2048 : Shape := ⟨2, ![32, 2048]⟩
abbrev S2x32x1x256 : Shape := ⟨4, ![2, 32, 1, 256]⟩
abbrev S2x5x2048 : Shape := ⟨3, ![2, 5, 2048]⟩
abbrev S2x5632x2048 : Shape := ⟨3, ![2, 5632, 2048]⟩
abbrev S2x256x2048 : Shape := ⟨3, ![2, 256, 2048]⟩
abbrev S2x2048x2048 : Shape := ⟨3, ![2, 2048, 2048]⟩
abbrev S1x5x2048 : Shape := ⟨3, ![1, 5, 2048]⟩
abbrev S5x2048 : Shape := ⟨2, ![5, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S1x32x1x256 : Shape := ⟨4, ![1, 32, 1, 256]⟩
abbrev S32x1x256 : Shape := ⟨3, ![32, 1, 256]⟩
abbrev S32x256 : Shape := ⟨2, ![32, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S32 : Shape := ⟨1, ![32]⟩
abbrev S32x1 : Shape := ⟨2, ![32, 1]⟩

abbrev nBuf : Space → Nat
  | .hbm => 28
  | .vmem => 9
  | .smem => 0
  | _ => 0

abbrev bufTy : (tb : Table) → Fin (tcTables nBuf tb) → BufTy
  | .hbm, ⟨0, _⟩ => ⟨S32x5632, .bf16⟩
  | .hbm, ⟨1, _⟩ => ⟨S32x2048, .f32⟩
  | .hbm, ⟨2, _⟩ => ⟨S2x32x1x256, .f32⟩
  | .hbm, ⟨3, _⟩ => ⟨S2x5x2048, .f32⟩
  | .hbm, ⟨4, _⟩ => ⟨S2x5632x2048, .f32⟩
  | .hbm, ⟨5, _⟩ => ⟨S2x256x2048, .f32⟩
  | .hbm, ⟨6, _⟩ => ⟨S2x2048x2048, .f32⟩
  | .hbm, ⟨7, _⟩ => ⟨S1x5x2048, .f32⟩
  | .hbm, ⟨8, _⟩ => ⟨S5x2048, .f32⟩
  | .hbm, ⟨9, _⟩ => ⟨S1x5632x2048, .f32⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S2048, .f32⟩
  | .hbm, ⟨14, _⟩ => ⟨S1x32x1x256, .f32⟩
  | .hbm, ⟨15, _⟩ => ⟨S32x1x256, .f32⟩
  | .hbm, ⟨16, _⟩ => ⟨S32x256, .f32⟩
  | .hbm, ⟨17, _⟩ => ⟨S1x256x2048, .f32⟩
  | .hbm, ⟨18, _⟩ => ⟨S256x2048, .f32⟩
  | .hbm, ⟨19, _⟩ => ⟨S256x2048, .bf16⟩
  | .hbm, ⟨20, _⟩ => ⟨S1x2048x2048, .f32⟩
  | .hbm, ⟨21, _⟩ => ⟨S2048x2048, .f32⟩
  | .hbm, ⟨22, _⟩ => ⟨S2048x2048, .bf16⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S1x2048, .f32⟩
  | .hbm, ⟨27, _⟩ => ⟨S32x2048, .f32⟩
  | .local _ .vmem, ⟨0, _⟩ => ⟨S32x5632, .bf16⟩
  | .local _ .vmem, ⟨1, _⟩ => ⟨S5632x2048, .bf16⟩
  | .local _ .vmem, ⟨2, _⟩ => ⟨S1x2048, .f32⟩
  | .local _ .vmem, ⟨3, _⟩ => ⟨S32x2048, .f32⟩
  | .local _ .vmem, ⟨4, _⟩ => ⟨S32x256, .f32⟩
  | .local _ .vmem, ⟨5, _⟩ => ⟨S256x2048, .bf16⟩
  | .local _ .vmem, ⟨6, _⟩ => ⟨S2048x2048, .bf16⟩
  | .local _ .vmem, ⟨7, _⟩ => ⟨S1x2048, .f32⟩
  | .local _ .vmem, ⟨8, _⟩ => ⟨S32x2048, .f32⟩
  | _, _ => ⟨S32x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FfnDownSRefIdeal.lean ====
abbrev S32x5632 : Shape := ⟨2, ![32, 5632]⟩
abbrev S32x2048 : Shape := ⟨2, ![32, 2048]⟩
abbrev S2x32x1x256 : Shape := ⟨4, ![2, 32, 1, 256]⟩
abbrev S2x5x2048 : Shape := ⟨3, ![2, 5, 2048]⟩
abbrev S2x5632x2048 : Shape := ⟨3, ![2, 5632, 2048]⟩
abbrev S2x256x2048 : Shape := ⟨3, ![2, 256, 2048]⟩
abbrev S2x2048x2048 : Shape := ⟨3, ![2, 2048, 2048]⟩
abbrev S1x32x1x256 : Shape := ⟨4, ![1, 32, 1, 256]⟩
abbrev S32x1x256 : Shape := ⟨3, ![32, 1, 256]⟩
abbrev S32x256 : Shape := ⟨2, ![32, 256]⟩
abbrev S1x5x2048 : Shape := ⟨3, ![1, 5, 2048]⟩
abbrev S5x2048 : Shape := ⟨2, ![5, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S_ : Shape := ⟨0, ![]⟩
abbrev S32 : Shape := ⟨1, ![32]⟩
abbrev S32x1 : Shape := ⟨2, ![32, 1]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 69
  | .vmem => 0
  | .smem => 0
  | _ => 0

abbrev bufTy : (tb : Table) → Fin (tcTables nBuf tb) → BufTy
  | .hbm, ⟨0, _⟩ => ⟨S32x5632, .bf16⟩
  | .hbm, ⟨1, _⟩ => ⟨S32x2048, .f32⟩
  | .hbm, ⟨2, _⟩ => ⟨S2x32x1x256, .f32⟩
  | .hbm, ⟨3, _⟩ => ⟨S2x5x2048, .f32⟩
  | .hbm, ⟨4, _⟩ => ⟨S2x5632x2048, .f32⟩
  | .hbm, ⟨5, _⟩ => ⟨S2x256x2048, .f32⟩
  | .hbm, ⟨6, _⟩ => ⟨S2x2048x2048, .f32⟩
  | .hbm, ⟨7, _⟩ => ⟨S1x32x1x256, .f32⟩
  | .hbm, ⟨8, _⟩ => ⟨S32x1x256, .f32⟩
  | .hbm, ⟨9, _⟩ => ⟨S32x256, .f32⟩
  | .hbm, ⟨10, _⟩ => ⟨S1x5x2048, .f32⟩
  | .hbm, ⟨11, _⟩ => ⟨S5x2048, .f32⟩
  | .hbm, ⟨12, _⟩ => ⟨S32x5632, .f32⟩
  | .hbm, ⟨13, _⟩ => ⟨S1x5632x2048, .f32⟩
  | .hbm, ⟨14, _⟩ => ⟨S5632x2048, .f32⟩
  | .hbm, ⟨15, _⟩ => ⟨S32x2048, .f32⟩
  | .hbm, ⟨16, _⟩ => ⟨S1x2048, .f32⟩
  | .hbm, ⟨17, _⟩ => ⟨S2048, .f32⟩
  | .hbm, ⟨18, _⟩ => ⟨S32x2048, .f32⟩
  | .hbm, ⟨19, _⟩ => ⟨S_, .f32⟩
  | .hbm, ⟨20, _⟩ => ⟨S32, .f32⟩
  | .hbm, ⟨21, _⟩ => ⟨S32x1, .f32⟩
  | .hbm, ⟨22, _⟩ => ⟨S_, .f32⟩
  | .hbm, ⟨23, _⟩ => ⟨S32x1, .f32⟩
  | .hbm, ⟨24, _⟩ => ⟨S32x1, .f32⟩
  | .hbm, ⟨25, _⟩ => ⟨S_, .f32⟩
  | .hbm, ⟨26, _⟩ => ⟨S32x1, .f32⟩
  | .hbm, ⟨27, _⟩ => ⟨S32x1, .f32⟩
  | .hbm, ⟨28, _⟩ => ⟨S32x1, .f32⟩
  | .hbm, ⟨29, _⟩ => ⟨S32x2048, .f32⟩
  | .hbm, ⟨30, _⟩ => ⟨S32x2048, .f32⟩
  | .hbm, ⟨31, _⟩ => ⟨S1x2048, .f32⟩
  | .hbm, ⟨32, _⟩ => ⟨S32x2048, .f32⟩
  | .hbm, ⟨33, _⟩ => ⟨S32x2048, .f32⟩
  | .hbm, ⟨34, _⟩ => ⟨S32x2048, .f32⟩
  | .hbm, ⟨35, _⟩ => ⟨S1x256x2048, .f32⟩
  | .hbm, ⟨36, _⟩ => ⟨S256x2048, .f32⟩
  | .hbm, ⟨37, _⟩ => ⟨S32x2048, .f32⟩
  | .hbm, ⟨38, _⟩ => ⟨S1x2048, .f32⟩
  | .hbm, ⟨39, _⟩ => ⟨S2048, .f32⟩
  | .hbm, ⟨40, _⟩ => ⟨S32x2048, .f32⟩
  | .hbm, ⟨41, _⟩ => ⟨S_, .f32⟩
  | .hbm, ⟨42, _⟩ => ⟨S32, .f32⟩
  | .hbm, ⟨43, _⟩ => ⟨S32x1, .f32⟩
  | .hbm, ⟨44, _⟩ => ⟨S_, .f32⟩
  | .hbm, ⟨45, _⟩ => ⟨S32x1, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1, .f32⟩
  | .hbm, ⟨51, _⟩ => ⟨S32x2048, .f32⟩
  | .hbm, ⟨52, _⟩ => ⟨S32x2048, .f32⟩
  | .hbm, ⟨53, _⟩ => ⟨S1x2048, .f32⟩
  | .hbm, ⟨54, _⟩ => ⟨S32x2048, .f32⟩
  | .hbm, ⟨55, _⟩ => ⟨S32x2048, .f32⟩
  | .hbm, ⟨56, _⟩ => ⟨S1x2048x2048, .f32⟩
  | .hbm, ⟨57, _⟩ => ⟨S2048x2048, .f32⟩
  | .hbm, ⟨58, _⟩ => ⟨S32x2048, .f32⟩
  | .hbm, ⟨59, _⟩ => ⟨S32x2048, .f32⟩
  | .hbm, ⟨60, _⟩ => ⟨S32x2048, .f32⟩
  | .hbm, ⟨61, _⟩ => ⟨S_, .f32⟩
  | .hbm, ⟨62, _⟩ => ⟨S32x2048, .f32⟩
  | .hbm, ⟨63, _⟩ => ⟨S32x2048, .f32⟩
  | .hbm, ⟨64, _⟩ => ⟨S_, .f32⟩
  | .hbm, ⟨65, _⟩ => ⟨S32x2048, .f32⟩
  | .hbm, ⟨66, _⟩ => ⟨S32x2048, .f32⟩
  | .hbm, ⟨67, _⟩ => ⟨S32x2048, .f32⟩
  | .hbm, ⟨68, _⟩ => ⟨S32x2048, .f32⟩
  | _, _ => ⟨S32x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.FoxPay.lean ====
module

public import proofs.«01_k».proof.Proof.Gen.KernelIdeal.Value
public import Idealize.ShloMosaic.Lib.Pointwise
public import Idealize.ShloMosaic.Lib.Pipeline.ValueKit
public import Idealize.ShloMosaic.PureOps.Ideal

@[expose] public section

set_option maxRecDepth 16384

noncomputable section

open Idealize.ShloMosaic Idealize.ShloMosaic.TcCoe Idealize.SL.Sem

namespace Cert.KernelIdeal.Fox

open Cert.KernelIdeal Cert.KernelIdeal.Gen

/-- The query scale read at the ideal instance: one over the root of 128, in base-2 units. -/
abbrev qs : ℝ := (Real.sqrt 128)⁻¹ * (Real.log 2)⁻¹
/-- The base-2 unit of a natural logarithm. -/
abbrev lu : ℝ := (Real.log 2)⁻¹

/-- The mask constant is minus infinity. -/
theorem mask_val : Named.named (F := Ideal) (φ := .f32) κ "mask" 0xF149F2CA#32 = (⊥ : EReal) :=
  IdealRules.named_const.ideal_named_scalar _ _ _ _ rfl
/-- The query scale constant. -/
theorem qscale_val : Named.named (F := Ideal) (φ := .f32) κ "qscale" 0x3E0293EE#32 = ((qs : ℝ) : EReal) :=
  IdealRules.named_const.ideal_named_scalar _ _ _ _ rfl
/-- The base-2 unit constant. -/
theorem log2e_val : Named.named (F := Ideal) (φ := .f32) κ "log2e" 0x3FB8AA3B#32 = ((lu : ℝ) : EReal) :=
  IdealRules.named_const.ideal_named_scalar _ _ _ _ rfl
/-- The pattern of minus infinity. -/
theorem ninf_val : Ideal.ofBits FTy.f32 0xFF800000#32 = ⊥ := by
  simp [Ideal.ofBits, Ideal.ieee]

/-- The causal mask's word comparison, as the comparison of positions. -/
theorem mask_word (n k qi j o : ℕ) (hn : n < 256) (hk : k < 1024) (hq : qi < 4) (hj : j < 2) (ho : o ≤ 256) :
    IntOp.cmpi .sge (IntOp.subi (BitVec.ofNat 32 n) (BitVec.ofNat 32 k))
      (Scalar.subi 0#32 (Scalar.subi (Scalar.addi (Scalar.muli (BitVec.ofNat 32 qi) 512#32) (BitVec.ofNat 32 o))
        (Scalar.muli (Scalar.addi 0#32 (BitVec.ofNat 32 j)) 1024#32)))
      = BitVec.ofBool (decide (1024 * j + k ≤ 512 * qi + (o + n))) := by
  simp only [IntOp.cmpi, IntOp.subi, Scalar.subi, Scalar.addi, Scalar.muli, IntOp.addi, IntOp.muli]
  congr 1
  rw [Bool.eq_iff_iff]
  simp only [BitVec.sle_iff_toInt_le, decide_eq_true_eq]
  have sb (a b : ℤ) : BitVec.ofInt 32 a - BitVec.ofInt 32 b = BitVec.ofInt 32 (a - b) := by
    have h : BitVec.ofInt 32 (a - b) + BitVec.ofInt 32 b = BitVec.ofInt 32 a := by
      rw [← BitVec.ofInt_add, sub_add_cancel]
    rw [← h, BitVec.add_sub_cancel]
  have e : (0#32 - (BitVec.ofNat 32 qi * 512#32 + BitVec.ofNat 32 o - (0#32 + BitVec.ofNat 32 j) * 1024#32))
      = BitVec.ofInt 32 ((1024 * j : ℤ) - (512 * qi + o)) := by
    have c (a : ℕ) : BitVec.ofNat 32 a = BitVec.ofInt 32 (a : ℤ) := rfl
    simp only [c, sb, ← BitVec.ofInt_add, ← BitVec.ofInt_mul]
    congr 1
    push_cast
    ring
  have e2 : (BitVec.ofNat 32 n - BitVec.ofNat 32 k) = BitVec.ofInt 32 ((n : ℤ) - k) := by
    have c (a : ℕ) : BitVec.ofNat 32 a = BitVec.ofInt 32 (a : ℤ) := rfl
    simp only [c, sb]
  have b (z : ℤ) (h1 : -100000 ≤ z) (h2 : z ≤ 100000) : (BitVec.ofInt 32 z).toInt = z := by
    rw [BitVec.toInt_ofInt]
    apply Int.bmod_eq_of_le
    · norm_num; omega
    · norm_num; omega
  rw [e, e2, b _ (by omega) (by omega), b _ (by omega) (by omega)]
  omega

/-- One tile's base-2 logits of query row `r` of its block: causal, minus infinity off the mask. -/
def lg (K : FVec Ideal S1x1024x128 .f32) (Q : FVec Ideal S1x512x128 .f32) (fq : EReal)
    (FK : FVec Ideal S1x1024x128 .f32) (g : Fin 8) (qi j : ℕ) (r : Fin 512) (k : Fin 1024) : EReal :=
  if 1024 * j + k.val ≤ 512 * qi + r.val then
    (∑ d : Fin 128, K (ix3 (0 : Fin 1) k d) * (Q (ix3 (0 : Fin 1) r d) * ((qs : ℝ) : EReal)))
      + (fq
          - FK (ix3 (0 : Fin 1) k (⟨24 + g.val, by omega⟩ : Fin 128))) * ((lu : ℝ) : EReal)
  else ⊥

/-- The key bias of a tile, at a key. -/
theorem pay11 (g : Fin 8) (FQ : FVec Ideal S1x1x1x1 .f32) (FK : FVec Ideal S1x1024x128 .f32) (k : Fin 1024) :
    k0_pay11 (F := Ideal) (BitVec.ofNat 32 g.val) FQ FK (ix2 k (0 : Fin 1))
      = (FQ (ix4 (0 : Fin 1) (0 : Fin 1) (0 : Fin 1) (0 : Fin 1)) - FK (ix3 (0 : Fin 1) k (⟨24 + g.val, by omega⟩ : Fin 128))) * ((lu : ℝ) : EReal) := by
  pointwise [k0_pay11]
  rw [log2e_val]
  congr 2
  have h : ∀ x : Fin 128, IntOp.cmpi .eq (BitVec.ofNat 32 x.val) (Scalar.addi 24#32 (BitVec.ofNat 32 g.val))
      = BitVec.ofBool (decide (x = (⟨24 + g.val, by omega⟩ : Fin 128))) := by
    intro x
    have hx := x.isLt
    have hg := g.isLt
    simp only [IntOp.cmpi, Scalar.addi, IntOp.addi]
    congr 1
    rw [Bool.eq_iff_iff, beq_iff_eq, decide_eq_true_eq, Fin.ext_iff]
    constructor
    · intro h
      have h' := congrArg BitVec.toNat h
      simp only [BitVec.toNat_ofNat, BitVec.toNat_add] at h'
      show x.val = 24 + g.val
      omega
    · intro h
      rw [h]
      apply BitVec.eq_of_toNat_eq
      simp
  simp only [h, Scalar.select_decide, Finset.sum_ite_eq', Finset.mem_univ, if_true]

/-- The masked logits of the first chunk. -/
theorem pay14 (K : FVec Ideal S1x1024x128 .f32) (Q : FVec Ideal S1x512x128 .f32) (Q0 : FVec Ideal S1x256x128 .f32) (FQ : FVec Ideal S1x1x1x1 .f32)
    (FK : FVec Ideal S1x1024x128 .f32) (g : Fin 8) (qi j : ℕ) (hq : qi < 4) (hj : j < 2)
    (hQ : ∀ (n : Fin 256) (d : Fin 128), Q0 (ix3 (0 : Fin 1) n d) = Q (ix3 (0 : Fin 1) (⟨n.val, by omega⟩ : Fin 512) d))
    (k : Fin 1024) (n : Fin 256) :
    k0_pay14 (F := Ideal) (k0_pay8 K) (k0_pay11 (BitVec.ofNat 32 g.val) FQ FK)
      (k0_pay12 (Scalar.addi (0#32) (BitVec.ofNat 32 j)) (Scalar.muli (BitVec.ofNat 32 qi) 512#32)) (k0_pay13 Q0) (ix2 k n)
      = lg K Q (FQ (ix4 (0 : Fin 1) (0 : Fin 1) (0 : Fin 1) (0 : Fin 1))) FK g qi j ⟨n.val, by omega⟩ k := by
  pointwise [k0_pay14, k0_pay12, k0_pay10, k0_pay8, k0_pay13]
  have hm := mask_word n.val k.val qi j 0 n.isLt k.isLt hq hj (by omega)
  rw [hm, pay11, mask_val, qscale_val, Scalar.select_decide]
  unfold lg
  simp only [hQ, Nat.zero_add]

/-- The masked logits of the second chunk. -/
theorem pay22 (K : FVec Ideal S1x1024x128 .f32) (Q : FVec Ideal S1x512x128 .f32) (Q0 : FVec Ideal S1x256x128 .f32) (FQ : FVec Ideal S1x1x1x1 .f32)
    (FK : FVec Ideal S1x1024x128 .f32) (g : Fin 8) (qi j : ℕ) (hq : qi < 4) (hj : j < 2)
    (hQ : ∀ (n : Fin 256) (d : Fin 128), Q0 (ix3 (0 : Fin 1) n d) = Q (ix3 (0 : Fin 1) (⟨256 + n.val, by omega⟩ : Fin 512) d))
    (k : Fin 1024) (n : Fin 256) :
    k0_pay22 (F := Ideal) (Scalar.muli (BitVec.ofNat 32 qi) 512#32) (k0_pay8 K)
      (Scalar.muli (Scalar.addi (0#32) (BitVec.ofNat 32 j)) 1024#32) k0_pay10 (k0_pay11 (BitVec.ofNat 32 g.val) FQ FK) Q0 (ix2 k n)
      = lg K Q (FQ (ix4 (0 : Fin 1) (0 : Fin 1) (0 : Fin 1) (0 : Fin 1))) FK g qi j ⟨256 + n.val, by omega⟩ k := by
  pointwise [k0_pay22, k0_pay10, k0_pay8]
  have hm := mask_word n.val k.val qi j 256 n.isLt k.isLt hq hj (by omega)
  rw [hm, pay11, mask_val, qscale_val, Scalar.select_decide]
  unfold lg
  simp only [hQ]

/-! ## One online step at a row -/

/-- The running maximum after a tile with logits `x`. -/
def stM (x : Fin 1024 → EReal) (mp : EReal) : EReal := max mp (Finset.univ.fold max ⊥ x)
/-- The running denominator after a tile. -/
def stL (x : Fin 1024 → EReal) (mp lp : EReal) : EReal :=
  Ideal.exp2 (mp - stM x mp) * lp + ∑ k : Fin 1024, Ideal.exp2 (x k - stM x mp)
/-- The running numerator after a tile with values `v`. -/
def stA (x v : Fin 1024 → EReal) (mp ap : EReal) : EReal :=
  Ideal.exp2 (mp - stM x mp) * ap + ∑ k : Fin 1024, v k * Ideal.exp2 (x k - stM x mp)

section chunk0
variable (K : FVec Ideal S1024x128 .bf16) (V : FVec Ideal S128x1024 .bf16) (B : FVec Ideal S1024x1 .f32) (mk : IVec S1024x256 1)
  (Q : FVec Ideal S256x128 .f32) (mp lp : FVec Ideal S1x1x256 .f32) (ap : FVec Ideal S1x128x256 .f32)

/-- First chunk: the maximum stored. -/
theorem pay21 (n : Fin 256) :
    k0_pay21 (F := Ideal) (k0_pay16 K B mk Q mp) (ix3 (0 : Fin 1) (0 : Fin 1) n)
      = stM (fun k => k0_pay14 (F := Ideal) K B mk Q (ix2 k n)) (mp (ix3 (0 : Fin 1) (0 : Fin 1) n)) := by
  pointwise [k0_pay21, k0_pay16, k0_pay15]
  rw [ninf_val]; rfl

/-- First chunk: the denominator stored. -/
theorem pay19 (n : Fin 256) :
    k0_pay19 (F := Ideal) K B mk Q mp lp (ix3 (0 : Fin 1) (0 : Fin 1) n)
      = stL (fun k => k0_pay14 (F := Ideal) K B mk Q (ix2 k n)) (mp (ix3 (0 : Fin 1) (0 : Fin 1) n)) (lp (ix3 (0 : Fin 1) (0 : Fin 1) n)) := by
  pointwise [k0_pay19, k0_pay18, k0_pay17, k0_pay16, k0_pay15]
  rw [ninf_val]; rfl

/-- First chunk: the numerator stored. -/
theorem pay20 (d : Fin 128) (n : Fin 256) :
    k0_pay20 (F := Ideal) K V B mk Q mp ap (ix3 (0 : Fin 1) d n)
      = stA (fun k => k0_pay14 (F := Ideal) K B mk Q (ix2 k n)) (fun k => V (ix2 d k)) (mp (ix3 (0 : Fin 1) (0 : Fin 1) n)) (ap (ix3 (0 : Fin 1) d n)) := by
  pointwise [k0_pay20, k0_pay18, k0_pay17, k0_pay16, k0_pay15]
  rw [ninf_val]; rfl
end chunk0

section chunk1
variable (v5 : BitVec 32) (K : FVec Ideal S1024x128 .bf16) (v22 : BitVec 32) (v25 : IVec S1024x256 32) (V : FVec Ideal S128x1024 .bf16) (B : FVec Ideal S1024x1 .f32)
  (Q : FVec Ideal S1x256x128 .f32) (mp lp : FVec Ideal S1x1x256 .f32) (ap : FVec Ideal S1x128x256 .f32)

/-- Second chunk: the maximum stored. -/
theorem pay5 (n : Fin 256) :
    k0_pay5 (F := Ideal) (k0_pay24 v5 K v22 v25 B Q mp) (ix3 (0 : Fin 1) (0 : Fin 1) n)
      = stM (fun k => k0_pay22 (F := Ideal) v5 K v22 v25 B Q (ix2 k n)) (mp (ix3 (0 : Fin 1) (0 : Fin 1) n)) := by
  pointwise [k0_pay5, k0_pay24, k0_pay23]
  rw [ninf_val]; rfl

/-- Second chunk: the denominator stored. -/
theorem pay27 (n : Fin 256) :
    k0_pay27 (F := Ideal) v5 K v22 v25 B Q mp lp (ix3 (0 : Fin 1) (0 : Fin 1) n)
      = stL (fun k => k0_pay22 (F := Ideal) v5 K v22 v25 B Q (ix2 k n)) (mp (ix3 (0 : Fin 1) (0 : Fin 1) n)) (lp (ix3 (0 : Fin 1) (0 : Fin 1) n)) := by
  pointwise [k0_pay27, k0_pay26, k0_pay25, k0_pay24, k0_pay23]
  rw [ninf_val]; rfl

/-- Second chunk: the numerator stored. -/
theorem pay4 (d : Fin 128) (n : Fin 256) :
    k0_pay4 (F := Ideal) V (k0_pay25 v5 K v22 v25 B Q mp) (k0_pay26 v5 K v22 v25 B Q mp) ap (ix3 (0 : Fin 1) d n)
      = stA (fun k => k0_pay22 (F := Ideal) v5 K v22 v25 B Q (ix2 k n)) (fun k => V (ix2 d k)) (mp (ix3 (0 : Fin 1) (0 : Fin 1) n)) (ap (ix3 (0 : Fin 1) d n)) := by
  pointwise [k0_pay4, k0_pay26, k0_pay25, k0_pay24, k0_pay23]
  rw [ninf_val]; rfl
end chunk1

/-- The value block, transposed. -/
theorem pay9 (V : FVec Ideal S1x1024x128 .f32) (d : Fin 128) (k : Fin 1024) :
    k0_pay9 (F := Ideal) V (ix2 d k) = V (ix3 (0 : Fin 1) k d) := by
  pointwise [k0_pay9]

/-- The maximum's reset. -/
theorem pay1 (y : S2x1x256.Idx) : k0_pay1 (F := Ideal) y = (⊥ : EReal) := by
  pointwise [k0_pay1]
  exact mask_val
/-- The denominator's reset. -/
theorem pay2 (y : S2x1x256.Idx) : k0_pay2 (F := Ideal) y = (0 : EReal) := by
  pointwise [k0_pay2]
/-- The numerator's reset. -/
theorem pay3 (y : S2x128x256.Idx) : k0_pay3 (F := Ideal) y = (0 : EReal) := by
  pointwise [k0_pay3]

/-- The quotient of the first chunk, transposed back. -/
theorem pay6 (a : FVec Ideal S1x128x256 .f32) (l : FVec Ideal S1x1x256 .f32) (n : Fin 256) (d : Fin 128) :
    k0_pay6 (F := Ideal) a l (ix3 (0 : Fin 1) n d) = Ideal.div (a (ix3 (0 : Fin 1) d n)) (l (ix3 (0 : Fin 1) (0 : Fin 1) n)) := by
  pointwise [k0_pay6]
/-- The quotient of the second chunk, transposed back. -/
theorem pay7 (a : FVec Ideal S1x128x256 .f32) (l : FVec Ideal S1x1x256 .f32) (n : Fin 256) (d : Fin 128) :
    k0_pay7 (F := Ideal) a l (ix3 (0 : Fin 1) n d) = Ideal.div (a (ix3 (0 : Fin 1) d n)) (l (ix3 (0 : Fin 1) (0 : Fin 1) n)) := by
  pointwise [k0_pay7]

/-! ## The stores over the blocks -/

section blocks
variable (K V : FVec Ideal S1x1024x128 .f32) (Q : FVec Ideal S1x512x128 .f32) (Q0 : FVec Ideal S1x256x128 .f32) (FQ : FVec Ideal S1x1x1x1 .f32)
  (FK : FVec Ideal S1x1024x128 .f32) (fq : EReal) (g : Fin 8) (qi j gn qn jn : ℕ)
  (mp lp : FVec Ideal S1x1x256 .f32) (ap : FVec Ideal S1x128x256 .f32) (n : Fin 256) (d : Fin 128) (r : Fin 512) (mv lv av : EReal)

/-- First chunk: the maximum, over the blocks. -/
theorem c0M (hg : gn = g.val) (hqn : qn = qi) (hjn : jn = j) (hq : qi < 4) (hj : j < 2)
    (hQ : ∀ (n : Fin 256) (d : Fin 128), Q0 (ix3 (0 : Fin 1) n d) = Q (ix3 (0 : Fin 1) (⟨n.val, by omega⟩ : Fin 512) d))
    (hF : FQ (ix4 (0 : Fin 1) (0 : Fin 1) (0 : Fin 1) (0 : Fin 1)) = fq) (hr : r.val = n.val)
    (hm : mp (ix3 (0 : Fin 1) (0 : Fin 1) n) = mv) :
    k0_pay21 (F := Ideal) (k0_pay16 (k0_pay8 K) (k0_pay11 (BitVec.ofNat 32 gn) FQ FK)
      (k0_pay12 (Scalar.addi (0#32) (BitVec.ofNat 32 jn)) (Scalar.muli (BitVec.ofNat 32 qn) 512#32)) (k0_pay13 Q0) mp) (ix3 (0 : Fin 1) (0 : Fin 1) n)
      = stM (lg K Q fq FK g qi j r) mv := by
  subst hg hqn hjn hF hm
  rw [show r = ⟨n.val, by omega⟩ from Fin.ext hr]
  rw [pay21]
  simp only [pay14 K Q Q0 FQ FK g qn jn hq hj hQ]

/-- First chunk: the denominator, over the blocks. -/
theorem c0L (hg : gn = g.val) (hqn : qn = qi) (hjn : jn = j) (hq : qi < 4) (hj : j < 2)
    (hQ : ∀ (n : Fin 256) (d : Fin 128), Q0 (ix3 (0 : Fin 1) n d) = Q (ix3 (0 : Fin 1) (⟨n.val, by omega⟩ : Fin 512) d))
    (hF : FQ (ix4 (0 : Fin 1) (0 : Fin 1) (0 : Fin 1) (0 : Fin 1)) = fq) (hr : r.val = n.val)
    (hm : mp (ix3 (0 : Fin 1) (0 : Fin 1) n) = mv) (hl : lp (ix3 (0 : Fin 1) (0 : Fin 1) n) = lv) :
    k0_pay19 (F := Ideal) (k0_pay8 K) (k0_pay11 (BitVec.ofNat 32 gn) FQ FK)
      (k0_pay12 (Scalar.addi (0#32) (BitVec.ofNat 32 jn)) (Scalar.muli (BitVec.ofNat 32 qn) 512#32)) (k0_pay13 Q0) mp lp (ix3 (0 : Fin 1) (0 : Fin 1) n)
      = stL (lg K Q fq FK g qi j r) mv lv := by
  subst hg hqn hjn hF hm hl
  rw [show r = ⟨n.val, by omega⟩ from Fin.ext hr]
  rw [pay19]
  simp only [pay14 K Q Q0 FQ FK g qn jn hq hj hQ]

/-- First chunk: the numerator, over the blocks. -/
theorem c0A (hg : gn = g.val) (hqn : qn = qi) (hjn : jn = j) (hq : qi < 4) (hj : j < 2)
    (hQ : ∀ (n : Fin 256) (d : Fin 128), Q0 (ix3 (0 : Fin 1) n d) = Q (ix3 (0 : Fin 1) (⟨n.val, by omega⟩ : Fin 512) d))
    (hF : FQ (ix4 (0 : Fin 1) (0 : Fin 1) (0 : Fin 1) (0 : Fin 1)) = fq) (hr : r.val = n.val)
    (hm : mp (ix3 (0 : Fin 1) (0 : Fin 1) n) = mv) (ha : ap (ix3 (0 : Fin 1) d n) = av) :
    k0_pay20 (F := Ideal) (k0_pay8 K) (k0_pay9 V) (k0_pay11 (BitVec.ofNat 32 gn) FQ FK)
      (k0_pay12 (Scalar.addi (0#32) (BitVec.ofNat 32 jn)) (Scalar.muli (BitVec.ofNat 32 qn) 512#32)) (k0_pay13 Q0) mp ap (ix3 (0 : Fin 1) d n)
      = stA (lg K Q fq FK g qi j r) (fun k => V (ix3 (0 : Fin 1) k d)) mv av := by
  subst hg hqn hjn hF hm ha
  rw [show r = ⟨n.val, by omega⟩ from Fin.ext hr]
  rw [pay20]
  simp only [pay14 K Q Q0 FQ FK g qn jn hq hj hQ, pay9]

/-- Second chunk: the maximum, over the blocks. -/
theorem c1M (hg : gn = g.val) (hqn : qn = qi) (hjn : jn = j) (hq : qi < 4) (hj : j < 2)
    (hQ : ∀ (n : Fin 256) (d : Fin 128), Q0 (ix3 (0 : Fin 1) n d) = Q (ix3 (0 : Fin 1) (⟨256 + n.val, by omega⟩ : Fin 512) d))
    (hF : FQ (ix4 (0 : Fin 1) (0 : Fin 1) (0 : Fin 1) (0 : Fin 1)) = fq) (hr : r.val = 256 + n.val)
    (hm : mp (ix3 (0 : Fin 1) (0 : Fin 1) n) = mv) :
    k0_pay5 (F := Ideal) (k0_pay24 (Scalar.muli (BitVec.ofNat 32 qn) 512#32) (k0_pay8 K)
      (Scalar.muli (Scalar.addi (0#32) (BitVec.ofNat 32 jn)) 1024#32) k0_pay10 (k0_pay11 (BitVec.ofNat 32 gn) FQ FK) Q0 mp) (ix3 (0 : Fin 1) (0 : Fin 1) n)
      = stM (lg K Q fq FK g qi j r) mv := by
  subst hg hqn hjn hF hm
  rw [show r = ⟨256 + n.val, by omega⟩ from Fin.ext hr]
  rw [pay5]
  simp only [pay22 K Q Q0 FQ FK g qn jn hq hj hQ]

/-- Second chunk: the denominator, over the blocks. -/
theorem c1L (hg : gn = g.val) (hqn : qn = qi) (hjn : jn = j) (hq : qi < 4) (hj : j < 2)
    (hQ : ∀ (n : Fin 256) (d : Fin 128), Q0 (ix3 (0 : Fin 1) n d) = Q (ix3 (0 : Fin 1) (⟨256 + n.val, by omega⟩ : Fin 512) d))
    (hF : FQ (ix4 (0 : Fin 1) (0 : Fin 1) (0 : Fin 1) (0 : Fin 1)) = fq) (hr : r.val = 256 + n.val)
    (hm : mp (ix3 (0 : Fin 1) (0 : Fin 1) n) = mv) (hl : lp (ix3 (0 : Fin 1) (0 : Fin 1) n) = lv) :
    k0_pay27 (F := Ideal) (Scalar.muli (BitVec.ofNat 32 qn) 512#32) (k0_pay8 K)
      (Scalar.muli (Scalar.addi (0#32) (BitVec.ofNat 32 jn)) 1024#32) k0_pay10 (k0_pay11 (BitVec.ofNat 32 gn) FQ FK) Q0 mp lp (ix3 (0 : Fin 1) (0 : Fin 1) n)
      = stL (lg K Q fq FK g qi j r) mv lv := by
  subst hg hqn hjn hF hm hl
  rw [show r = ⟨256 + n.val, by omega⟩ from Fin.ext hr]
  rw [pay27]
  simp only [pay22 K Q Q0 FQ FK g qn jn hq hj hQ]

/-- Second chunk: the numerator, over the blocks. -/
theorem c1A (hg : gn = g.val) (hqn : qn = qi) (hjn : jn = j) (hq : qi < 4) (hj : j < 2)
    (hQ : ∀ (n : Fin 256) (d : Fin 128), Q0 (ix3 (0 : Fin 1) n d) = Q (ix3 (0 : Fin 1) (⟨256 + n.val, by omega⟩ : Fin 512) d))
    (hF : FQ (ix4 (0 : Fin 1) (0 : Fin 1) (0 : Fin 1) (0 : Fin 1)) = fq) (hr : r.val = 256 + n.val)
    (hm : mp (ix3 (0 : Fin 1) (0 : Fin 1) n) = mv) (ha : ap (ix3 (0 : Fin 1) d n) = av) :
    k0_pay4 (F := Ideal) (k0_pay9 V) (k0_pay25 (Scalar.muli (BitVec.ofNat 32 qn) 512#32) (k0_pay8 K)
        (Scalar.muli (Scalar.addi (0#32) (BitVec.ofNat 32 jn)) 1024#32) k0_pay10 (k0_pay11 (BitVec.ofNat 32 gn) FQ FK) Q0 mp)
      (k0_pay26 (Scalar.muli (BitVec.ofNat 32 qn) 512#32) (k0_pay8 K)
        (Scalar.muli (Scalar.addi (0#32) (BitVec.ofNat 32 jn)) 1024#32) k0_pay10 (k0_pay11 (BitVec.ofNat 32 gn) FQ FK) Q0 mp) ap (ix3 (0 : Fin 1) d n)
      = stA (lg K Q fq FK g qi j r) (fun k => V (ix3 (0 : Fin 1) k d)) mv av := by
  subst hg hqn hjn hF hm ha
  rw [show r = ⟨256 + n.val, by omega⟩ from Fin.ext hr]
  rw [pay4]
  simp only [pay22 K Q Q0 FQ FK g qn jn hq hj hQ, pay9]
end blocks

end Cert.KernelIdeal.Fox

end
end
-- ==== Proof.FoxPoint.lean ====
module

public import proofs.«01_k».proof.Proof.FoxPay
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen

variable (m : (ℓ : Loc nD τ sig) → Buf (Elt Ideal) ℓ)

section pieces
variable {S : Shape} {e : EltTy} {Val : EltTy → Type} [∀ e, Nonempty (Val e)]

/-- Under the last store, what a list of stores leaves is that store's payload. -/
theorem canon_hit {off size : Fin S.rank → ℕ} (inb : ∀ a, off a + size a ≤ S.size a) (w : (Rect.unit off size inb).shape.Idx → Val e)
    (L : List (View.Piece Val S e)) (y : S.Idx) (x : (Rect.unit off size inb).shape.Idx) (h : ∀ a, (y a : ℕ) = off a + (x a : ℕ)) :
    View.canon (⟨Rect.unit off size inb, w⟩ :: L) y = w x := by
  have e : y = (Rect.unit off size inb).emb x := by
    funext a
    apply Fin.ext
    rw [h a]
    show _ = off a + 1 * (x a : ℕ)
    omega
  rw [e]
  exact View.canon_cons_emb _ _ _ _

/-- Off the last store, it is what the earlier stores leave. -/
theorem canon_miss {off size : Fin S.rank → ℕ} (inb : ∀ a, off a + size a ≤ S.size a) (w : (Rect.unit off size inb).shape.Idx → Val e)
    (L : List (View.Piece Val S e)) (y : S.Idx) (h : ∃ a, (y a : ℕ) < off a ∨ off a + size a ≤ (y a : ℕ)) :
    View.canon (⟨Rect.unit off size inb, w⟩ :: L) y = View.canon L y := by
  refine View.canon_cons_of_not_mem _ _ fun hm => ?_
  obtain ⟨a, ha⟩ := h
  have := (Rect.mem_set_unit (inb := inb)).mp hm a
  omega

/-- Where an index of a block lands: its offset plus the index. -/
theorem unit_idx {off size : Fin S.rank → ℕ} (inb : ∀ a, off a + size a ≤ S.size a) (x : (Rect.unit off size inb).shape.Idx) (a : Fin S.rank) :
    ((Rect.unit off size inb).idx x a : ℕ) = off a + (x a : ℕ) := by
  show off a + 1 * (x a : ℕ) = _
  omega
end pieces

/-- The grid coordinates of a point. -/
theorem coords_val : ∀ t : Fin cfg0.N, ((grid0.coords t 1).val = t.val / 8 % 8) ∧ ((grid0.coords t 2).val = t.val / 2 % 4) ∧ ((grid0.coords t 3).val = t.val % 2) :=
  (by decide +kernel : ∀ t : Fin grid0.N, _)

/-- The head of a point. -/
def hd (t : Fin cfg0.N) : Fin 8 := ⟨t.val / 8 % 8, by omega⟩

/-- The logits at point `t` of query row `r` of its block. -/
def lgt (c : Dev nD) (t : Fin cfg0.N) (r : Fin 512) (k : Fin 1024) : EReal :=
  lg (iblk m c 1 t) (iblk m c 0 t) ((iblk m c 3 t : FVec Ideal S1x1x1x512 .f32) (ix4 (0 : Fin 1) (0 : Fin 1) (0 : Fin 1) (0 : Fin 512)))
    (iblk m c 4 t) (hd t) (t.val / 2 % 4) (t.val % 2) r k

/-- The value block at point `t`, one lane. -/
def vt (c : Dev nD) (t : Fin cfg0.N) (d : Fin 128) (k : Fin 1024) : EReal :=
  (iblk m c 2 t : FVec Ideal S1x1024x128 .f32) (ix3 (0 : Fin 1) k d)

/-- After a resetting point: the scratch maximum, chunk 0. -/
theorem mA0 (c : Dev nD) (t : Fin cfg0.N) (h0 : t.val % 2 = 0) (h1 : 2 * (t.val % 2) ≤ t.val / 2 % 4) (h2 : ¬t.val % 2 = 1) (n : Fin 256) (r : Fin 512)
    (hr : r.val = n.val) :
    (outsAt0 m c t.val t.isLt).2.1 (ix3 (0 : Fin 2) (0 : Fin 1) n) = stM (lgt m c t r) ⊥ := by
  rw [outsAt0_A m c t h0 h1 h2]
  frame_out
  obtain ⟨e1, e2, e3⟩ := coords_val t
  rw [canon_miss _ _ _ _ ⟨0, Or.inl (by show (0 : ℕ) < 1; omega)⟩]
  rw [canon_hit _ _ _ _ (ix3 (0 : Fin 1) (0 : Fin 1) n) (by intro a; fin_cases a <;> simp [ix3])]
  refine c0M _ _ _ _ _ _ (hd t) _ _ _ _ _ _ n _ _ e1 e2 e3 (by omega) (by omega) ?_ ?_ hr ?_
  · intro n d; pointwise; blk_ext
  · pointwise; blk_ext
  · rw [View.readCov_fill _ _ _ _ _ (by decide)]
    exact pay1 _

/-- After a resetting point: the scratch maximum, chunk 1. -/
theorem mA1 (c : Dev nD) (t : Fin cfg0.N) (h0 : t.val % 2 = 0) (h1 : 2 * (t.val % 2) ≤ t.val / 2 % 4) (h2 : ¬t.val % 2 = 1) (n : Fin 256) (r : Fin 512)
    (hr : r.val = 256 + n.val) :
    (outsAt0 m c t.val t.isLt).2.1 (ix3 (1 : Fin 2) (0 : Fin 1) n) = stM (lgt m c t r) ⊥ := by
  rw [outsAt0_A m c t h0 h1 h2]
  frame_out
  obtain ⟨e1, e2, e3⟩ := coords_val t
  rw [canon_hit _ _ _ _ (ix3 (0 : Fin 1) (0 : Fin 1) n) (by intro a; fin_cases a <;> simp [ix3])]
  refine c1M _ _ _ _ _ _ (hd t) _ _ _ _ _ _ n _ _ e1 e2 e3 (by omega) (by omega) ?_ ?_ hr ?_
  · intro n d; pointwise; blk_ext
  · pointwise; blk_ext
  · rw [View.readCov_skip _ _ _ _ _ (by decide), View.readCov_fill _ _ _ _ _ (by decide)]
    exact pay1 _

/-- After a resetting point: the scratch denominator, chunk 0. -/
theorem lA0 (c : Dev nD) (t : Fin cfg0.N) (h0 : t.val % 2 = 0) (h1 : 2 * (t.val % 2) ≤ t.val / 2 % 4) (h2 : ¬t.val % 2 = 1) (n : Fin 256) (r : Fin 512)
    (hr : r.val = n.val) :
    (outsAt0 m c t.val t.isLt).2.2.1 (ix3 (0 : Fin 2) (0 : Fin 1) n) = stL (lgt m c t r) ⊥ 0 := by
  rw [outsAt0_A m c t h0 h1 h2]
  frame_out
  obtain ⟨e1, e2, e3⟩ := coords_val t
  rw [canon_miss _ _ _ _ ⟨0, Or.inl (by show (0 : ℕ) < 1; omega)⟩]
  rw [canon_hit _ _ _ _ (ix3 (0 : Fin 1) (0 : Fin 1) n) (by intro a; fin_cases a <;> simp [ix3])]
  refine c0L _ _ _ _ _ _ (hd t) _ _ _ _ _ _ _ n _ _ _ e1 e2 e3 (by omega) (by omega) ?_ ?_ hr ?_ ?_
  · intro n d; pointwise; blk_ext
  · pointwise; blk_ext
  · rw [View.readCov_fill _ _ _ _ _ (by decide)]
    exact pay1 _
  · rw [View.readCov_fill _ _ _ _ _ (by decide)]
    exact pay2 _

/-- After a resetting point: the scratch denominator, chunk 1. -/
theorem lA1 (c : Dev nD) (t : Fin cfg0.N) (h0 : t.val % 2 = 0) (h1 : 2 * (t.val % 2) ≤ t.val / 2 % 4) (h2 : ¬t.val % 2 = 1) (n : Fin 256) (r : Fin 512)
    (hr : r.val = 256 + n.val) :
    (outsAt0 m c t.val t.isLt).2.2.1 (ix3 (1 : Fin 2) (0 : Fin 1) n) = stL (lgt m c t r) ⊥ 0 := by
  rw [outsAt0_A m c t h0 h1 h2]
  frame_out
  obtain ⟨e1, e2, e3⟩ := coords_val t
  rw [canon_hit _ _ _ _ (ix3 (0 : Fin 1) (0 : Fin 1) n) (by intro a; fin_cases a <;> simp [ix3])]
  refine c1L _ _ _ _ _ _ (hd t) _ _ _ _ _ _ _ n _ _ _ e1 e2 e3 (by omega) (by omega) ?_ ?_ hr ?_ ?_
  · intro n d; pointwise; blk_ext
  · pointwise; blk_ext
  · rw [View.readCov_skip _ _ _ _ _ (by decide), View.readCov_fill _ _ _ _ _ (by decide)]
    exact pay1 _
  · rw [View.readCov_skip _ _ _ _ _ (by decide), View.readCov_fill _ _ _ _ _ (by decide)]
    exact pay2 _

/-- After a resetting point: the scratch numerator, chunk 0. -/
theorem aA0 (c : Dev nD) (t : Fin cfg0.N) (h0 : t.val % 2 = 0) (h1 : 2 * (t.val % 2) ≤ t.val / 2 % 4) (h2 : ¬t.val % 2 = 1) (d : Fin 128) (n : Fin 256) (r : Fin 512)
    (hr : r.val = n.val) :
    (outsAt0 m c t.val t.isLt).2.2.2 (ix3 (0 : Fin 2) d n) = stA (lgt m c t r) (vt m c t d) ⊥ 0 := by
  rw [outsAt0_A m c t h0 h1 h2]
  frame_out
  obtain ⟨e1, e2, e3⟩ := coords_val t
  rw [canon_miss _ _ _ _ ⟨0, Or.inl (by show (0 : ℕ) < 1; omega)⟩]
  rw [canon_hit _ _ _ _ (ix3 (0 : Fin 1) d n) (by intro a; fin_cases a <;> simp [ix3])]
  refine c0A _ _ _ _ _ _ _ (hd t) _ _ _ _ _ _ _ n d _ _ _ e1 e2 e3 (by omega) (by omega) ?_ ?_ hr ?_ ?_
  · intro n d; pointwise; blk_ext
  · pointwise; blk_ext
  · rw [View.readCov_fill _ _ _ _ _ (by decide)]
    exact pay1 _
  · rw [View.readCov_fill _ _ _ _ _ (by decide)]
    exact pay3 _

/-- After a resetting point: the scratch numerator, chunk 1. -/
theorem aA1 (c : Dev nD) (t : Fin cfg0.N) (h0 : t.val % 2 = 0) (h1 : 2 * (t.val % 2) ≤ t.val / 2 % 4) (h2 : ¬t.val % 2 = 1) (d : Fin 128) (n : Fin 256) (r : Fin 512)
    (hr : r.val = 256 + n.val) :
    (outsAt0 m c t.val t.isLt).2.2.2 (ix3 (1 : Fin 2) d n) = stA (lgt m c t r) (vt m c t d) ⊥ 0 := by
  rw [outsAt0_A m c t h0 h1 h2]
  frame_out
  obtain ⟨e1, e2, e3⟩ := coords_val t
  rw [canon_hit _ _ _ _ (ix3 (0 : Fin 1) d n) (by intro a; fin_cases a <;> simp [ix3])]
  refine c1A _ _ _ _ _ _ _ (hd t) _ _ _ _ _ _ _ n d _ _ _ e1 e2 e3 (by omega) (by omega) ?_ ?_ hr ?_ ?_
  · intro n d; pointwise; blk_ext
  · pointwise; blk_ext
  · rw [View.readCov_skip _ _ _ _ _ (by decide), View.readCov_fill _ _ _ _ _ (by decide)]
    exact pay1 _
  · rw [View.readCov_skip _ _ _ _ _ (by decide), View.readCov_fill _ _ _ _ _ (by decide)]
    exact pay3 _

/-- The point before. -/
def prv (t : Fin cfg0.N) : Fin cfg0.N := ⟨t.val - 1, Nat.lt_of_le_of_lt (Nat.sub_le _ _) t.isLt⟩

/-- A key tile entirely behind the query block: the output divides what the reset point left. -/
theorem oB (c : Dev nD) (t : Fin cfg0.N) (h0 : ¬t.val % 2 = 0) (h1 : ¬2 * (t.val % 2) ≤ t.val / 2 % 4) (h2 : t.val % 2 = 1) (r : Fin 512) (d : Fin 128) :
    (outsAt0 m c t.val t.isLt).1 (ix3 (0 : Fin 1) r d)
      = Ideal.div (stA (lgt m c (prv t) r) (vt m c (prv t) d) ⊥ 0) (stL (lgt m c (prv t) r) ⊥ 0) := by
  rw [outsAt0_B m c t h0 h1 h2]
  frame_out
  simp only [read_unread_whole]
  have p0 : (prv t).val % 2 = 0 := by show (t.val - 1) % 2 = 0; omega
  have p1 : 2 * ((prv t).val % 2) ≤ (prv t).val / 2 % 4 := by omega
  have p2 : ¬ (prv t).val % 2 = 1 := by omega
  by_cases hlt : r.val < 256
  · obtain ⟨n, hn⟩ : ∃ n : Fin 256, r.val = n.val := ⟨⟨r.val, hlt⟩, rfl⟩
    rw [canon_miss _ _ _ _ ⟨1, Or.inl (by show r.val < 256; omega)⟩]
    rw [canon_hit _ _ _ _ (ix3 (0 : Fin 1) n d) (by intro a; fin_cases a <;> simp [ix3, hn]), pay6]
    rw [← lA0 m c (prv t) p0 p1 p2 n r hn, ← aA0 m c (prv t) p0 p1 p2 d n r hn]
    refine congrArg₂ Ideal.div ?_ ?_
    · exact congrArg (outsAt0 m c (prv t).val (prv t).isLt).2.2.2 (by funext a; apply Fin.ext; rw [unit_idx]; fin_cases a <;> simp [ix3])
    · exact congrArg (outsAt0 m c (prv t).val (prv t).isLt).2.2.1 (by funext a; apply Fin.ext; rw [unit_idx]; fin_cases a <;> simp [ix3])
  · obtain ⟨n, hn⟩ : ∃ n : Fin 256, r.val = 256 + n.val := ⟨⟨r.val - 256, by omega⟩, by show r.val = 256 + (r.val - 256); omega⟩
    rw [canon_hit _ _ _ _ (ix3 (0 : Fin 1) n d) (by intro a; fin_cases a <;> simp [ix3, hn]), pay7]
    rw [← lA1 m c (prv t) p0 p1 p2 n r hn, ← aA1 m c (prv t) p0 p1 p2 d n r hn]
    refine congrArg₂ Ideal.div ?_ ?_
    · exact congrArg (outsAt0 m c (prv t).val (prv t).isLt).2.2.2 (by funext a; apply Fin.ext; rw [unit_idx]; fin_cases a <;> simp [ix3])
    · exact congrArg (outsAt0 m c (prv t).val (prv t).isLt).2.2.1 (by funext a; apply Fin.ext; rw [unit_idx]; fin_cases a <;> simp [ix3])

/-- A key tile that reaches the query block: the output divides what this tile's step leaves. -/
theorem oC (c : Dev nD) (t : Fin cfg0.N) (h0 : ¬t.val % 2 = 0) (h1 : 2 * (t.val % 2) ≤ t.val / 2 % 4) (h2 : t.val % 2 = 1) (r : Fin 512) (d : Fin 128) :
    (outsAt0 m c t.val t.isLt).1 (ix3 (0 : Fin 1) r d)
      = Ideal.div (stA (lgt m c t r) (vt m c t d) (stM (lgt m c (prv t) r) ⊥) (stA (lgt m c (prv t) r) (vt m c (prv t) d) ⊥ 0))
          (stL (lgt m c t r) (stM (lgt m c (prv t) r) ⊥) (stL (lgt m c (prv t) r) ⊥ 0)) := by
  rw [outsAt0_C m c t h0 h1 h2]
  frame_out
  simp only [read_unread_whole]
  obtain ⟨e1, e2, e3⟩ := coords_val t
  have p0 : (prv t).val % 2 = 0 := by show (t.val - 1) % 2 = 0; omega
  have p1 : 2 * ((prv t).val % 2) ≤ (prv t).val / 2 % 4 := by omega
  have p2 : ¬ (prv t).val % 2 = 1 := by omega
  by_cases hlt : r.val < 256
  · obtain ⟨n, hn⟩ : ∃ n : Fin 256, r.val = n.val := ⟨⟨r.val, hlt⟩, rfl⟩
    rw [canon_miss _ _ _ _ ⟨1, Or.inl (by show r.val < 256; omega)⟩]
    rw [canon_hit _ _ _ _ (ix3 (0 : Fin 1) n d) (by intro a; fin_cases a <;> simp [ix3, hn]), pay6]
    refine congrArg₂ Ideal.div ?_ ?_
    · rw [View.readCov_skip _ _ _ _ _ (by decide), View.readCov_cons_toLoadRect]
      refine c0A _ _ _ _ _ _ _ (hd t) _ _ _ _ _ _ _ n d _ _ _ e1 e2 e3 (by omega) (by omega) ?_ ?_ hn ?_ ?_
      · intro n d; pointwise; blk_ext
      · pointwise; blk_ext
      · rw [← mA0 m c (prv t) p0 p1 p2 n r hn]
        exact congrArg (outsAt0 m c (prv t).val (prv t).isLt).2.1 (by funext a; apply Fin.ext; rw [unit_idx]; fin_cases a <;> simp [ix3])
      · rw [← aA0 m c (prv t) p0 p1 p2 d n r hn]
        exact congrArg (outsAt0 m c (prv t).val (prv t).isLt).2.2.2 (by funext a; apply Fin.ext; rw [unit_idx]; fin_cases a <;> simp [ix3])
    · rw [View.readCov_skip _ _ _ _ _ (by decide), View.readCov_cons_toLoadRect]
      refine c0L _ _ _ _ _ _ (hd t) _ _ _ _ _ _ _ n _ _ _ e1 e2 e3 (by omega) (by omega) ?_ ?_ hn ?_ ?_
      · intro n d; pointwise; blk_ext
      · pointwise; blk_ext
      · rw [← mA0 m c (prv t) p0 p1 p2 n r hn]
        exact congrArg (outsAt0 m c (prv t).val (prv t).isLt).2.1 (by funext a; apply Fin.ext; rw [unit_idx]; fin_cases a <;> simp [ix3])
      · rw [← lA0 m c (prv t) p0 p1 p2 n r hn]
        exact congrArg (outsAt0 m c (prv t).val (prv t).isLt).2.2.1 (by funext a; apply Fin.ext; rw [unit_idx]; fin_cases a <;> simp [ix3])
  · obtain ⟨n, hn⟩ : ∃ n : Fin 256, r.val = 256 + n.val := ⟨⟨r.val - 256, by omega⟩, by show r.val = 256 + (r.val - 256); omega⟩
    rw [canon_hit _ _ _ _ (ix3 (0 : Fin 1) n d) (by intro a; fin_cases a <;> simp [ix3, hn]), pay7]
    refine congrArg₂ Ideal.div ?_ ?_
    · rw [View.readCov_cons_toLoadRect]
      refine c1A _ _ _ _ _ _ _ (hd t) _ _ _ _ _ _ _ n d _ _ _ e1 e2 e3 (by omega) (by omega) ?_ ?_ hn ?_ ?_
      · intro n d; pointwise; blk_ext
      · pointwise; blk_ext
      · rw [← mA1 m c (prv t) p0 p1 p2 n r hn]
        exact congrArg (outsAt0 m c (prv t).val (prv t).isLt).2.1 (by funext a; apply Fin.ext; rw [unit_idx]; fin_cases a <;> simp [ix3])
      · rw [← aA1 m c (prv t) p0 p1 p2 d n r hn]
        exact congrArg (outsAt0 m c (prv t).val (prv t).isLt).2.2.2 (by funext a; apply Fin.ext; rw [unit_idx]; fin_cases a <;> simp [ix3])
    · rw [View.readCov_cons_toLoadRect]
      refine c1L _ _ _ _ _ _ (hd t) _ _ _ _ _ _ _ n _ _ _ e1 e2 e3 (by omega) (by omega) ?_ ?_ hn ?_ ?_
      · intro n d; pointwise; blk_ext
      · pointwise; blk_ext
      · rw [← mA1 m c (prv t) p0 p1 p2 n r hn]
        exact congrArg (outsAt0 m c (prv t).val (prv t).isLt).2.1 (by funext a; apply Fin.ext; rw [unit_idx]; fin_cases a <;> simp [ix3])
      · rw [← lA1 m c (prv t) p0 p1 p2 n r hn]
        exact congrArg (outsAt0 m c (prv t).val (prv t).isLt).2.2.1 (by funext a; apply Fin.ext; rw [unit_idx]; fin_cases a <;> simp [ix3])

end Cert.KernelIdeal.Fox

end
end
-- ==== Proof.FoxMath.lean ====
module

public import proofs.«01_k».proof.Proof.FoxPay

@[expose] public section

noncomputable section

open Idealize.ShloMosaic

/-! The arithmetic of the softmax average over real logits, some of them masked to minus infinity. -/

namespace Cert.FoxMath

open Cert.KernelIdeal.Fox

/-- A finite sum of reals, read in the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section fold
variable {n : ℕ} (x : Fin n → EReal) (P : Fin n → Prop) [DecidablePred P] (a : Fin n → ℝ)
  (hx : ∀ k, x k = if P k then (a k : EReal) else ⊥)
include hx

/-- The largest logit is a real and the largest real one, when some logit is not masked. -/
theorem fold_real (h : ∃ k, P k) : ∃ k, P k ∧ Finset.univ.fold max (⊥ : EReal) x = (a k : EReal) ∧ ∀ l, P l → a l ≤ a k := by
  obtain ⟨k0, h0⟩ := h
  obtain ⟨k, hk, hmax⟩ := (Finset.univ.filter P).exists_max_image a ⟨k0, by simp [h0]⟩
  have hP : P k := (Finset.mem_filter.mp hk).2
  have hm : ∀ l, P l → a l ≤ a k := fun l hl => hmax l (by simp [hl])
  refine ⟨k, hP, le_antisymm ?_ ?_, hm⟩
  · refine (Finset.fold_max_le _).mpr ⟨bot_le, fun l _ => ?_⟩
    rw [hx l]
    split_ifs with hl
    · exact_mod_cast hm l hl
    · exact bot_le
  · refine (Finset.le_fold_max _).mpr (Or.inr ⟨k, Finset.mem_univ _, ?_⟩)
    rw [hx k, if_pos hP]

/-- The largest logit is never plus infinity. -/
theorem fold_lt_top : Finset.univ.fold max (⊥ : EReal) x < ⊤ := by
  refine (Finset.fold_max_lt _).mpr ⟨bot_lt_top, fun l _ => ?_⟩
  rw [hx l]
  split_ifs
  · exact EReal.coe_lt_top _
  · exact bot_lt_top

/-- The exponential of a shifted logit, base e: its unshifted weight, scaled. -/
theorem exp_shift (μ : ℝ) (k : Fin n) :
    Ideal.exp (x k - (μ : EReal)) = (((if P k then Real.exp (a k) else 0) * Real.exp (-μ) : ℝ) : EReal) := by
  rw [hx k]
  split_ifs
  · rw [← EReal.coe_sub, Ideal.exp_coe, ← Real.exp_add, sub_eq_add_neg]
  · simp

/-- The same in base two. -/
theorem exp2_shift (μ : ℝ) (k : Fin n) :
    Ideal.exp2 (x k - (μ : EReal)) = (((if P k then (2 : ℝ) ^ (a k) else 0) * (2 : ℝ) ^ (-μ) : ℝ) : EReal) := by
  rw [hx k]
  split_ifs
  · rw [← EReal.coe_sub, Ideal.exp2_coe, ← Real.rpow_add (by norm_num), sub_eq_add_neg]
    rfl
  · simp

/-- The softmax average with the largest logit taken off first and the weights normalized before they meet the values is the plain
    quotient of weighted sums. -/
theorem ref_value (v : Fin n → EReal) (u : Fin n → ℝ) (hv : ∀ k, v k = (u k : EReal)) (h : ∃ k, P k) (ε : ℝ) (hε : ε ≤ 1)
    (G : EReal) (hG : G = Finset.univ.fold max (⊥ : EReal) x) :
    (∑ k, v k * Ideal.div (Ideal.exp (x k - G)) (max (∑ l, Ideal.exp (x l - G)) (ε : EReal)))
      = (((∑ k, u k * (if P k then Real.exp (a k) else 0)) / (∑ k, if P k then Real.exp (a k) else 0) : ℝ) : EReal) := by
  obtain ⟨k, hk, hM, hm⟩ := fold_real x P a hx h
  subst hG
  simp only [hM, exp_shift x P a hx, hv, ← coe_sum', ← Finset.sum_mul]
  set S := ∑ l, (if P l then Real.exp (a l) else 0) with hS
  have hle : Real.exp (a k) ≤ S := by
    have := Finset.single_le_sum (f := fun l => if P l then Real.exp (a l) else 0) (fun l _ => by split_ifs; positivity; exact le_rfl) (Finset.mem_univ k)
    simpa [hk] using this
  have h1 : 1 ≤ S * Real.exp (-a k) := by
    calc (1 : ℝ) = Real.exp (a k) * Real.exp (-a k) := by rw [← Real.exp_add]; simp
      _ ≤ _ := by gcongr
  have hSpos : 0 < S := lt_of_lt_of_le (Real.exp_pos _) hle
  rw [max_eq_left (by exact_mod_cast hε.trans h1)]
  simp only [Ideal.div_coe (show S * Real.exp (-a k) ≠ 0 by positivity), ← EReal.coe_mul, ← coe_sum']
  congr 1
  rw [Finset.sum_div]
  refine Finset.sum_congr rfl fun l _ => ?_
  have := (Real.exp_pos (-a k)).ne'
  field_simp
end fold

section online
variable (x : Fin 1024 → EReal) (P : Fin 1024 → Prop) [DecidablePred P] (a : Fin 1024 → ℝ)
  (hx : ∀ k, x k = if P k then (a k : EReal) else ⊥) (v : Fin 1024 → EReal) (u : Fin 1024 → ℝ) (hv : ∀ k, v k = (u k : EReal))
include hx

/-- The running maximum after the first tile is a real. -/
theorem stM_first (h : ∃ k, P k) : ∃ μ : ℝ, stM x ⊥ = (μ : EReal) := by
  obtain ⟨k, -, hM, -⟩ := fold_real x P a hx h
  exact ⟨a k, by rw [Cert.KernelIdeal.Fox.stM, hM]; simp⟩

/-- A running maximum that is a real stays one. -/
theorem stM_next (μ : ℝ) : ∃ μ' : ℝ, stM x (μ : EReal) = (μ' : EReal) := by
  have h1 : stM x (μ : EReal) ≠ ⊤ := (max_lt (EReal.coe_lt_top _) (fold_lt_top x P a hx)).ne
  have h2 : stM x (μ : EReal) ≠ ⊥ := (lt_of_lt_of_le (EReal.bot_lt_coe μ) (le_max_left _ _)).ne'
  exact ⟨_, (EReal.coe_toReal h1 h2).symm⟩

/-- The running denominator after the first tile. -/
theorem stL_first (μ : ℝ) (hμ : stM x ⊥ = (μ : EReal)) :
    stL x ⊥ 0 = (((∑ k, if P k then (2 : ℝ) ^ (a k) else 0) * (2 : ℝ) ^ (-μ) : ℝ) : EReal) := by
  rw [stL, hμ]
  simp only [exp2_shift x P a hx, ← coe_sum', ← Finset.sum_mul]
  simp

/-- The running denominator after a later tile. -/
theorem stL_next (μ μ' S : ℝ) (hμ : stM x (μ : EReal) = (μ' : EReal)) :
    stL x (μ : EReal) ((S * (2 : ℝ) ^ (-μ) : ℝ) : EReal)
      = (((S + ∑ k, if P k then (2 : ℝ) ^ (a k) else 0) * (2 : ℝ) ^ (-μ') : ℝ) : EReal) := by
  rw [stL, hμ]
  simp only [exp2_shift x P a hx, ← coe_sum', ← Finset.sum_mul]
  rw [← EReal.coe_sub, Ideal.exp2_coe, ← EReal.coe_mul, ← EReal.coe_add]
  congr 1
  have : Real.rpow 2 (μ - μ') * (S * (2 : ℝ) ^ (-μ)) = S * (2 : ℝ) ^ (-μ') := by
    show (2 : ℝ) ^ (μ - μ') * (S * (2 : ℝ) ^ (-μ)) = _
    rw [mul_left_comm, ← Real.rpow_add (by norm_num)]
    congr 2
    ring
  rw [this, add_mul]

include hv

/-- The running numerator after the first tile. -/
theorem stA_first (μ : ℝ) (hμ : stM x ⊥ = (μ : EReal)) :
    stA x v ⊥ 0 = (((∑ k, u k * (if P k then (2 : ℝ) ^ (a k) else 0)) * (2 : ℝ) ^ (-μ) : ℝ) : EReal) := by
  rw [stA, hμ]
  simp only [exp2_shift x P a hx, hv, ← EReal.coe_mul, ← mul_assoc, ← coe_sum', ← Finset.sum_mul]
  simp

/-- The running numerator after a later tile. -/
theorem stA_next (μ μ' T : ℝ) (hμ : stM x (μ : EReal) = (μ' : EReal)) :
    stA x v (μ : EReal) ((T * (2 : ℝ) ^ (-μ) : ℝ) : EReal)
      = (((T + ∑ k, u k * (if P k then (2 : ℝ) ^ (a k) else 0)) * (2 : ℝ) ^ (-μ') : ℝ) : EReal) := by
  rw [stA, hμ]
  simp only [exp2_shift x P a hx, hv, ← EReal.coe_mul, ← mul_assoc, ← coe_sum', ← Finset.sum_mul]
  rw [← EReal.coe_sub, Ideal.exp2_coe, ← EReal.coe_mul, ← EReal.coe_add]
  congr 1
  have : Real.rpow 2 (μ - μ') * (T * (2 : ℝ) ^ (-μ)) = T * (2 : ℝ) ^ (-μ') := by
    show (2 : ℝ) ^ (μ - μ') * (T * (2 : ℝ) ^ (-μ)) = _
    rw [mul_left_comm, ← Real.rpow_add (by norm_num)]
    congr 2
    ring
  rw [this, add_mul]
end online

/-- A quotient of two sums of the same positive scale. -/
theorem div_scale (T S μ : ℝ) (hS : 0 < S) :
    Ideal.div ((T * (2 : ℝ) ^ (-μ) : ℝ) : EReal) ((S * (2 : ℝ) ^ (-μ) : ℝ) : EReal) = ((T / S : ℝ) : EReal) := by
  have hp : (0 : ℝ) < (2 : ℝ) ^ (-μ) := Real.rpow_pos_of_pos (by norm_num) _
  rw [Ideal.div_coe (by positivity), ← EReal.coe_mul]
  congr 1
  field_simp

/-- A sum of weights, one of them not masked, is positive. -/
theorem wsum_pos (P : Fin 1024 → Prop) [DecidablePred P] (a : Fin 1024 → ℝ) (h : ∃ k, P k) :
    0 < ∑ k, if P k then (2 : ℝ) ^ (a k) else 0 := by
  obtain ⟨k, hk⟩ := h
  refine Finset.sum_pos' (fun l _ => ?_) ⟨k, Finset.mem_univ _, ?_⟩
  · split_ifs
    · exact (Real.rpow_pos_of_pos (by norm_num) _).le
    · exact le_rfl
  · rw [if_pos hk]; exact Real.rpow_pos_of_pos (by norm_num) _

/-- A sum of weights is not negative. -/
theorem wsum_nonneg (P : Fin 1024 → Prop) [DecidablePred P] (a : Fin 1024 → ℝ) :
    0 ≤ ∑ k, if P k then (2 : ℝ) ^ (a k) else 0 := by
  refine Finset.sum_nonneg fun l _ => ?_
  split_ifs
  · exact (Real.rpow_pos_of_pos (by norm_num) _).le
  · exact le_rfl

section two
variable (x0 x1 : Fin 1024 → EReal) (P0 P1 : Fin 1024 → Prop) [DecidablePred P0] [DecidablePred P1] (a0 a1 : Fin 1024 → ℝ)
  (hx0 : ∀ k, x0 k = if P0 k then (a0 k : EReal) else ⊥) (hx1 : ∀ k, x1 k = if P1 k then (a1 k : EReal) else ⊥)
  (v0 v1 : Fin 1024 → EReal) (u0 u1 : Fin 1024 → ℝ) (hv0 : ∀ k, v0 k = (u0 k : EReal)) (hv1 : ∀ k, v1 k = (u1 k : EReal))
  (h : ∃ k, P0 k)

include hx0 hv0 h in
/-- One tile: what is divided out. -/
theorem ker_one : Ideal.div (stA x0 v0 ⊥ 0) (stL x0 ⊥ 0)
    = (((∑ k, u0 k * (if P0 k then (2 : ℝ) ^ (a0 k) else 0)) / (∑ k, if P0 k then (2 : ℝ) ^ (a0 k) else 0) : ℝ) : EReal) := by
  obtain ⟨μ, hμ⟩ := stM_first x0 P0 a0 hx0 h
  rw [stA_first x0 P0 a0 hx0 v0 u0 hv0 μ hμ, stL_first x0 P0 a0 hx0 μ hμ, div_scale _ _ _ (wsum_pos P0 a0 h)]

include hx0 hx1 hv0 hv1 h in
/-- Two tiles: what is divided out. -/
theorem ker_two : Ideal.div (stA x1 v1 (stM x0 ⊥) (stA x0 v0 ⊥ 0)) (stL x1 (stM x0 ⊥) (stL x0 ⊥ 0))
    = ((((∑ k, u0 k * (if P0 k then (2 : ℝ) ^ (a0 k) else 0)) + ∑ k, u1 k * (if P1 k then (2 : ℝ) ^ (a1 k) else 0))
        / ((∑ k, if P0 k then (2 : ℝ) ^ (a0 k) else 0) + ∑ k, if P1 k then (2 : ℝ) ^ (a1 k) else 0) : ℝ) : EReal) := by
  obtain ⟨μ, hμ⟩ := stM_first x0 P0 a0 hx0 h
  obtain ⟨μ', hμ'⟩ := stM_next x1 P1 a1 hx1 μ
  rw [stA_first x0 P0 a0 hx0 v0 u0 hv0 μ hμ, stL_first x0 P0 a0 hx0 μ hμ, hμ, stA_next x1 P1 a1 hx1 v1 u1 hv1 μ μ' _ hμ',
    stL_next x1 P1 a1 hx1 μ μ' _ hμ', div_scale _ _ _ (add_pos_of_pos_of_nonneg (wsum_pos P0 a0 h) (wsum_nonneg P1 a1))]
end two

end Cert.FoxMath

end
end
-- ==== Proof.FoxArr.lean ====
module

public import proofs.«01_k».proof.Proof.FoxPoint
public import proofs.«01_k».proof.Proof.FoxMath
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FoxMath

/-- The dot product of a query row and a key row of one head. -/
def qk (z : (⟨3, ![4, 2048, 6144]⟩ : Shape).Idx → ℝ) (b : Fin 4) (i k : Fin 2048) (g : Fin 8) : ℝ :=
  ∑ d : Fin 128, z (ix3 b i ⟨2560 + (128 * g.val + d.val), by omega⟩) * z (ix3 b k ⟨3584 + (128 * g.val + d.val), by omega⟩)

/-- The logit of a key for a query: the scaled dot product plus the log of the decay between them. -/
def lo (z : (⟨3, ![4, 2048, 6144]⟩ : Shape).Idx → ℝ) (f : (⟨3, ![4, 2048, 128]⟩ : Shape).Idx → ℝ) (b : Fin 4) (i k : Fin 2048) (g : Fin 8) : ℝ :=
  qk z b i k g * (Real.sqrt 128)⁻¹ + f (ix3 b i ⟨24 + g.val, by omega⟩) - f (ix3 b k ⟨24 + g.val, by omega⟩)

/-- The attention's output: the weighted mean of the values of the keys up to the query. -/
def attn (z : (⟨3, ![4, 2048, 6144]⟩ : Shape).Idx → ℝ) (f : (⟨3, ![4, 2048, 128]⟩ : Shape).Idx → ℝ) (b : Fin 4) (i : Fin 2048) (n : Fin 1024) : ℝ :=
  (∑ k : Fin 2048, z (ix3 b k ⟨4608 + n.val, by omega⟩) * (if k.val ≤ i.val then Real.exp (lo z f b i k ⟨n.val / 128, by omega⟩) else 0))
    / ∑ k : Fin 2048, if k.val ≤ i.val then Real.exp (lo z f b i k ⟨n.val / 128, by omega⟩) else 0

/-- A sum over all keys is the sum over the first tile plus that over the second. -/
theorem sum_tiles (h : Fin 2048 → ℝ) : ∑ k, h k
    = (∑ k : Fin 1024, h ⟨1024 * 0 + k.val, by omega⟩) + ∑ k : Fin 1024, h ⟨1024 * 1 + k.val, by omega⟩ := by
  rw [show (∑ k, h k) = ∑ k : Fin (1024 + 1024), h k from rfl, Fin.sum_univ_add]
  congr 1 <;> refine Finset.sum_congr rfl fun k _ => congrArg h (Fin.ext ?_)
  all_goals simp

end Cert.FoxMath

namespace Cert.KernelIdeal.Fox

open Cert.KernelIdeal Cert.KernelIdeal.Gen Cert.FoxMath

variable (m : (ℓ : Loc nD τ sig) → Buf (Elt Ideal) ℓ)

/-- Which block of its array each window holds at a point. -/
theorem idx : ∀ t : Fin cfg0.N,
    win0_0.index t = ![t.val / 64, t.val / 2 % 4, 20 + t.val / 8 % 8]
    ∧ win0_1.index t = ![t.val / 64, min (t.val % 2) (t.val / 2 % 4 / 2), 28 + t.val / 8 % 8]
    ∧ win0_2.index t = ![t.val / 64, min (t.val % 2) (t.val / 2 % 4 / 2), 36 + t.val / 8 % 8]
    ∧ win0_3.index t = ![t.val / 64, t.val / 8 % 8, 0, t.val / 2 % 4]
    ∧ win0_4.index t = ![t.val / 64, min (t.val % 2) (t.val / 2 % 4 / 2), 0]
    ∧ win0_5.index t = ![t.val / 64, t.val / 2 % 4, t.val / 8 % 8] :=
  (by decide +kernel : ∀ t : Fin grid0.N, _)

/-- The batch entry of a point. -/
def bt (t : Fin cfg0.N) : Fin 4 := ⟨t.val / 64, by have : t.val < 256 := t.isLt; omega⟩
/-- The query of a row of a point's block. -/
def qr (t : Fin cfg0.N) (r : Fin 512) : Fin 2048 := ⟨512 * (t.val / 2 % 4) + r.val, by omega⟩
/-- The key of a row of a point's key block. -/
def kr (t : Fin cfg0.N) (k : Fin 1024) : Fin 2048 := ⟨1024 * (t.val % 2) + k.val, by omega⟩

section real
variable (c : Dev nD) (z : S4x2048x6144.Idx → ℝ) (f : S4x2048x128.Idx → ℝ)
  (hz : ∀ i, (m ((c.tc : Thread nD τ).loc main_arg0) : FVec Ideal S4x2048x6144 .f32) i = ((z i : ℝ) : EReal))
  (hf : ∀ i, (m ((c.tc : Thread nD τ).loc main_arg1) : FVec Ideal S4x2048x128 .f32) i = ((f i : ℝ) : EReal))

/-- The base-two logit the kernel forms, over the reals. -/
def al (t : Fin cfg0.N) (r : Fin 512) (k : Fin 1024) : ℝ :=
  (∑ d : Fin 128, z (ix3 (bt t) (kr t k) ⟨3584 + (128 * (hd t).val + d.val), by omega⟩) * (z (ix3 (bt t) (qr t r) ⟨2560 + (128 * (hd t).val + d.val), by omega⟩) * qs))
    + (f (ix3 (bt t) (qr t 0) ⟨24 + (hd t).val, by omega⟩) - f (ix3 (bt t) (kr t k) ⟨24 + (hd t).val, by omega⟩)) * lu

include hz hf in
/-- The block logits are masked reals. -/
theorem lgt_real (t : Fin cfg0.N) (h1 : 2 * (t.val % 2) ≤ t.val / 2 % 4) (r : Fin 512) (k : Fin 1024) :
    lgt m c t r k = if (kr t k).val ≤ (qr t r).val then ((al z f t r k : ℝ) : EReal) else ⊥ := by
  have eK : ∀ d : Fin 128, (iblk m c 1 t : FVec Ideal S1x1024x128 .f32) (ix3 (0 : Fin 1) k d)
      = ((z (ix3 (bt t) (kr t k) ⟨3584 + (128 * (hd t).val + d.val), by omega⟩) : ℝ) : EReal) := by
    intro d; rw [← hz]; blk_ext [iblk, V, idx t, bt, kr, hd]
  have eQ : ∀ d : Fin 128, (iblk m c 0 t : FVec Ideal S1x512x128 .f32) (ix3 (0 : Fin 1) r d)
      = ((z (ix3 (bt t) (qr t r) ⟨2560 + (128 * (hd t).val + d.val), by omega⟩) : ℝ) : EReal) := by
    intro d; rw [← hz]; blk_ext [iblk, V, idx t, bt, qr, hd]
  have eF : (iblk m c 4 t : FVec Ideal S1x1024x128 .f32) (ix3 (0 : Fin 1) k ⟨24 + (hd t).val, by omega⟩)
      = ((f (ix3 (bt t) (kr t k) ⟨24 + (hd t).val, by omega⟩) : ℝ) : EReal) := by
    rw [← hf]; blk_ext [iblk, V, idx t, bt, kr, hd]
  have eq : (iblk m c 3 t : FVec Ideal S1x1x1x512 .f32) (ix4 (0 : Fin 1) (0 : Fin 1) (0 : Fin 1) (0 : Fin 512))
      = ((f (ix3 (bt t) (qr t 0) ⟨24 + (hd t).val, by omega⟩) : ℝ) : EReal) := by
    rw [← hf]; blk_point [iblk, V, idx t, bt, qr, hd]
  show (if 1024 * (t.val % 2) + k.val ≤ 512 * (t.val / 2 % 4) + r.val then _ else _) = _
  refine if_congr Iff.rfl ?_ rfl
  rw [eq, eF]
  simp only [eK, eQ, ← EReal.coe_mul, ← coe_sum', ← EReal.coe_sub, ← EReal.coe_add]
  rfl

include hz in
/-- The value block is real. -/
theorem vt_real (t : Fin cfg0.N) (h1 : 2 * (t.val % 2) ≤ t.val / 2 % 4) (d : Fin 128) (k : Fin 1024) :
    vt m c t d k = ((z (ix3 (bt t) (kr t k) ⟨4608 + (128 * (hd t).val + d.val), by omega⟩) : ℝ) : EReal) := by
  rw [← hz, vt]; blk_ext [iblk, V, idx t, bt, kr, hd]

/-- The kernel's weight of a key: the reference's, scaled by a factor of the query alone. -/
theorem weight (t : Fin cfg0.N) (r : Fin 512) (k : Fin 1024) :
    (2 : ℝ) ^ (al z f t r k) = Real.exp (lo z f (bt t) (qr t r) (kr t k) (hd t))
      * Real.exp (f (ix3 (bt t) (qr t 0) ⟨24 + (hd t).val, by omega⟩) - f (ix3 (bt t) (qr t r) ⟨24 + (hd t).val, by omega⟩)) := by
  have h2 : Real.log 2 ≠ 0 := (Real.log_pos (by norm_num)).ne'
  rw [Real.rpow_def_of_pos (by norm_num), ← Real.exp_add]
  congr 1
  have : (∑ d : Fin 128, z (ix3 (bt t) (kr t k) ⟨3584 + (128 * (hd t).val + d.val), by omega⟩) * (z (ix3 (bt t) (qr t r) ⟨2560 + (128 * (hd t).val + d.val), by omega⟩) * qs))
      = qk z (bt t) (qr t r) (kr t k) (hd t) * qs := by
    rw [qk, Finset.sum_mul]
    exact Finset.sum_congr rfl fun d _ => by ring
  rw [al, this, lo, qs, lu]
  field_simp
  ring
include hz hf in
/-- What a point that writes its output block leaves there: the attention's output at the block's queries and head. -/
theorem point (t : Fin cfg0.N) (ht : t.val % 2 = 1) (r : Fin 512) (d : Fin 128) :
    (outsAt0 m c t.val t.isLt).1 (ix3 (0 : Fin 1) r d)
      = ((attn z f (bt t) (qr t r) ⟨128 * (hd t).val + d.val, by omega⟩ : ℝ) : EReal) := by
  have hp : (prv t).val = t.val - 1 := rfl
  have q0 : (prv t).val % 2 = 0 := by omega
  have q1 : 2 * ((prv t).val % 2) ≤ (prv t).val / 2 % 4 := by omega
  have hb : bt (prv t) = bt t := Fin.ext (by show (prv t).val / 64 = t.val / 64; omega)
  have hq : ∀ r, qr (prv t) r = qr t r := fun r => Fin.ext (by show 512 * ((prv t).val / 2 % 4) + _ = 512 * (t.val / 2 % 4) + _; omega)
  have hh : hd (prv t) = hd t := Fin.ext (by show (prv t).val / 8 % 8 = t.val / 8 % 8; omega)
  have hk0 : ∀ k, kr (prv t) k = ⟨1024 * 0 + k.val, by omega⟩ := fun k => Fin.ext (by show 1024 * ((prv t).val % 2) + k.val = 1024 * 0 + k.val; omega)
  have hk1 : ∀ k, kr t k = ⟨1024 * 1 + k.val, by omega⟩ := fun k => Fin.ext (by show 1024 * (t.val % 2) + k.val = 1024 * 1 + k.val; omega)
  have hx0 := lgt_real m c z f hz hf (prv t) q1 r
  have hv0 := vt_real m c z hz (prv t) q1 d
  have hP0 : ∃ k, (kr (prv t) k).val ≤ (qr (prv t) r).val := ⟨0, by rw [hk0]; exact Nat.zero_le _⟩
  set E := Real.exp (f (ix3 (bt t) (qr t 0) ⟨24 + (hd t).val, by omega⟩) - f (ix3 (bt t) (qr t r) ⟨24 + (hd t).val, by omega⟩)) with hE
  have hEpos : 0 < E := Real.exp_pos _
  have w0 : ∀ k, (if (kr (prv t) k).val ≤ (qr (prv t) r).val then (2 : ℝ) ^ (al z f (prv t) r k) else 0)
      = (if 1024 * 0 + k.val ≤ (qr t r).val then Real.exp (lo z f (bt t) (qr t r) ⟨1024 * 0 + k.val, by omega⟩ (hd t)) else 0) * E := by
    intro k
    rw [weight z f (prv t) r k]
    simp only [hb, hq, hh, hk0]
    rw [ite_mul, zero_mul]
  have w1 : ∀ k, (if (kr t k).val ≤ (qr t r).val then (2 : ℝ) ^ (al z f t r k) else 0)
      = (if 1024 * 1 + k.val ≤ (qr t r).val then Real.exp (lo z f (bt t) (qr t r) ⟨1024 * 1 + k.val, by omega⟩ (hd t)) else 0) * E := by
    intro k
    rw [weight z f t r k]
    simp only [hk1]
    rw [ite_mul, zero_mul]
  have hg : (⟨(128 * (hd t).val + d.val) / 128, by omega⟩ : Fin 8) = hd t := Fin.ext (by show (128 * (hd t).val + d.val) / 128 = _; omega)
  rw [attn, sum_tiles, sum_tiles]
  simp only [hg]
  by_cases h1 : 2 * (t.val % 2) ≤ t.val / 2 % 4
  · rw [oC m c t (by omega) h1 ht r d,
      ker_two _ _ _ _ _ _ hx0 (lgt_real m c z f hz hf t h1 r) _ _ _ _ hv0 (vt_real m c z hz t h1 d) hP0]
    congr 1
    simp only [w0, w1]
    simp only [hb, hh, hk0, hk1]
    simp only [← mul_assoc, ← Finset.sum_mul, ← add_mul]
    rw [mul_div_mul_right _ _ hEpos.ne']
  · rw [oB m c t (by omega) h1 ht r d, ker_one _ _ _ hx0 _ _ hv0 hP0]
    congr 1
    have z1 : ∀ k : Fin 1024, ¬ (1024 * 1 + k.val ≤ (qr t r).val) := by
      intro k
      show ¬ (1024 * 1 + k.val ≤ 512 * (t.val / 2 % 4) + r.val)
      omega
    simp only [z1, if_false, mul_zero, Finset.sum_const_zero, add_zero]
    simp only [w0]
    simp only [hb, hh, hk0]
    simp only [← mul_assoc, ← Finset.sum_mul]
    rw [mul_div_mul_right _ _ hEpos.ne']
    simp only [Nat.mul_zero]

include hz hf in
/-- The output array after the run is the attention's output. -/
theorem final : (dats m 0 c).arrAt 5 cfg0.N = fun i : S4x2048x1024.Idx => ((attn z f (i 0) (i 1) (i 2) : ℝ) : EReal) := by
  refine (dats m 0 c).arrAt_eq_of_covers 5 _ (by decide +kernel) fun t hf' y => ?_
  blk_simp
  rw [after0_5]
  obtain ⟨y0, r, d, rfl⟩ : ∃ (y0 : Fin 1) (r : Fin 512) (d : Fin 128), y = ix3 y0 r d := ⟨y 0, y 1, y 2, by blk_ext⟩
  obtain rfl : y0 = 0 := Subsingleton.elim _ _
  refine (point m c z f hz hf t ((flush0_5 t).mp hf') r d).trans ?_
  refine congrArg _ ?_
  congr 1 <;> apply Fin.ext <;> blk_simp [idx t, bt, qr, hd]
  all_goals first | rfl | (dsimp only; omega)
end real

end Cert.KernelIdeal.Fox

end
end
-- ==== Proof.FoxRef.lean ====
module

public import proofs.«01_k».proof.Proof.FoxArr
public import proofs.«01_k».proof.Defs
public import proofs.«01_k».proof.Proof.Gen.ReferenceIdeal.Run
public import proofs.«01_k».proof.Proof.Gen.Pre_finite
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen Cert.ReferenceIdeal.Value Cert.FoxMath

/-- The reference's masked logits. -/
def refL (Z : FVec Ideal S4x2048x6144 .f32) (F : FVec Ideal S4x2048x128 .f32) : FVec Ideal S4x8x2048x2048 .f32 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (Host.divf (Host.dotGeneral dot_S4x2048x8x128_S4x2048x8x128_S4x8x2048x2048_3_3_1_1_02_02 none (shapeCast _ (extractStridedSlice S4x2048x1024 ![0, 0, 2560] Z slices_S4x2048x6144_S4x2048x1024_0_0_2560) shapeCasts_S4x2048x1024_S4x2048x8x128) (shapeCast _ (extractStridedSlice S4x2048x1024 ![0, 0, 3584] Z slices_S4x2048x6144_S4x2048x1024_0_0_3584) shapeCasts_S4x2048x1024_S4x2048x8x128)) (broadcastInDim S4x8x2048x2048 ![] bcast_S_S4x8x2048x2048 (Host.sqrt (constant S_ .f32 0x43000000#32)))) (broadcastInDim S4x8x2048x2048 ![0, 1, 2, 3] bcast_S4x8x2048x1_S4x8x2048x2048_0_1_2_3 (broadcastInDim S4x8x2048x1 ![0, 1, 2] bcast_S4x8x2048_S4x8x2048x1_0_1_2 (transpose S4x8x2048 [0, 2, 1] (extractStridedSlice S4x2048x8 ![0, 0, 24] F slices_S4x2048x128_S4x2048x8_0_0_24) transposes_S4x2048x8_S4x8x2048_0_2_1)))) (broadcastInDim S4x8x2048x2048 ![0, 1, 2, 3] bcast_S4x8x1x2048_S4x8x2048x2048_0_1_2_3 (broadcastInDim S4x8x1x2048 ![0, 1, 3] bcast_S4x8x2048_S4x8x1x2048_0_1_3 (transpose S4x8x2048 [0, 2, 1] (extractStridedSlice S4x2048x8 ![0, 0, 24] F slices_S4x2048x128_S4x2048x8_0_0_24) transposes_S4x2048x8_S4x8x2048_0_2_1)))) (broadcastInDim S4x8x2048x2048 ![] bcast_S_S4x8x2048x2048 (id (constant S_ .f32 0xFF800000#32)))

/-- Each row's largest logit. -/
def refM (L : FVec Ideal S4x8x2048x2048 .f32) : FVec Ideal S4x8x2048x1 .f32 :=
  broadcastInDim S4x8x2048x1 ![0, 1, 2] bcast_S4x8x2048_S4x8x2048x1_0_1_2 (Host.reduce FloatOps.maximumf L (constant S_ .f32 0xFF800000#32) reducesTo_S4x8x2048x2048_S4x8x2048_d3 h_S_)

/-- What the reference takes off its logits: each row's largest, where that is finite. -/
def refG (M : FVec Ideal S4x8x2048x1 .f32) : FVec Ideal S4x8x2048x2048 .f32 :=
  broadcastInDim S4x8x2048x2048 ![0, 1, 2, 3] bcast_S4x8x2048x1_S4x8x2048x2048_0_1_2_3 (select (cmpf .olt (Host.absf M) (broadcastInDim S4x8x2048x1 ![] bcast_S_S4x8x2048x1 (constant S_ .f32 0x7F800000#32))) M (broadcastInDim S4x8x2048x1 ![] bcast_S_S4x8x2048x1 (id (constant S_ .f32 0x00000000#32))))

/-- The reference's normalized sum of values, of the exponentials. -/
def refO (E : FVec Ideal S4x8x2048x2048 .f32) (Z : FVec Ideal S4x2048x6144 .f32) : FVec Ideal S4x2048x1024 .f32 :=
  shapeCast _ (transpose S4x2048x8x128 [0, 3, 1, 2] (Host.dotGeneral dot_S4x2048x8x128_S4x8x2048x2048_S4x8x128x2048_1_3_3_2_02_01 none (shapeCast _ (extractStridedSlice S4x2048x1024 ![0, 0, 4608] Z slices_S4x2048x6144_S4x2048x1024_0_0_4608) shapeCasts_S4x2048x1024_S4x2048x8x128) (Host.divf E (broadcastInDim S4x8x2048x2048 ![0, 1, 2, 3] bcast_S4x8x2048x1_S4x8x2048x2048_0_1_2_3 (maximumf (broadcastInDim S4x8x2048x1 ![0, 1, 2] bcast_S4x8x2048_S4x8x2048x1_0_1_2 (Host.reduceAdd E (constant S_ .f32 0x00000000#32) reducesTo_S4x8x2048x2048_S4x8x2048_d3 h_S_)) (broadcastInDim S4x8x2048x1 ![] bcast_S_S4x8x2048x1 (constant S_ .f32 0x0DA24260#32)))))) transposes_S4x8x128x2048_S4x2048x8x128_0_3_1_2) shapeCasts_S4x2048x8x128_S4x2048x1024

/-- The word comparison of two positions is the comparison of the positions. -/
theorem cmp_word (k i : Fin 2048) {α : Type} (x y : α) :
    Scalar.select (IntOp.cmpi CmpIPredicate.sle (BitVec.ofNat 32 k.val) (BitVec.ofNat 32 i.val)) x y = if k.val ≤ i.val then x else y := by
  have hv : ∀ j : Fin 2048, (BitVec.ofNat 32 j.val).toInt = j.val := by
    intro j
    rw [BitVec.toInt_eq_toNat_of_lt] <;> simp only [BitVec.toNat_ofNat] <;> omega
  by_cases h : k.val ≤ i.val
  · have : (BitVec.ofNat 32 k.val).sle (BitVec.ofNat 32 i.val) = true := by
      rw [BitVec.sle_eq_decide, hv, hv]; simpa using h
    simp [Scalar.select, IntOp.cmpi, this, h]
  · have : (BitVec.ofNat 32 k.val).sle (BitVec.ofNat 32 i.val) = false := by
      rw [BitVec.sle_eq_decide, hv, hv]; simpa using h
    simp [Scalar.select, IntOp.cmpi, this, h]

/-- The root of the head's width. -/
theorem sqrt_val : Ideal.sqrt (Ideal.ofBits FTy.f32 1124073472#32) = ((Real.sqrt 128 : ℝ) : EReal) := by
  have : Ideal.ofBits FTy.f32 1124073472#32 = ((128 : ℝ) : EReal) := by
    simp [Ideal.ofBits, Ideal.ieee]
    rw [← EReal.coe_mul]
    norm_num
  rw [this]
  show (if (128 : ℝ) < 0 then (⊥ : EReal) else ((Real.sqrt 128 : ℝ) : EReal)) = _
  rw [if_neg (by norm_num)]

/-- The guard of the denominator is a real of at most one. -/
theorem eps_val : ∃ ε : ℝ, ε ≤ 1 ∧ Ideal.ofBits FTy.f32 228737632#32 = (ε : EReal) := by
  refine ⟨_, ?_, by simp [Ideal.ofBits, Ideal.ieee]; rfl⟩
  norm_num

/-- The pattern of plus infinity. -/
theorem inf_val : Ideal.ofBits FTy.f32 2139095040#32 = ⊤ := by
  simp [Ideal.ofBits, Ideal.ieee]

/-- The masked logits at an index. -/
theorem refL_at (Z : FVec Ideal S4x2048x6144 .f32) (F : FVec Ideal S4x2048x128 .f32) (b : Fin 4) (g : Fin 8) (i k : Fin 2048) :
    refL Z F (ix4 b g i k) = if k.val ≤ i.val then
      Ideal.div (∑ d : Fin 128, Z (ix3 b i ⟨2560 + (128 * g.val + d.val), by omega⟩) * Z (ix3 b k ⟨3584 + (128 * g.val + d.val), by omega⟩)) ((Real.sqrt 128 : ℝ) : EReal)
        + F (ix3 b i ⟨24 + g.val, by omega⟩) - F (ix3 b k ⟨24 + g.val, by omega⟩) else ⊥ := by
  pointwise [refL]
  rw [cmp_word, sqrt_val]
  refine if_congr Iff.rfl ?_ Cert.KernelIdeal.Fox.ninf_val
  simp only [Nat.mul_comm]

/-- The largest logit of a row. -/
theorem refM_at (L : FVec Ideal S4x8x2048x2048 .f32) (b : Fin 4) (g : Fin 8) (i : Fin 2048) :
    refM L (ix4 b g i (0 : Fin 1)) = Finset.univ.fold max (⊥ : EReal) fun k : Fin 2048 => L (ix4 b g i k) := by
  pointwise [refM]
  rw [Cert.KernelIdeal.Fox.ninf_val]

/-- What is taken off, at an index whose row's largest logit is a real. -/
theorem refG_at (M : FVec Ideal S4x8x2048x1 .f32) (b : Fin 4) (g : Fin 8) (i k : Fin 2048) (a : ℝ) (h : M (ix4 b g i (0 : Fin 1)) = (a : EReal)) :
    refG M (ix4 b g i k) = (a : EReal) := by
  pointwise [refG]
  rw [h, inf_val]
  refine if_pos ?_
  show max (a : EReal) (-(a : EReal)) < ⊤
  exact max_lt (EReal.coe_lt_top _) (by rw [← EReal.coe_neg]; exact EReal.coe_lt_top _)

/-- The result at an index. -/
theorem refO_at (E : FVec Ideal S4x8x2048x2048 .f32) (Z : FVec Ideal S4x2048x6144 .f32) (b : Fin 4) (i : Fin 2048) (n : Fin 1024) :
    refO E Z (ix3 b i n) = ∑ k : Fin 2048, Z (ix3 b k ⟨4608 + n.val, by omega⟩) *
      Ideal.div (E (ix4 b (⟨n.val / 128, by omega⟩ : Fin 8) i k)) (max (∑ l : Fin 2048, E (ix4 b (⟨n.val / 128, by omega⟩ : Fin 8) i l)) (Ideal.ofBits FTy.f32 228737632#32)) := by
  pointwise [refO]

variable (m : (ℓ : Loc nD τ sig) → Buf (Elt Ideal) ℓ) (c : Dev nD)

/-- The reference's result, in these parts. -/
theorem res_eq : res_out0 m c = refO (Host.exp (subf (refL (m ((c.tc : Thread nD τ).loc main_arg0)) (m ((c.tc : Thread nD τ).loc main_arg1)))
    (refG (refM (refL (m ((c.tc : Thread nD τ).loc main_arg0)) (m ((c.tc : Thread nD τ).loc main_arg1))))))) (m ((c.tc : Thread nD τ).loc main_arg0)) := by
  unfold res_out0 res_main_v43 refO refG refM refL
  rfl

/-- The reference's result over reals is the attention's output. -/
theorem ref_at (Z : FVec Ideal S4x2048x6144 .f32) (F : FVec Ideal S4x2048x128 .f32) (z : S4x2048x6144.Idx → ℝ) (f : S4x2048x128.Idx → ℝ)
    (hz : ∀ i, Z i = ((z i : ℝ) : EReal)) (hf : ∀ i, F i = ((f i : ℝ) : EReal)) (b : Fin 4) (i : Fin 2048) (n : Fin 1024) :
    refO (Host.exp (subf (refL Z F) (refG (refM (refL Z F))))) Z (ix3 b i n) = ((attn z f b i n : ℝ) : EReal) := by
  rw [refO_at]
  set g : Fin 8 := ⟨n.val / 128, by omega⟩ with hg
  have hs : Real.sqrt 128 ≠ 0 := by positivity
  have hx : ∀ k : Fin 2048, refL Z F (ix4 b g i k) = if k.val ≤ i.val then ((lo z f b i k g : ℝ) : EReal) else ⊥ := by
    intro k
    rw [refL_at]
    refine if_congr Iff.rfl ?_ rfl
    rw [Ideal.div_coe hs]
    simp only [hz, hf, ← EReal.coe_mul, ← coe_sum', ← EReal.coe_sub, ← EReal.coe_add]
    rw [lo, qk, one_div]
  have hi : ∃ k : Fin 2048, k.val ≤ i.val := ⟨0, Nat.zero_le _⟩
  obtain ⟨k0, -, hM, -⟩ := fold_real _ _ _ hx hi
  have hG : ∀ k : Fin 2048, refG (refM (refL Z F)) (ix4 b g i k) = Finset.univ.fold max (⊥ : EReal) fun k : Fin 2048 => refL Z F (ix4 b g i k) := by
    intro k
    rw [hM]
    exact refG_at _ b g i k _ ((refM_at _ b g i).trans hM)
  have hE : ∀ k : Fin 2048, (Host.exp (subf (refL Z F) (refG (refM (refL Z F))))) (ix4 b g i k)
      = Ideal.exp (refL Z F (ix4 b g i k) - Finset.univ.fold max (⊥ : EReal) fun k : Fin 2048 => refL Z F (ix4 b g i k)) := by
    intro k
    rw [← hG k]
    rfl
  obtain ⟨ε, hε, he⟩ := eps_val
  simp only [hE]
  rw [he]
  exact ref_value _ _ _ hx _ _ (fun k => hz _) hi ε hε _ rfl

/-- An array every entry of which is finite is an array of reals. -/
theorem reals_of {S : Shape} (Z : S.Idx → EReal) (h : ∀ i, max (Z i) (-(Z i)) < ⊤) : ∃ z : S.Idx → ℝ, ∀ i, Z i = ((z i : ℝ) : EReal) := by
  refine ⟨fun i => (Z i).toReal, fun i => (EReal.coe_toReal ?_ ?_).symm⟩
  · exact (lt_of_le_of_lt (le_max_left _ _) (h i)).ne
  · intro hb
    have := lt_of_le_of_lt (le_max_right _ _) (h i)
    rw [hb] at this
    simp at this

/-- The precondition: both arguments are arrays of reals. -/
theorem pre_reals (Z : FVec Ideal Cert.Pre_finite.S4x2048x6144 .f32) (F : FVec Ideal Cert.Pre_finite.S4x2048x128 .f32)
    (h : Cert.Pre_finite.fn Z F = fun _ => 1#1) :
    (∃ z : S4x2048x6144.Idx → ℝ, ∀ i, Z i = ((z i : ℝ) : EReal)) ∧ ∃ f : S4x2048x128.Idx → ℝ, ∀ i, F i = ((f i : ℝ) : EReal) := by
  have h0 := congrFun h ix0
  have hand : ∀ x y : BitVec 1, IntOp.andi x y = 1#1 → x = 1#1 ∧ y = 1#1 := by decide
  have hof : ∀ p : Bool, BitVec.ofBool p = 1#1 → p = true := by decide
  haveI : Subsingleton Cert.Pre_finite.S_.Idx := ⟨fun a b => funext fun k => k.elim0⟩
  obtain ⟨ha, hb⟩ := hand _ _ h0
  constructor
  · refine reals_of Z fun i => ?_
    have h1 := Host.reduce_andi_all _ _ _ _ _ ha i
    have h2 : max (Z i) (-(Z i)) < Ideal.ofBits FTy.f32 2139095040#32 := of_decide_eq_true (hof _ h1)
    rwa [inf_val] at h2
  · refine reals_of F fun i => ?_
    have h1 := Host.reduce_andi_all _ _ _ _ _ hb i
    have h2 : max (F i) (-(F i)) < Ideal.ofBits FTy.f32 2139095040#32 := of_decide_eq_true (hof _ h1)
    rwa [inf_val] at h2

end Cert.ReferenceIdeal.Fox

end
end
-- ==== Proof.Norm.lean ====
module

public import Idealize.ShloMosaic.PureOps.Ideal

@[expose] public section

noncomputable section

open Idealize.ShloMosaic

namespace Cert.Norm

/-- What a row is multiplied by to normalize it: one over the root of the mean of its squares and a small number. -/
def scale {n : ℕ} (x : Fin n → EReal) : EReal :=
  Ideal.rsqrt (Ideal.div (∑ l, x l * x l) (Ideal.ofBits .f32 0x45000000#32) + Ideal.ofBits .f32 0x358637BD#32)

/-- A row, normalized and weighted. -/
def nrm {n : ℕ} (x g : Fin n → EReal) (k : Fin n) : EReal := x k * scale x * g k

/-- A normalized row against a column. -/
def proj {n : ℕ} (x g w : Fin n → EReal) : EReal := ∑ k, nrm x g k * w k

/-- The gated unit: the gate, its sigmoid and the other half. -/
def glu (a b : EReal) : EReal := a * Ideal.logistic a * b

/-- Multiplying by the sigmoid written out is the gated unit. -/
theorem glu_eq (a b : EReal) : a * Ideal.div 1 (1 + Ideal.exp (-a)) * b = glu a b := rfl

/-- A row plus the normalization of another. -/
def post {n : ℕ} (h y g : Fin n → EReal) (k : Fin n) : EReal := h k + nrm y g k

/-- A row plus the normalization of another under the sigmoid of the row's product. -/
def gated {n : ℕ} (h y g : Fin n → EReal) (w : Fin n → Fin n → EReal) (k : Fin n) : EReal :=
  h k + nrm y g k * Ideal.logistic (∑ j, h j * w j k)

end Cert.Norm

end
end
-- ==== Proof.OutEvenArr.lean ====
module

public import proofs.«01_k».proof.Proof.Norm
public import proofs.«01_k».proof.Proof.Gen.OutEvenIdeal.Skeleton
public import proofs.«01_k».proof.Proof.Gen.OutEvenIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutEvenIdeal.Proj

open Cert.OutEvenIdeal Cert.OutEvenIdeal.Gen Cert.Norm

/-- The stored payload, by element. -/
theorem pay1_at (a : FVec Ideal S256x1024 .f32) (u : FVec Ideal S1024x2048 .bf16) (b : FVec Ideal S256x1024 .f32) (w : FVec Ideal S1024x2048 .bf16)
    (h : FVec Ideal S256x2048 .f32) (g : FVec Ideal S1x2048 .f32) (r : Fin 256) (n : Fin 2048) :
    k0_pay1 (F := Ideal) a u b w h g (ix2 r n) = post (fun k => h (ix2 r k))
      (fun k => (∑ f : Fin 1024, a (ix2 r f) * u (ix2 f k)) + ∑ f : Fin 1024, b (ix2 r f) * w (ix2 f k)) (fun k => g (ix2 0 k)) n := by
  pointwise [k0_pay1]
  rfl

/-- The stored block, by element. -/
theorem out_at (a b : FVec Ideal S256x1024 .f32) (w : FVec Ideal S2048x2048 .bf16) (g : FVec Ideal S1x2048 .f32) (h : FVec Ideal S256x2048 .f32)
    (r : Fin 256) (n : Fin 2048) :
    out0_5 (F := Ideal) a b w g h (ix2 r n) = post (fun k => h (ix2 r k))
      (fun k => (∑ f : Fin 1024, a (ix2 r f) * w (ix2 ⟨f.val, by omega⟩ k)) + ∑ f : Fin 1024, b (ix2 r f) * w (ix2 ⟨1024 + f.val, by omega⟩ k)) (fun k => g (ix2 0 k)) n := by
  frame_out
  rw [pay1_at]
  congr 1
  funext k
  congr 1 <;> refine Finset.sum_congr rfl fun f _ => ?_ <;> refine congrArg (_ * ·) (congrArg w ?_) <;> blk_ext
  all_goals simp [Rect.idx_unit_val]

variable (m : (ℓ : Loc nD τ sig) → Buf (Elt Ideal) ℓ)

/-- Which block of its array each window holds at a point. -/
theorem idx : ∀ t : Fin cfg0.N,
    win0_0.index t = ![t.val, 0] ∧ win0_1.index t = ![t.val, 0] ∧ win0_2.index t = ![0, 0] ∧ win0_3.index t = ![0, 0] ∧ win0_4.index t = ![t.val, 0]
    ∧ win0_5.index t = ![t.val, 0] :=
  (by decide +kernel : ∀ t : Fin grid0.N, _)

/-- The row of the activations behind a row of a point's block. -/
def row (t : ℕ) (ht : t < 32) (r : Fin 256) : Fin 8192 := ⟨256 * t + r.val, by omega⟩

/-- The activations after the mixing part's residual. -/
def unit (A B : FVec Ideal S8192x1024 .f32) (H : FVec Ideal S8192x2048 .f32) (G : FVec Ideal S2x5x2048 .f32) (W : FVec Ideal S1x2048x2048 .f32)
    (r : Fin 8192) (n : Fin 2048) : EReal :=
  post (fun k => H (ix2 r k)) (fun k => (∑ f : Fin 1024, A (ix2 r f) * W (ix3 0 ⟨f.val, by omega⟩ k)) + ∑ f : Fin 1024, B (ix2 r f) * W (ix3 0 ⟨1024 + f.val, by omega⟩ k)) (fun k => G (ix3 0 1 k)) n

/-- What a point leaves in the output block. -/
theorem point (c : Dev nD) (t : Fin cfg0.N) (r : Fin 256) (n : Fin 2048) :
    out0_5 (F := Ideal) (iblk m c 0 t) (iblk m c 1 t) (iblk m c 2 t) (iblk m c 3 t) (iblk m c 4 t) (ix2 r n)
      = unit (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (row t.val t.isLt r) n := by
  refine (out_at _ _ _ _ _ r n).trans ?_
  rw [unit]
  congr 1
  · funext k; blk_point [iblk, V, idx t, row]
  · funext k
    congr 1 <;> refine Finset.sum_congr rfl fun f _ => ?_ <;> congr 1
    · blk_point [iblk, V, idx t, row]
    · blk_point [iblk, V, idx t]
    · blk_point [iblk, V, idx t, row]
    · blk_point [iblk, V, idx t]
  · funext k; blk_point [iblk, V, idx t]

/-- The output array after the run. -/
theorem final (c : Dev nD) : (dats m 0 c).arrAt 5 cfg0.N = fun i : S8192x2048.Idx =>
    unit (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) := by
  refine (dats m 0 c).arrAt_eq_of_covers 5 _ (by decide +kernel) fun t hf y => ?_
  blk_simp
  rw [after0_5]
  obtain ⟨r, n, rfl⟩ : ∃ (r : Fin 256) (n : Fin 2048), y = ix2 r n := ⟨y 0, y 1, by blk_ext⟩
  refine (point m c t r n).trans ?_
  congr 1 <;> apply Fin.ext <;> blk_simp [idx t, row]
  all_goals first | rfl | (dsimp only; omega)

end Cert.OutEvenIdeal.Proj

end
end
-- ==== Proof.OutEvenRef.lean ====
module

public import proofs.«01_k».proof.Proof.Norm
public import proofs.«01_k».proof.Proof.Gen.OutEvenRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutEvenRefIdeal.Proj

open Cert.OutEvenRefIdeal Cert.OutEvenRefIdeal.Gen Cert.OutEvenRefIdeal.Value Cert.Norm

/-- The reference's normalization with a weight. -/
def refN (Y : FVec Ideal S8192x2048 .f32) (g : FVec Ideal S2048 .f32) : FVec Ideal S8192x2048 .f32 :=
  mulf (mulf Y (broadcastInDim S8192x2048 ![0, 1] bcast_S8192x1_S8192x2048_0_1 (Host.rsqrt (addf (Host.divf (broadcastInDim S8192x1 ![0] bcast_S8192_S8192x1_0 (Host.reduceAdd (mulf Y Y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The norm's weight. -/
def refG (G : FVec Ideal S2x5x2048 .f32) : FVec Ideal S2048 .f32 := (shapeCast _ (extractStridedSlice S1x2048 ![1, 0] (shapeCast _ (extractStridedSlice S1x5x2048 ![0, 0, 0] G slices_S2x5x2048_S1x5x2048_0_0_0) shapeCasts_S1x5x2048_S5x2048) slices_S5x2048_S1x2048_1_0) shapeCasts_S1x2048_S2048)

/-- The normalization, by element. -/
theorem refN_at (Y : FVec Ideal S8192x2048 .f32) (g : FVec Ideal S2048 .f32) (r : Fin 8192) (n : Fin 2048) :
    refN Y g (ix2 r n) = nrm (fun k => Y (ix2 r k)) (fun k => g (ix1 k)) n := by
  pointwise [refN]
  rfl

/-- The norm's weight, by element. -/
theorem refG_at (G : FVec Ideal S2x5x2048 .f32) (n : Fin 2048) : refG G (ix1 n) = G (ix3 0 1 n) := by
  pointwise [refG]

/-- The two attentions' outputs side by side. -/
def refM (A B : FVec Ideal S8192x1024 .f32) : FVec Ideal S8192x2048 .f32 :=
  concatenate S8192x2048 1 [⟨S8192x1024, A⟩, ⟨S8192x1024, B⟩] concatenates_S8192x1024_S8192x1024_S8192x2048_d1

/-- A column of the first attention's outputs. -/
theorem refM_lo (A B : FVec Ideal S8192x1024 .f32) (r : Fin 8192) (f : Fin 1024) : refM A B (ix2 r ⟨f.val, by omega⟩) = A (ix2 r f) := by
  pointwise [refM]

/-- A column of the second attention's outputs. -/
theorem refM_hi (A B : FVec Ideal S8192x1024 .f32) (r : Fin 8192) (f : Fin 1024) : refM A B (ix2 r ⟨1024 + f.val, by omega⟩) = B (ix2 r f) := by
  pointwise [refM]

/-- The reference's projection of the heads' outputs. -/
def refD (A : FVec Ideal S8192x2048 .f32) (W : FVec Ideal S1x2048x2048 .f32) : FVec Ideal S8192x2048 .f32 :=
  Host.dotGeneral dot_S8192x2048_S2048x2048_S8192x2048_1_0_0_1_n_n none A (shapeCast _ W shapeCasts_S1x2048x2048_S2048x2048)

/-- The projection, by element. -/
theorem refD_at (A : FVec Ideal S8192x2048 .f32) (W : FVec Ideal S1x2048x2048 .f32) (r : Fin 8192) (n : Fin 2048) :
    refD A W (ix2 r n) = ∑ k : Fin 2048, A (ix2 r k) * W (ix3 0 k n) := by
  pointwise [refD]

/-- The projection of the outputs side by side is the sum of the two projections. -/
theorem mix_at (A B : FVec Ideal S8192x1024 .f32) (W : FVec Ideal S1x2048x2048 .f32) (r : Fin 8192) (k : Fin 2048) :
    refD (refM A B) W (ix2 r k) = (∑ f : Fin 1024, A (ix2 r f) * W (ix3 0 ⟨f.val, by omega⟩ k)) + ∑ f : Fin 1024, B (ix2 r f) * W (ix3 0 ⟨1024 + f.val, by omega⟩ k) := by
  rw [refD_at, show (∑ f : Fin 2048, refM A B (ix2 r f) * W (ix3 0 f k)) = ∑ f : Fin (1024 + 1024), refM A B (ix2 r f) * W (ix3 0 f k) from rfl, Fin.sum_univ_add]
  congr 1 <;> refine Finset.sum_congr rfl fun f _ => ?_
  · exact congrArg (· * _) (refM_lo A B r f)
  · exact congrArg (· * _) (refM_hi A B r f)

/-- The reference's result. -/
def refO (A B : FVec Ideal S8192x1024 .f32) (H : FVec Ideal S8192x2048 .f32) (G : FVec Ideal S2x5x2048 .f32) (W : FVec Ideal S1x2048x2048 .f32) : FVec Ideal S8192x2048 .f32 :=
  addf H (refN (refD (refM A B) W) (refG G))

/-- The result, by element. -/
theorem refO_at (A B : FVec Ideal S8192x1024 .f32) (H : FVec Ideal S8192x2048 .f32) (G : FVec Ideal S2x5x2048 .f32) (W : FVec Ideal S1x2048x2048 .f32)
    (r : Fin 8192) (n : Fin 2048) :
    refO A B H G W (ix2 r n) = post (fun k => H (ix2 r k)) (fun k => (∑ f : Fin 1024, A (ix2 r f) * W (ix3 0 ⟨f.val, by omega⟩ k)) + ∑ f : Fin 1024, B (ix2 r f) * W (ix3 0 ⟨1024 + f.val, by omega⟩ k)) (fun k => G (ix3 0 1 k)) n := by
  show H (ix2 r n) + refN (refD (refM A B) W) (refG G) (ix2 r n) = _
  rw [refN_at]
  simp only [mix_at, refG_at]
  rfl

end Cert.OutEvenRefIdeal.Proj

end
end
-- ==== Proof.OutOddArr.lean ====
module

public import proofs.«01_k».proof.Proof.Norm
public import proofs.«01_k».proof.Proof.Gen.OutOddIdeal.Skeleton
public import proofs.«01_k».proof.Proof.Gen.OutOddIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutOddIdeal.Proj

open Cert.OutOddIdeal Cert.OutOddIdeal.Gen Cert.Norm

/-- The stored payload, by element. -/
theorem pay1_at (o : FVec Ideal S256x2048 .f32) (w : FVec Ideal S2048x2048 .bf16) (h : FVec Ideal S256x2048 .f32) (g : FVec Ideal S1x2048 .f32)
    (r : Fin 256) (n : Fin 2048) :
    k0_pay1 (F := Ideal) o w h g (ix2 r n) = post (fun k => h (ix2 r k)) (fun k => ∑ f : Fin 2048, o (ix2 r f) * w (ix2 f k)) (fun k => g (ix2 0 k)) n := by
  pointwise [k0_pay1]
  rfl

variable (m : (ℓ : Loc nD τ sig) → Buf (Elt Ideal) ℓ)

/-- Which block of its array each window holds at a point. -/
theorem idx : ∀ t : Fin cfg0.N,
    win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The row of the activations behind a row of a point's block. -/
def row (t : ℕ) (ht : t < 32) (r : Fin 256) : Fin 8192 := ⟨256 * t + r.val, by omega⟩

/-- The activations after the mixing part's residual. -/
def unit (A : FVec Ideal S8192x2048 .f32) (H : FVec Ideal S8192x2048 .f32) (G : FVec Ideal S2x5x2048 .f32) (W : FVec Ideal S1x2048x2048 .f32)
    (r : Fin 8192) (n : Fin 2048) : EReal :=
  post (fun k => H (ix2 r k)) (fun k => ∑ f : Fin 2048, A (ix2 r f) * W (ix3 0 f k)) (fun k => G (ix3 1 1 k)) n

/-- What a point leaves in the output block. -/
theorem point (c : Dev nD) (t : Fin cfg0.N) (r : Fin 256) (n : Fin 2048) :
    out0_4 (F := Ideal) (iblk m c 0 t) (iblk m c 1 t) (iblk m c 2 t) (iblk m c 3 t) (ix2 r n)
      = unit (m ((c.tc : Thread nD τ).loc main_arg0)) (m ((c.tc : Thread nD τ).loc main_arg1)) (m ((c.tc : Thread nD τ).loc main_arg2))
        (m ((c.tc : Thread nD τ).loc main_arg3)) (row t.val t.isLt r) n := by
  frame_out
  rw [pay1_at, unit]
  congr 1
  · funext k; blk_point [iblk, V, idx t, row]
  · funext k
    refine Finset.sum_congr rfl fun f _ => ?_
    congr 1
    · blk_point [iblk, V, idx t, row]
    · blk_point [iblk, V, idx t]
  · funext k; blk_point [iblk, V, idx t]

/-- The output array after the run. -/
theorem final (c : Dev nD) : (dats m 0 c).arrAt 4 cfg0.N = fun i : S8192x2048.Idx =>
    unit (m ((c.tc : Thread nD τ).loc main_arg0)) (m ((c.tc : Thread nD τ).loc main_arg1)) (m ((c.tc : Thread nD τ).loc main_arg2))
      (m ((c.tc : Thread nD τ).loc main_arg3)) (i 0) (i 1) := by
  refine (dats m 0 c).arrAt_eq_of_covers 4 _ (by decide +kernel) fun t hf y => ?_
  blk_simp
  rw [after0_4]
  obtain ⟨r, n, rfl⟩ : ∃ (r : Fin 256) (n : Fin 2048), y = ix2 r n := ⟨y 0, y 1, by blk_ext⟩
  refine (point m c t r n).trans ?_
  congr 1 <;> apply Fin.ext <;> blk_simp [idx t, row]
  all_goals first | rfl | (dsimp only; omega)

end Cert.OutOddIdeal.Proj

end
end
-- ==== Proof.OutOddRef.lean ====
module

public import proofs.«01_k».proof.Proof.Norm
public import proofs.«01_k».proof.Proof.Gen.OutOddRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutOddRefIdeal.Proj

open Cert.OutOddRefIdeal Cert.OutOddRefIdeal.Gen Cert.OutOddRefIdeal.Value Cert.Norm

/-- The reference's normalization with a weight. -/
def refN (Y : FVec Ideal S8192x2048 .f32) (g : FVec Ideal S2048 .f32) : FVec Ideal S8192x2048 .f32 :=
  mulf (mulf Y (broadcastInDim S8192x2048 ![0, 1] bcast_S8192x1_S8192x2048_0_1 (Host.rsqrt (addf (Host.divf (broadcastInDim S8192x1 ![0] bcast_S8192_S8192x1_0 (Host.reduceAdd (mulf Y Y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The norm's weight. -/
def refG (G : FVec Ideal S2x5x2048 .f32) : FVec Ideal S2048 .f32 := (shapeCast _ (extractStridedSlice S1x2048 ![1, 0] (shapeCast _ (extractStridedSlice S1x5x2048 ![1, 0, 0] G slices_S2x5x2048_S1x5x2048_1_0_0) shapeCasts_S1x5x2048_S5x2048) slices_S5x2048_S1x2048_1_0) shapeCasts_S1x2048_S2048)

/-- The normalization, by element. -/
theorem refN_at (Y : FVec Ideal S8192x2048 .f32) (g : FVec Ideal S2048 .f32) (r : Fin 8192) (n : Fin 2048) :
    refN Y g (ix2 r n) = nrm (fun k => Y (ix2 r k)) (fun k => g (ix1 k)) n := by
  pointwise [refN]
  rfl

/-- The norm's weight, by element. -/
theorem refG_at (G : FVec Ideal S2x5x2048 .f32) (n : Fin 2048) : refG G (ix1 n) = G (ix3 1 1 n) := by
  pointwise [refG]

/-- The reference's projection of the heads' outputs. -/
def refD (A : FVec Ideal S8192x2048 .f32) (W : FVec Ideal S1x2048x2048 .f32) : FVec Ideal S8192x2048 .f32 :=
  Host.dotGeneral dot_S8192x2048_S2048x2048_S8192x2048_1_0_0_1_n_n none A (shapeCast _ W shapeCasts_S1x2048x2048_S2048x2048)

/-- The projection, by element. -/
theorem refD_at (A : FVec Ideal S8192x2048 .f32) (W : FVec Ideal S1x2048x2048 .f32) (r : Fin 8192) (n : Fin 2048) :
    refD A W (ix2 r n) = ∑ k : Fin 2048, A (ix2 r k) * W (ix3 0 k n) := by
  pointwise [refD]

/-- The reference's result. -/
def refO (A H : FVec Ideal S8192x2048 .f32) (G : FVec Ideal S2x5x2048 .f32) (W : FVec Ideal S1x2048x2048 .f32) : FVec Ideal S8192x2048 .f32 :=
  addf H (refN (refD A W) (refG G))

/-- The result, by element. -/
theorem refO_at (A H : FVec Ideal S8192x2048 .f32) (G : FVec Ideal S2x5x2048 .f32) (W : FVec Ideal S1x2048x2048 .f32) (r : Fin 8192) (n : Fin 2048) :
    refO A H G W (ix2 r n) = post (fun k => H (ix2 r k)) (fun k => ∑ f : Fin 2048, A (ix2 r f) * W (ix3 0 f k)) (fun k => G (ix3 1 1 k)) n := by
  show H (ix2 r n) + refN (refD A W) (refG G) (ix2 r n) = _
  rw [refN_at]
  simp only [refD_at, refG_at]
  rfl

end Cert.OutOddRefIdeal.Proj

end
end
-- ==== Proof.InOddArr.lean ====
module

public import proofs.«01_k».proof.Proof.Norm
public import proofs.«01_k».proof.Proof.Gen.InOddIdeal.Skeleton
public import proofs.«01_k».proof.Proof.Gen.InOddIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InOddIdeal.Proj

open Cert.InOddIdeal Cert.InOddIdeal.Gen Cert.Norm

/-- The normalization payload, by element. -/
theorem pay1_at (x : FVec Ideal S512x2048 .f32) (g : FVec Ideal S1x2048 .f32) (r : Fin 512) (k : Fin 2048) :
    k0_pay1 (F := Ideal) x g (ix2 r k) = nrm (fun k => x (ix2 r k)) (fun k => g (ix2 0 k)) k := by
  pointwise [k0_pay1]
  rfl

/-- The product payload, by element. -/
theorem pay2_at (xn : FVec Ideal S512x2048 .bf16) (w : FVec Ideal S2048x1024 .bf16) (r : Fin 512) (n : Fin 1024) :
    k0_pay2 (F := Ideal) xn w (ix2 r n) = ∑ k : Fin 2048, xn (ix2 r k) * w (ix2 k n) := by
  pointwise [k0_pay2]

/-- The projection's weights with their columns in the array's order: each key and value head twice. -/
def prep (W : FVec Ideal S1x2048x2560 .f32) : FVec Ideal S2048x3072 .bf16 :=
  truncf .bf16 (concatenate S2048x3072 1
    [⟨S2048x2048, extractStridedSlice S2048x2048 ![0, 0] (shapeCast S2048x2560 W shapeCasts_S1x2048x2560_S2048x2560) slices_S2048x2560_S2048x2048_0_0⟩,
     ⟨S2048x512, shapeCast S2048x512 (concatenate S2048x4x128 2
       [⟨S2048x4x64, shapeCast S2048x4x64 (extractStridedSlice S2048x256 ![0, 2048] (shapeCast S2048x2560 W shapeCasts_S1x2048x2560_S2048x2560) slices_S2048x2560_S2048x256_0_2048) shapeCasts_S2048x256_S2048x4x64⟩,
        ⟨S2048x4x64, shapeCast S2048x4x64 (extractStridedSlice S2048x256 ![0, 2048] (shapeCast S2048x2560 W shapeCasts_S1x2048x2560_S2048x2560) slices_S2048x2560_S2048x256_0_2048) shapeCasts_S2048x256_S2048x4x64⟩]
       concatenates_S2048x4x64_S2048x4x64_S2048x4x128_d2) shapeCasts_S2048x4x128_S2048x512⟩,
     ⟨S2048x512, shapeCast S2048x512 (concatenate S2048x4x128 2
       [⟨S2048x4x64, shapeCast S2048x4x64 (extractStridedSlice S2048x256 ![0, 2304] (shapeCast S2048x2560 W shapeCasts_S1x2048x2560_S2048x2560) slices_S2048x2560_S2048x256_0_2304) shapeCasts_S2048x256_S2048x4x64⟩,
        ⟨S2048x4x64, shapeCast S2048x4x64 (extractStridedSlice S2048x256 ![0, 2304] (shapeCast S2048x2560 W shapeCasts_S1x2048x2560_S2048x2560) slices_S2048x2560_S2048x256_0_2304) shapeCasts_S2048x256_S2048x4x64⟩]
       concatenates_S2048x4x64_S2048x4x64_S2048x4x128_d2) shapeCasts_S2048x4x128_S2048x512⟩]
    concatenates_S2048x2048_S2048x512_S2048x512_S2048x3072_d1) bitsLt_bf16_f32

/-- A column of the queries is that of the argument. -/
theorem prep_lo (W : FVec Ideal S1x2048x2560 .f32) (k : Fin 2048) (n : Fin 3072) (h : n.val < 2048) :
    prep W (ix2 k n) = W (ix3 0 k ⟨n.val, by omega⟩) := by
  pointwise [prep]
  rw [dif_pos h]

/-- A column of the keys or the values is its head's in the argument, in either copy. -/
theorem prep_hi (W : FVec Ideal S1x2048x2560 .f32) (k : Fin 2048) (n : Fin 3072) (h : 2048 ≤ n.val) :
    prep W (ix2 k n) = W (ix3 0 k ⟨2048 + (n.val - 2048) / 128 * 64 + n.val % 64, by omega⟩) := by
  pointwise [prep]
  rw [dif_neg (by omega)]
  split <;> split <;> (congr 2; apply Fin.ext; dsimp only; omega)

/-- The norm's weight as a row, by element. -/
theorem g_at (G : FVec Ideal S2x5x2048 .f32) (k : Fin 2048) :
    shapeCast S1x2048 (shapeCast S2048 (extractStridedSlice S1x2048 ![0, 0] (shapeCast S5x2048 (extractStridedSlice S1x5x2048 ![1, 0, 0]
        G slices_S2x5x2048_S1x5x2048_1_0_0) shapeCasts_S1x5x2048_S5x2048) slices_S5x2048_S1x2048_0_0) shapeCasts_S1x2048_S2048) shapeCasts_S2048_S1x2048 (ix2 0 k)
      = G (ix3 1 0 k) := by
  pointwise

variable (m : (ℓ : Loc nD τ sig) → Buf (Elt Ideal) ℓ)

/-- The region finds the activations. -/
theorem V_x (c : Dev nD) : (V m c main_arg0 : FVec Ideal S8192x2048 .f32) = m ((c.tc : Thread nD τ).loc main_arg0) := by
  unfold V V0
  rfl

/-- The region finds the norm's weight as a row. -/
theorem V_g (c : Dev nD) : (V m c main_v16 : FVec Ideal S1x2048 .f32)
    = shapeCast S1x2048 (shapeCast S2048 (extractStridedSlice S1x2048 ![0, 0] (shapeCast S5x2048 (extractStridedSlice S1x5x2048 ![1, 0, 0]
        (m ((c.tc : Thread nD τ).loc main_arg1) : FVec Ideal S2x5x2048 .f32) slices_S2x5x2048_S1x5x2048_1_0_0) shapeCasts_S1x5x2048_S5x2048) slices_S5x2048_S1x2048_0_0) shapeCasts_S1x2048_S2048) shapeCasts_S2048_S1x2048 := by
  unfold V V0
  rfl

/-- The region finds the weights in the array's order. -/
theorem V_w (c : Dev nD) : (V m c main_v15 : FVec Ideal S2048x3072 .bf16) = prep (m ((c.tc : Thread nD τ).loc main_arg2)) := by
  unfold V V0
  rfl

/-- Which block of its array each window holds at a point. -/
theorem idx : ∀ t : Fin cfg0.N,
    win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- The row of the activations behind a row of a point's block. -/
def row (t : ℕ) (ht : t < 48) (r : Fin 512) : Fin 8192 := ⟨512 * (t / 3) + r.val, by omega⟩

/-- A row of the normalized activations. -/
def rowN (X : FVec Ideal S8192x2048 .f32) (G : FVec Ideal S2x5x2048 .f32) (r : Fin 8192) : Fin 2048 → EReal :=
  nrm (fun k => X (ix2 r k)) fun k => G (ix3 1 0 k)

/-- A block of the activations. -/
theorem blk_x (c : Dev nD) (t : Fin cfg0.N) (r : Fin 512) (k : Fin 2048) :
    (iblk m c 0 t : FVec Ideal S512x2048 .f32) (ix2 r k) = (m ((c.tc : Thread nD τ).loc main_arg0) : FVec Ideal S8192x2048 .f32) (ix2 (row t.val t.isLt r) k) := by
  have e : (iblk m c 0 t : FVec Ideal S512x2048 .f32) (ix2 r k) = (V m c main_arg0 : FVec Ideal S8192x2048 .f32) (ix2 (row t.val t.isLt r) k) := by
    blk_point [iblk, idx t, row]
  rw [e, V_x]

/-- The block of the norm's weight. -/
theorem blk_g (c : Dev nD) (t : Fin cfg0.N) (k : Fin 2048) :
    (iblk m c 1 t : FVec Ideal S1x2048 .f32) (ix2 0 k) = (m ((c.tc : Thread nD τ).loc main_arg1) : FVec Ideal S2x5x2048 .f32) (ix3 1 0 k) := by
  have e : (iblk m c 1 t : FVec Ideal S1x2048 .f32) (ix2 0 k) = (V m c main_v16 : FVec Ideal S1x2048 .f32) (ix2 0 k) := by
    blk_point [iblk, idx t]
  rw [e, V_g]
  exact g_at _ k

/-- A block of the weights. -/
theorem blk_w (c : Dev nD) (t : Fin cfg0.N) (k : Fin 2048) (n : Fin 1024) :
    (iblk m c 2 t : FVec Ideal S2048x1024 .bf16) (ix2 k n) = prep (m ((c.tc : Thread nD τ).loc main_arg2)) (ix2 k ⟨1024 * (t.val % 3) + n.val, by omega⟩) := by
  rw [← V_w]
  blk_point [iblk, idx t]

/-- What the carried scratch holds after a point: the normalized rows of the point's row block. -/
theorem scratch (c : Dev nD) (n : ℕ) (hn : n < cfg0.N) (r : Fin 512) (k : Fin 2048) :
    (outsAt0 m c n hn).2 (ix2 r k) = rowN (m ((c.tc : Thread nD τ).loc main_arg0)) (m ((c.tc : Thread nD τ).loc main_arg1)) (row n hn r) k := by
  have key : ∀ t : Fin cfg0.N, t.val % 3 = 0 → (outsAt0 m c t.val t.isLt).2 (ix2 r k)
      = rowN (m ((c.tc : Thread nD τ).loc main_arg0)) (m ((c.tc : Thread nD τ).loc main_arg1)) (row t.val t.isLt r) k := by
    intro t h0
    rw [outsAt0_A m c t h0]
    frame_out
    rw [pay1_at, rowN]
    congr 1
    · funext k; exact blk_x m c t r k
    · funext k; exact blk_g m c t k
  induction n with
  | zero => exact key ⟨0, hn⟩ rfl
  | succ n ih =>
    by_cases h0 : (n + 1) % 3 = 0
    · exact key ⟨n + 1, hn⟩ h0
    · rw [outsAt0_B m c ⟨n + 1, hn⟩ h0]
      frame_out
      refine (ih (Nat.lt_of_succ_lt hn)).trans ?_
      rw [show row n (Nat.lt_of_succ_lt hn) r = row (n + 1) hn r from Fin.ext (by show 512 * (n / 3) + r.val = 512 * ((n + 1) / 3) + r.val; omega)]

/-- The projected activations, by row and column of the array. -/
def z (X : FVec Ideal S8192x2048 .f32) (G : FVec Ideal S2x5x2048 .f32) (W : FVec Ideal S1x2048x2560 .f32) (r : Fin 8192) (n : Fin 3072) : EReal :=
  ∑ k : Fin 2048, rowN X G r k * prep W (ix2 k n)

/-- A column of the queries. -/
theorem z_lo (X : FVec Ideal S8192x2048 .f32) (G : FVec Ideal S2x5x2048 .f32) (W : FVec Ideal S1x2048x2560 .f32) (r : Fin 8192)
    (n : Fin 3072) (hn : n.val < 2048) :
    z X G W r n = proj (fun k => X (ix2 r k)) (fun k => G (ix3 1 0 k)) fun k => W (ix3 0 k ⟨n.val, by omega⟩) := by
  rw [z, proj]
  simp only [prep_lo W _ n hn]
  rfl

/-- A column of the keys or the values. -/
theorem z_hi (X : FVec Ideal S8192x2048 .f32) (G : FVec Ideal S2x5x2048 .f32) (W : FVec Ideal S1x2048x2560 .f32) (r : Fin 8192)
    (n : Fin 3072) (hn : 2048 ≤ n.val) (a : Fin 2560) (ha : a.val = 2048 + (n.val - 2048) / 128 * 64 + n.val % 64) :
    z X G W r n = proj (fun k => X (ix2 r k)) (fun k => G (ix3 1 0 k)) fun k => W (ix3 0 k a) := by
  rw [show a = ⟨2048 + (n.val - 2048) / 128 * 64 + n.val % 64, by omega⟩ from Fin.ext ha]
  rw [z, proj]
  simp only [prep_hi W _ n hn]
  rfl

/-- What a point leaves in the output block. -/
theorem point (c : Dev nD) (t : Fin cfg0.N) (r : Fin 512) (n : Fin 1024) :
    (outsAt0 m c t.val t.isLt).1 (ix2 r n)
      = z (m ((c.tc : Thread nD τ).loc main_arg0)) (m ((c.tc : Thread nD τ).loc main_arg1)) (m ((c.tc : Thread nD τ).loc main_arg2))
        (row t.val t.isLt r) ⟨1024 * (t.val % 3) + n.val, by omega⟩ := by
  have e : (outsAt0 m c t.val t.isLt).1 = k0_pay2 (F := Ideal) (outsAt0 m c t.val t.isLt).2 (iblk m c 2 t) := by
    by_cases h0 : t.val % 3 = 0
    · rw [outsAt0_A m c t h0]; frame_out
    · rw [outsAt0_B m c t h0]; frame_out
      exact congrArg (fun x => k0_pay2 (F := Ideal) x (iblk m c 2 t)) (Memref.IsWhole.read_unread _ _)
  rw [e, pay2_at, z]
  refine Finset.sum_congr rfl fun k _ => ?_
  rw [scratch, blk_w]

/-- The output array after the run. -/
theorem final (c : Dev nD) : (dats m 0 c).arrAt 3 cfg0.N = fun i : S8192x3072.Idx =>
    z (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  obtain ⟨r, n, rfl⟩ : ∃ (r : Fin 512) (n : Fin 1024), y = ix2 r n := ⟨y 0, y 1, by blk_ext⟩
  refine (point m c t r n).trans ?_
  congr 1 <;> apply Fin.ext <;> blk_simp [idx t, row]
  all_goals first | rfl | (dsimp only; omega)

/-- The first result's rows and columns of the array. -/
def tail22 (Z : FVec Ideal S8192x3072 .f32) : FVec Ideal S4x128x2x4x64 .f32 :=
  shapeCast _ (extractStridedSlice S4x128x2x4x1x64 ![0, 0, 0, 0, 0, 0] (shapeCast S4x128x2x4x2x64 (extractStridedSlice S4x128x1024 ![0, 1920, 2048] (shapeCast S4x2048x3072 Z shapeCasts_S8192x3072_S4x2048x3072) slices_S4x2048x3072_S4x128x1024_0_1920_2048) shapeCasts_S4x128x1024_S4x128x2x4x2x64) slices_S4x128x2x4x2x64_S4x128x2x4x1x64_0_0_0_0_0_0) shapeCasts_S4x128x2x4x1x64_S4x128x2x4x64

/-- The second result's columns of the array. -/
def tail23 (Z : FVec Ideal S8192x3072 .f32) : FVec Ideal S4x2048x2048 .f32 :=
  extractStridedSlice S4x2048x2048 ![0, 0, 0] (shapeCast S4x2048x3072 Z shapeCasts_S8192x3072_S4x2048x3072) slices_S4x2048x3072_S4x2048x2048_0_0_0

/-- The third result's columns of the array. -/
def tail27 (Z : FVec Ideal S8192x3072 .f32) : FVec Ideal S4x2048x2x4x64 .f32 :=
  shapeCast _ (extractStridedSlice S4x2048x2x4x1x64 ![0, 0, 0, 0, 0, 0] (shapeCast S4x2048x2x4x2x64 (extractStridedSlice S4x2048x1024 ![0, 0, 2048] (shapeCast S4x2048x3072 Z shapeCasts_S8192x3072_S4x2048x3072) slices_S4x2048x3072_S4x2048x1024_0_0_2048) shapeCasts_S4x2048x1024_S4x2048x2x4x2x64) slices_S4x2048x2x4x2x64_S4x2048x2x4x1x64_0_0_0_0_0_0) shapeCasts_S4x2048x2x4x1x64_S4x2048x2x4x64

/-- The fourth result's columns of the array. -/
def tail31 (Z : FVec Ideal S8192x3072 .f32) : FVec Ideal S4x2048x2x4x64 .f32 :=
  shapeCast _ (extractStridedSlice S4x2048x2x4x1x64 ![0, 0, 0, 0, 1, 0] (shapeCast S4x2048x2x4x2x64 (extractStridedSlice S4x2048x1024 ![0, 0, 2048] (shapeCast S4x2048x3072 Z shapeCasts_S8192x3072_S4x2048x3072) slices_S4x2048x3072_S4x2048x1024_0_0_2048) shapeCasts_S4x2048x1024_S4x2048x2x4x2x64) slices_S4x2048x2x4x2x64_S4x2048x2x4x1x64_0_0_0_0_1_0) shapeCasts_S4x2048x2x4x1x64_S4x2048x2x4x64

/-- The first result's rows and columns, by element. -/
theorem tail22_at (Z : FVec Ideal S8192x3072 .f32) (b : Fin 4) (t : Fin 128) (i : Fin 2) (j : Fin 4) (d : Fin 64) :
    tail22 Z (ix5 b t i j d) = Z (ix2 ⟨b.val * 2048 + (1920 + t.val), by omega⟩ ⟨2048 + (i.val * 512 + j.val * 128 + d.val), by omega⟩) := by
  pointwise [tail22]

/-- The second result's columns, by element. -/
theorem tail23_at (Z : FVec Ideal S8192x3072 .f32) (b : Fin 4) (t : Fin 2048) (n : Fin 2048) :
    tail23 Z (ix3 b t n) = Z (ix2 ⟨b.val * 2048 + t.val, by omega⟩ ⟨n.val, by omega⟩) := by
  pointwise [tail23]

/-- The third result's columns, by element. -/
theorem tail27_at (Z : FVec Ideal S8192x3072 .f32) (b : Fin 4) (t : Fin 2048) (i : Fin 2) (j : Fin 4) (d : Fin 64) :
    tail27 Z (ix5 b t i j d) = Z (ix2 ⟨b.val * 2048 + t.val, by omega⟩ ⟨2048 + (i.val * 512 + j.val * 128 + d.val), by omega⟩) := by
  pointwise [tail27]

/-- The fourth result's columns, by element. -/
theorem tail31_at (Z : FVec Ideal S8192x3072 .f32) (b : Fin 4) (t : Fin 2048) (i : Fin 2) (j : Fin 4) (d : Fin 64) :
    tail31 Z (ix5 b t i j d) = Z (ix2 ⟨b.val * 2048 + t.val, by omega⟩ ⟨2048 + (i.val * 512 + j.val * 128 + 64 + d.val), by omega⟩) := by
  pointwise [tail31]

/-- The array as the lines after the region find it. -/
theorem after_out (c : Dev nD) : Pipeline.withArrays (cfgs 0).spec c (V0 m c) (fun w => (dats m 0 c).arrAt w (cfgs 0).N) (Proc.devRef .tc main_v17)
    = (dats m 0 c).arrAt 3 cfg0.N :=
  Pipeline.withArrays_arr (cfgs 0).spec (by decide) c (V0 m c) (fun w => (dats m 0 c).arrAt w (cfgs 0).N) 3

/-- What the lines after the region leave as the first result. -/
theorem after22 (c : Dev nD) : (Pipeline.afterTail₀ cfgs (dats m) 0 (V0 m) [hostOps1] c main_v22 : FVec Ideal S4x128x2x4x64 .f32)
    = tail22 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What the lines after the region leave as the second result. -/
theorem after23 (c : Dev nD) : (Pipeline.afterTail₀ cfgs (dats m) 0 (V0 m) [hostOps1] c main_v23 : FVec Ideal S4x2048x2048 .f32)
    = tail23 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What the lines after the region leave as the third result. -/
theorem after27 (c : Dev nD) : (Pipeline.afterTail₀ cfgs (dats m) 0 (V0 m) [hostOps1] c main_v27 : FVec Ideal S4x2048x2x4x64 .f32)
    = tail27 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What the lines after the region leave as the fourth result. -/
theorem after31 (c : Dev nD) : (Pipeline.afterTail₀ cfgs (dats m) 0 (V0 m) [hostOps1] c main_v31 : FVec Ideal S4x2048x2x4x64 .f32)
    = tail31 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

end Cert.InOddIdeal.Proj

end
end
-- ==== Proof.InOddRef.lean ====
module

public import proofs.«01_k».proof.Proof.Norm
public import proofs.«01_k».proof.Proof.Gen.InOddRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InOddRefIdeal.Proj

open Cert.InOddRefIdeal Cert.InOddRefIdeal.Gen Cert.Norm

/-- The reference's normalized activations. -/
def refN (Y : FVec Ideal S8192x2048 .f32) (G : FVec Ideal S2x5x2048 .f32) : FVec Ideal S8192x2048 .f32 :=
  mulf (mulf Y (broadcastInDim S8192x2048 ![0, 1] bcast_S8192x1_S8192x2048_0_1 (Host.rsqrt (addf (Host.divf (broadcastInDim S8192x1 ![0] bcast_S8192_S8192x1_0 (Host.reduceAdd (mulf Y Y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] (shapeCast _ (extractStridedSlice S1x5x2048 ![1, 0, 0] G slices_S2x5x2048_S1x5x2048_1_0_0) shapeCasts_S1x5x2048_S5x2048) slices_S5x2048_S1x2048_0_0) shapeCasts_S1x2048_S2048)))

/-- The reference's projection, by batch and position. -/
def refZ (N : FVec Ideal S8192x2048 .f32) (W : FVec Ideal S1x2048x2560 .f32) : FVec Ideal S4x2048x2560 .f32 :=
  shapeCast _ (Host.dotGeneral dot_S8192x2048_S2048x2560_S8192x2560_1_0_0_1_n_n none N (shapeCast _ W shapeCasts_S1x2048x2560_S2048x2560)) shapeCasts_S8192x2560_S4x2048x2560

/-- The reference's queries. -/
def refQ (Z : FVec Ideal S4x2048x2560 .f32) : FVec Ideal S4x2048x2048 .f32 :=
  extractStridedSlice S4x2048x2048 ![0, 0, 0] Z slices_S4x2048x2560_S4x2048x2048_0_0_0

/-- The reference's keys. -/
def refK (Z : FVec Ideal S4x2048x2560 .f32) : FVec Ideal S4x2048x4x64 .f32 :=
  shapeCast _ (extractStridedSlice S4x2048x256 ![0, 0, 2048] Z slices_S4x2048x2560_S4x2048x256_0_0_2048) shapeCasts_S4x2048x256_S4x2048x4x64

/-- The reference's values. -/
def refV (Z : FVec Ideal S4x2048x2560 .f32) : FVec Ideal S4x2048x4x64 .f32 :=
  shapeCast _ (extractStridedSlice S4x2048x256 ![0, 0, 2304] Z slices_S4x2048x2560_S4x2048x256_0_0_2304) shapeCasts_S4x2048x256_S4x2048x4x64

/-- The reference's keys and values of every position. -/
def refKV (Z : FVec Ideal S4x2048x2560 .f32) : FVec Ideal S4x2048x2x4x64 .f32 :=
  concatenate S4x2048x2x4x64 2
    [⟨S4x2048x1x4x64, broadcastInDim S4x2048x1x4x64 ![0, 1, 3, 4] bcast_S4x2048x4x64_S4x2048x1x4x64_0_1_3_4 (refK Z)⟩,
     ⟨S4x2048x1x4x64, broadcastInDim S4x2048x1x4x64 ![0, 1, 3, 4] bcast_S4x2048x4x64_S4x2048x1x4x64_0_1_3_4 (refV Z)⟩]
    concatenates_S4x2048x1x4x64_S4x2048x1x4x64_S4x2048x2x4x64_d2

/-- The reference's keys and values of the window's positions. -/
def refW (Z : FVec Ideal S4x2048x2560 .f32) : FVec Ideal S4x128x2x4x64 .f32 :=
  concatenate S4x128x2x4x64 2
    [⟨S4x128x1x4x64, broadcastInDim S4x128x1x4x64 ![0, 1, 3, 4] bcast_S4x128x4x64_S4x128x1x4x64_0_1_3_4 (extractStridedSlice S4x128x4x64 ![0, 1920, 0, 0] (refK Z) slices_S4x2048x4x64_S4x128x4x64_0_1920_0_0)⟩,
     ⟨S4x128x1x4x64, broadcastInDim S4x128x1x4x64 ![0, 1, 3, 4] bcast_S4x128x4x64_S4x128x1x4x64_0_1_3_4 (extractStridedSlice S4x128x4x64 ![0, 1920, 0, 0] (refV Z) slices_S4x2048x4x64_S4x128x4x64_0_1920_0_0)⟩]
    concatenates_S4x128x1x4x64_S4x128x1x4x64_S4x128x2x4x64_d2

/-- The normalization, by element. -/
theorem refN_at (Y : FVec Ideal S8192x2048 .f32) (G : FVec Ideal S2x5x2048 .f32) (r : Fin 8192) (n : Fin 2048) :
    refN Y G (ix2 r n) = nrm (fun k => Y (ix2 r k)) (fun k => G (ix3 1 0 k)) n := by
  pointwise [refN]
  rfl

/-- The projection, by element. -/
theorem refZ_at (N : FVec Ideal S8192x2048 .f32) (W : FVec Ideal S1x2048x2560 .f32) (b : Fin 4) (t : Fin 2048) (n : Fin 2560) :
    refZ N W (ix3 b t n) = ∑ k : Fin 2048, N (ix2 ⟨b.val * 2048 + t.val, by omega⟩ k) * W (ix3 0 k n) := by
  pointwise [refZ]

/-- The projection of the normalized activations, by element. -/
theorem ref_at (Y : FVec Ideal S8192x2048 .f32) (G : FVec Ideal S2x5x2048 .f32) (W : FVec Ideal S1x2048x2560 .f32) (b : Fin 4) (t : Fin 2048) (n : Fin 2560) :
    refZ (refN Y G) W (ix3 b t n) = proj (fun k => Y (ix2 ⟨b.val * 2048 + t.val, by omega⟩ k)) (fun k => G (ix3 1 0 k)) fun k => W (ix3 0 k n) := by
  rw [refZ_at, proj]
  simp only [refN_at]

/-- The queries, by element. -/
theorem refQ_at (Z : FVec Ideal S4x2048x2560 .f32) (b : Fin 4) (t : Fin 2048) (n : Fin 2048) : refQ Z (ix3 b t n) = Z (ix3 b t ⟨n.val, by omega⟩) := by
  pointwise [refQ]

/-- The keys and values, by element. -/
theorem refKV_at (Z : FVec Ideal S4x2048x2560 .f32) (b : Fin 4) (t : Fin 2048) (i : Fin 2) (j : Fin 4) (d : Fin 64) :
    refKV Z (ix5 b t i j d) = Z (ix3 b t ⟨2048 + (i.val * 256 + j.val * 64 + d.val), by omega⟩) := by
  pointwise [refKV, refK, refV]
  split <;> (congr 2; apply Fin.ext; dsimp only; omega)

/-- The window's keys and values, by element. -/
theorem refW_at (Z : FVec Ideal S4x2048x2560 .f32) (b : Fin 4) (t : Fin 128) (i : Fin 2) (j : Fin 4) (d : Fin 64) :
    refW Z (ix5 b t i j d) = Z (ix3 b ⟨1920 + t.val, by omega⟩ ⟨2048 + (i.val * 256 + j.val * 64 + d.val), by omega⟩) := by
  pointwise [refW, refK, refV]
  split <;> (congr 2; apply Fin.ext; dsimp only; omega)

end Cert.InOddRefIdeal.Proj

end
end
-- ==== Proof.GatesMath.lean ====
module

public import Idealize.ShloMosaic.Lib.Pointwise

@[expose] public section

noncomputable section

open Idealize.ShloMosaic

namespace Cert.Gates

/-- The logarithm of the logistic function, as the kernel takes it. -/
def lsig (x : EReal) : EReal := min x 0 - Ideal.log1p (Ideal.exp (-max x (-x)))

/-- The logarithm of one plus zero. -/
theorem log_one : Ideal.log (1 + 0) = ((0 : ℝ) : EReal) := by
  rw [add_zero, show (1 : EReal) = ((1 : ℝ) : EReal) from rfl]
  show (if (1 : ℝ) ≤ 0 then (⊥ : EReal) else _) = _
  rw [if_neg (by norm_num), Real.log_one]

/-- The part of the log-logistic that an overflow would reach is a real number. -/
theorem soft_real (x : EReal) : ∃ r : ℝ, 0 ≤ r ∧ Ideal.log1p (Ideal.exp (-max x (-x))) = (r : EReal) := by
  induction x with
  | bot => exact ⟨0, le_rfl, by rw [show -max (⊥ : EReal) (-⊥) = ⊥ by simp]; exact log_one⟩
  | top => exact ⟨0, le_rfl, by rw [show -max (⊤ : EReal) (-⊤) = ⊥ by simp]; exact log_one⟩
  | coe x =>
    have e : -max (x : EReal) (-(x : EReal)) = ((-max x (-x) : ℝ) : EReal) := by
      rw [← EReal.coe_neg, ← EReal.coe_strictMono.monotone.map_max, ← EReal.coe_neg]
    have p := Real.exp_pos (-max x (-x))
    refine ⟨Real.log (1 + Real.exp (-max x (-x))), Real.log_nonneg (by linarith), ?_⟩
    rw [e]
    show Ideal.log (1 + ((Real.exp (-max x (-x)) : ℝ) : EReal)) = _
    rw [show (1 : EReal) = ((1 : ℝ) : EReal) from rfl, ← EReal.coe_add]
    show (if 1 + Real.exp (-max x (-x)) ≤ 0 then (⊥ : EReal) else _) = _
    rw [if_neg (by linarith)]

/-- The log-logistic is not positive infinity. -/
theorem lsig_ne_top (x : EReal) : lsig x ≠ ⊤ := by
  obtain ⟨r, -, h⟩ := soft_real x
  rw [lsig, h]
  have : min x 0 - (r : EReal) ≤ 0 - (r : EReal) := EReal.sub_le_sub (min_le_right _ _) le_rfl
  intro q
  rw [q, zero_sub, ← EReal.coe_neg] at this
  exact absurd (top_le_iff.1 this) (EReal.coe_ne_top _)

/-- The log-logistic as the negated soft maximum of the negated logit and zero. -/
theorem lsig_soft (x : EReal) : -(max (-x) 0 + Ideal.log1p (Ideal.exp (-max (-x - 0) (-(-x - 0))))) = lsig x := by
  have e : max (-x - 0) (-(-x - 0)) = max x (-x) := by rw [sub_zero, neg_neg, max_comm]
  obtain ⟨r, -, h⟩ := soft_real x
  rw [e, lsig, h, EReal.neg_add (Or.inr (EReal.coe_ne_top _)) (Or.inr (EReal.coe_ne_bot _))]
  congr 1
  rcases le_total x 0 with q | q
  · rw [min_eq_left q, max_eq_left (by simpa using EReal.neg_le_neg_iff.2 q), neg_neg]
  · rw [min_eq_right q, max_eq_right (by simpa using EReal.neg_le_neg_iff.2 q), neg_zero]

/-- A number that is not positive infinity is the sum of its three parts, each what the last ones leave. -/
theorem three (x : EReal) (h : x ≠ ⊤) : x + (x - x) + (x - x - (x - x)) = x := by
  induction x with
  | bot => simp
  | top => exact absurd rfl h
  | coe x => norm_cast; simp

/-- A running sum over a block's rows up to one, from three products with the triangle of ones. -/
theorem tri_sum (x : Fin 256 → EReal) (h : ∀ k, x k ≠ ⊤) (T : Fin 256 → EReal) (r : Fin 256) (hT : ∀ k, T k = if k ≤ r then 1 else 0) (a : EReal) :
    a + ∑ k, T k * x k + ∑ k, T k * (x k - x k) + ∑ k, T k * (x k - x k - (x k - x k)) = a + ∑ k ∈ Finset.univ.filter (· ≤ r), x k := by
  rw [add_assoc, add_assoc, ← Finset.sum_add_distrib, ← Finset.sum_add_distrib]
  congr 1
  rw [Finset.sum_filter]
  refine Finset.sum_congr rfl fun k _ => ?_
  rw [hT]
  by_cases q : k ≤ r
  · simp only [if_pos q, one_mul]
    rw [← add_assoc, three _ (h k)]
  · simp only [if_neg q, zero_mul, add_zero]

/-- The sum of the entries of a column before a row. -/
def pre (x : ℕ → EReal) (n : ℕ) : EReal := ∑ k ∈ Finset.range n, x k

/-- A running sum over a block's rows, added to the sum of what is before the block, is the running sum of the column. -/
theorem pre_block (x : ℕ → EReal) (o : ℕ) (r : Fin 256) :
    pre x o + ∑ k ∈ Finset.univ.filter (· ≤ r), x (o + (k : Fin 256).val) = pre x (o + r.val + 1) := by
  rw [pre, pre, add_assoc, Finset.sum_range_add]
  congr 1
  rw [Finset.sum_filter]
  refine (Fin.sum_univ_eq_sum_range (fun k => if k ≤ r.val then x (o + k) else 0) 256).trans ?_
  rw [← Finset.sum_filter]
  congr 1
  ext k
  rw [Finset.mem_filter, Finset.mem_range, Finset.mem_range]
  omega

end Cert.Gates

end
end
-- ==== Proof.GatesPoint.lean ====
module

public import proofs.«01_k».proof.Proof.GatesMath
public import proofs.«01_k».proof.Proof.FoxPoint
public import proofs.«01_k».proof.Proof.Gen.GatesIdeal.Skeleton
public import proofs.«01_k».proof.Proof.Gen.GatesIdeal.Frame
public import Idealize.ShloMosaic.Lib.Pointwise
public import Idealize.ShloMosaic.Lib.Pipeline.ValueKit
public import Idealize.ShloMosaic.Lib.Routing.OpsSet
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesIdeal.Fg

open Cert.GatesIdeal Cert.GatesIdeal.Gen Cert.Gates
open Cert.KernelIdeal.Fox (canon_hit canon_miss)

/-- The log-forget payload, by element. -/
theorem log_at (x : FVec Ideal S1x2048x128 .f32) (f : FVec Ideal S1x128 .f32) (r : Fin 2048) (l : Fin 128) :
    k0_pay3 (F := Ideal) x f (ix2 r l) = lsig (x (ix3 0 r l) + f (ix2 0 l)) := by
  pointwise [k0_pay3]
  rw [lsig, zero_sub]
  rfl

/-- The same payload as the block that is stored. -/
theorem log3_at (x : FVec Ideal S1x2048x128 .f32) (f : FVec Ideal S1x128 .f32) (r : Fin 2048) (l : Fin 128) :
    k0_pay4 (F := Ideal) x f (ix3 0 r l) = lsig (x (ix3 0 r l) + f (ix2 0 l)) := by
  refine Eq.trans ?_ (log_at x f r l)
  pointwise [k0_pay4]

/-- The triangle of ones. -/
theorem tri_at (r k : Fin 256) : k0_pay5 (F := Ideal) (ix2 r k) = if k ≤ r then 1 else 0 := by
  pointwise [k0_pay5]
  have e : IntOp.cmpi CmpIPredicate.sge (BitVec.ofNat 32 r.val) (BitVec.ofNat 32 k.val) = if k ≤ r then 1#1 else 0#1 := by
    revert r k
    decide +kernel
  rw [e]
  split <;> rfl

/-- One block of the running sum: the row carried in, and the block's rows below each row, in three parts. -/
def step (cr : FVec Ideal S1x128 .f32) (b : FVec Ideal S256x128 .f32) : FVec Ideal S256x128 .f32 :=
  addf (addf (addf (broadcastTo S256x128 cr broadcasts_S1x128_S256x128)
    (matmul dot_S256x256_S256x128_S256x128_1_0_0_1_n_n none (k0_pay5 (F := Ideal)) (truncf .bf16 b bitsLt_bf16_f32) (constant S256x128 .f32 0x00000000#32)))
    (matmul dot_S256x256_S256x128_S256x128_1_0_0_1_n_n none (k0_pay5 (F := Ideal)) (truncf .bf16 (subf b (extf .f32 (truncf .bf16 b bitsLt_bf16_f32) bitsLt_bf16_f32)) bitsLt_bf16_f32) (constant S256x128 .f32 0x00000000#32)))
    (matmul dot_S256x256_S256x128_S256x128_1_0_0_1_n_n none (k0_pay5 (F := Ideal)) (truncf .bf16 (subf (subf b (extf .f32 (truncf .bf16 b bitsLt_bf16_f32) bitsLt_bf16_f32)) (extf .f32 (truncf .bf16 (subf b (extf .f32 (truncf .bf16 b bitsLt_bf16_f32) bitsLt_bf16_f32)) bitsLt_bf16_f32) bitsLt_bf16_f32)) bitsLt_bf16_f32) (constant S256x128 .f32 0x00000000#32))

/-- One block of the running sum, by element. -/
theorem step_at (cr : FVec Ideal S1x128 .f32) (b : FVec Ideal S256x128 .f32) (r : Fin 256) (l : Fin 128) (h : ∀ k : Fin 256, b (ix2 k l) ≠ ⊤) :
    step cr b (ix2 r l) = cr (ix2 0 l) + ∑ k ∈ Finset.univ.filter (· ≤ r), b (ix2 k l) := by
  rw [← tri_sum (fun k => b (ix2 k l)) h (fun k => k0_pay5 (F := Ideal) (ix2 r k)) r (tri_at r)]
  pointwise [step]

/-- A lane of the log-forget gates as a column. -/
def col (L : FVec Ideal S2048x128 .f32) (l : Fin 128) (n : ℕ) : EReal := if h : n < 2048 then L (ix2 ⟨n, h⟩ l) else 0

/-- One block of the running sum, when what is carried in is the sum of what is before it. -/
theorem step_pre (L : FVec Ideal S2048x128 .f32) (l : Fin 128) (hL : ∀ k, L (ix2 k l) ≠ ⊤) (o : ℕ) (ho : o + 256 ≤ 2048) (cr : FVec Ideal S1x128 .f32)
    (b : FVec Ideal S256x128 .f32) (hc : cr (ix2 0 l) = pre (col L l) o) (hb : ∀ k : Fin 256, b (ix2 k l) = L (ix2 ⟨o + k.val, by omega⟩ l)) (r : Fin 256) :
    step cr b (ix2 r l) = pre (col L l) (o + r.val + 1) := by
  rw [step_at _ _ _ _ fun k => by rw [hb]; exact hL _, ← pre_block, hc]
  congr 1
  refine Finset.sum_congr rfl fun k _ => ?_
  rw [hb, col, dif_pos]

section blocks
variable (x : FVec Ideal S1x2048x128 .f32) (f : FVec Ideal S1x128 .f32) (l : Fin 128)

/-- The gates of a row block. -/
abbrev gates : FVec Ideal S2048x128 .f32 := k0_pay3 (F := Ideal) x f

/-- What the fourth block takes in. -/
abbrev carry2 : FVec Ideal S1x128 .f32 := k0_pay12 (F := Ideal) (gates x f) (k0_pay5 (F := Ideal)) (k0_pay6 (F := Ideal) x f)

/-- What the sixth block takes in. -/
abbrev carry4 : FVec Ideal S1x128 .f32 := k0_pay19 (F := Ideal) (gates x f) (k0_pay5 (F := Ideal)) (carry2 x f) (k0_pay13 (F := Ideal) (gates x f)) (k0_pay14 (F := Ideal) (gates x f))

/-- The gates are not positive infinity. -/
theorem ne (k : Fin 2048) : (gates x f) (ix2 k l) ≠ ⊤ := by
  rw [gates, log_at]
  exact lsig_ne_top _

/-- A block with a leading axis of one, by element. -/
theorem lead (y : FVec Ideal S256x128 .f32) (r : Fin 256) : shapeCast S1x256x128 y shapeCasts_S256x128_S1x256x128 (ix3 0 r l) = y (ix2 r l) := by
  pointwise

/-- The first block is one step. -/
theorem s0 : (k0_pay6 (F := Ideal) x f) = step (broadcast S1x128 (Scalar.ofBits (F := Ideal) .f32 0x00000000#32)) (extractStridedSlice S256x128 ![0, 0] (gates x f) slices_S2048x128_o0_0_S256x128) := rfl

/-- The first block, by element. -/
theorem b0 (r : Fin 256) : ((k0_pay6 (F := Ideal) x f)) (ix2 r l) = pre (col (gates x f) l) (0 + r.val + 1) := by
  rw [s0]
  refine step_pre (gates x f) l (ne x f l) 0 (by omega) _ _ ?_ (fun k => ?_) r
  · pointwise
    exact (Finset.sum_range_zero _).symm
  · pointwise

/-- The first block as it is stored. -/
theorem w0 (r : Fin 256) : (k0_pay7 (F := Ideal) (k0_pay6 (F := Ideal) x f)) (ix3 0 r l) = pre (col (gates x f) l) (0 + r.val + 1) := by
  refine Eq.trans ?_ (b0 x f l r)
  exact lead l ((k0_pay6 (F := Ideal) x f)) r

/-- The second block is one step. -/
theorem s1 : k0_pay8 (F := Ideal) (gates x f) (k0_pay5 (F := Ideal)) (k0_pay6 (F := Ideal) x f) = step (extractStridedSlice S1x128 ![255, 0] ((k0_pay6 (F := Ideal) x f)) slices_S256x128_o255_0_S1x128) (extractStridedSlice S256x128 ![256, 0] (gates x f) slices_S2048x128_o256_0_S256x128) := rfl

/-- The second block, by element. -/
theorem b1 (r : Fin 256) : (k0_pay8 (F := Ideal) (gates x f) (k0_pay5 (F := Ideal)) (k0_pay6 (F := Ideal) x f)) (ix2 r l) = pre (col (gates x f) l) (256 + r.val + 1) := by
  rw [s1]
  refine step_pre (gates x f) l (ne x f l) 256 (by omega) _ _ ?_ (fun k => ?_) r
  · refine Eq.trans ?_ (b0 x f l 255)
    generalize (k0_pay6 (F := Ideal) x f) = y
    pointwise
  · pointwise

/-- The second block as it is stored. -/
theorem w1 (r : Fin 256) : (k0_pay9 (F := Ideal) (gates x f) (k0_pay5 (F := Ideal)) (k0_pay6 (F := Ideal) x f)) (ix3 0 r l) = pre (col (gates x f) l) (256 + r.val + 1) := by
  refine Eq.trans ?_ (b1 x f l r)
  exact lead l (k0_pay8 (F := Ideal) (gates x f) (k0_pay5 (F := Ideal)) (k0_pay6 (F := Ideal) x f)) r

/-- The third block is one step. -/
theorem s2 : k0_pay10 (F := Ideal) (gates x f) (k0_pay5 (F := Ideal)) (k0_pay6 (F := Ideal) x f) = step (extractStridedSlice S1x128 ![255, 0] (k0_pay8 (F := Ideal) (gates x f) (k0_pay5 (F := Ideal)) (k0_pay6 (F := Ideal) x f)) slices_S256x128_o255_0_S1x128) (extractStridedSlice S256x128 ![512, 0] (gates x f) slices_S2048x128_o512_0_S256x128) := rfl

/-- The third block, by element. -/
theorem b2 (r : Fin 256) : (k0_pay10 (F := Ideal) (gates x f) (k0_pay5 (F := Ideal)) (k0_pay6 (F := Ideal) x f)) (ix2 r l) = pre (col (gates x f) l) (512 + r.val + 1) := by
  rw [s2]
  refine step_pre (gates x f) l (ne x f l) 512 (by omega) _ _ ?_ (fun k => ?_) r
  · refine Eq.trans ?_ (b1 x f l 255)
    generalize k0_pay8 (F := Ideal) (gates x f) (k0_pay5 (F := Ideal)) (k0_pay6 (F := Ideal) x f) = y
    pointwise
  · pointwise

/-- The third block as it is stored. -/
theorem w2 (r : Fin 256) : (k0_pay11 (F := Ideal) (gates x f) (k0_pay5 (F := Ideal)) (k0_pay6 (F := Ideal) x f)) (ix3 0 r l) = pre (col (gates x f) l) (512 + r.val + 1) := by
  refine Eq.trans ?_ (b2 x f l r)
  exact lead l (k0_pay10 (F := Ideal) (gates x f) (k0_pay5 (F := Ideal)) (k0_pay6 (F := Ideal) x f)) r

/-- The fourth block is one step. -/
theorem s3 : k0_pay15 (F := Ideal) (k0_pay5 (F := Ideal)) (carry2 x f) (k0_pay13 (gates x f)) (k0_pay14 (gates x f)) = step ((carry2 x f)) (k0_pay13 (gates x f)) := rfl

/-- The fourth block, by element. -/
theorem b3 (r : Fin 256) : (k0_pay15 (F := Ideal) (k0_pay5 (F := Ideal)) (carry2 x f) (k0_pay13 (gates x f)) (k0_pay14 (gates x f))) (ix2 r l) = pre (col (gates x f) l) (768 + r.val + 1) := by
  rw [s3]
  refine step_pre (gates x f) l (ne x f l) 768 (by omega) _ _ ?_ (fun k => ?_) r
  · refine Eq.trans ?_ (b2 x f l 255)
    unfold carry2 k0_pay12
    generalize k0_pay10 (F := Ideal) (gates x f) (k0_pay5 (F := Ideal)) (k0_pay6 (F := Ideal) x f) = y
    pointwise
  · pointwise [k0_pay13]

/-- The fourth block as it is stored. -/
theorem w3 (r : Fin 256) : (k0_pay16 (F := Ideal) (k0_pay5 (F := Ideal)) (carry2 x f) (k0_pay13 (gates x f)) (k0_pay14 (gates x f))) (ix3 0 r l) = pre (col (gates x f) l) (768 + r.val + 1) := by
  refine Eq.trans ?_ (b3 x f l r)
  exact lead l (k0_pay15 (F := Ideal) (k0_pay5 (F := Ideal)) (carry2 x f) (k0_pay13 (gates x f)) (k0_pay14 (gates x f))) r

/-- The fifth block is one step. -/
theorem s4 : k0_pay17 (F := Ideal) (gates x f) (k0_pay5 (F := Ideal)) (carry2 x f) (k0_pay13 (gates x f)) (k0_pay14 (gates x f)) = step (extractStridedSlice S1x128 ![255, 0] (k0_pay15 (F := Ideal) (k0_pay5 (F := Ideal)) (carry2 x f) (k0_pay13 (gates x f)) (k0_pay14 (gates x f))) slices_S256x128_o255_0_S1x128) (extractStridedSlice S256x128 ![1024, 0] (gates x f) slices_S2048x128_o1024_0_S256x128) := rfl

/-- The fifth block, by element. -/
theorem b4 (r : Fin 256) : (k0_pay17 (F := Ideal) (gates x f) (k0_pay5 (F := Ideal)) (carry2 x f) (k0_pay13 (gates x f)) (k0_pay14 (gates x f))) (ix2 r l) = pre (col (gates x f) l) (1024 + r.val + 1) := by
  rw [s4]
  refine step_pre (gates x f) l (ne x f l) 1024 (by omega) _ _ ?_ (fun k => ?_) r
  · refine Eq.trans ?_ (b3 x f l 255)
    generalize k0_pay15 (F := Ideal) (k0_pay5 (F := Ideal)) (carry2 x f) (k0_pay13 (gates x f)) (k0_pay14 (gates x f)) = y
    pointwise
  · pointwise

/-- The fifth block as it is stored. -/
theorem w4 (r : Fin 256) : (k0_pay18 (F := Ideal) (gates x f) (k0_pay5 (F := Ideal)) (carry2 x f) (k0_pay13 (gates x f)) (k0_pay14 (gates x f))) (ix3 0 r l) = pre (col (gates x f) l) (1024 + r.val + 1) := by
  refine Eq.trans ?_ (b4 x f l r)
  exact lead l (k0_pay17 (F := Ideal) (gates x f) (k0_pay5 (F := Ideal)) (carry2 x f) (k0_pay13 (gates x f)) (k0_pay14 (gates x f))) r

/-- The sixth block is one step. -/
theorem s5 : k0_pay26 (F := Ideal) (k0_pay5 (F := Ideal)) (carry4 x f) (k0_pay23 (gates x f)) (k0_pay24 (gates x f)) (k0_pay25 (gates x f) (k0_pay5 (F := Ideal))) = step ((carry4 x f)) (k0_pay20 (gates x f)) := rfl

/-- The sixth block, by element. -/
theorem b5 (r : Fin 256) : (k0_pay26 (F := Ideal) (k0_pay5 (F := Ideal)) (carry4 x f) (k0_pay23 (gates x f)) (k0_pay24 (gates x f)) (k0_pay25 (gates x f) (k0_pay5 (F := Ideal)))) (ix2 r l) = pre (col (gates x f) l) (1280 + r.val + 1) := by
  rw [s5]
  refine step_pre (gates x f) l (ne x f l) 1280 (by omega) _ _ ?_ (fun k => ?_) r
  · refine Eq.trans ?_ (b4 x f l 255)
    unfold carry4 k0_pay19
    generalize k0_pay17 (F := Ideal) (gates x f) (k0_pay5 (F := Ideal)) (carry2 x f) (k0_pay13 (gates x f)) (k0_pay14 (gates x f)) = y
    pointwise
  · pointwise [k0_pay20]

/-- The sixth block as it is stored. -/
theorem w5 (r : Fin 256) : (k0_pay27 (F := Ideal) (k0_pay5 (F := Ideal)) (carry4 x f) (k0_pay23 (gates x f)) (k0_pay24 (gates x f)) (k0_pay25 (gates x f) (k0_pay5 (F := Ideal)))) (ix3 0 r l) = pre (col (gates x f) l) (1280 + r.val + 1) := by
  refine Eq.trans ?_ (b5 x f l r)
  exact lead l (k0_pay26 (F := Ideal) (k0_pay5 (F := Ideal)) (carry4 x f) (k0_pay23 (gates x f)) (k0_pay24 (gates x f)) (k0_pay25 (gates x f) (k0_pay5 (F := Ideal)))) r

/-- The seventh block is one step. -/
theorem s6 : k0_pay28 (F := Ideal) (gates x f) (k0_pay5 (F := Ideal)) (carry4 x f) (k0_pay23 (gates x f)) (k0_pay24 (gates x f)) (k0_pay25 (gates x f) (k0_pay5 (F := Ideal))) = step (extractStridedSlice S1x128 ![255, 0] (k0_pay26 (F := Ideal) (k0_pay5 (F := Ideal)) (carry4 x f) (k0_pay23 (gates x f)) (k0_pay24 (gates x f)) (k0_pay25 (gates x f) (k0_pay5 (F := Ideal)))) slices_S256x128_o255_0_S1x128) (extractStridedSlice S256x128 ![1536, 0] (gates x f) slices_S2048x128_o1536_0_S256x128) := rfl

/-- The seventh block, by element. -/
theorem b6 (r : Fin 256) : (k0_pay28 (F := Ideal) (gates x f) (k0_pay5 (F := Ideal)) (carry4 x f) (k0_pay23 (gates x f)) (k0_pay24 (gates x f)) (k0_pay25 (gates x f) (k0_pay5 (F := Ideal)))) (ix2 r l) = pre (col (gates x f) l) (1536 + r.val + 1) := by
  rw [s6]
  refine step_pre (gates x f) l (ne x f l) 1536 (by omega) _ _ ?_ (fun k => ?_) r
  · refine Eq.trans ?_ (b5 x f l 255)
    generalize k0_pay26 (F := Ideal) (k0_pay5 (F := Ideal)) (carry4 x f) (k0_pay23 (gates x f)) (k0_pay24 (gates x f)) (k0_pay25 (gates x f) (k0_pay5 (F := Ideal))) = y
    pointwise
  · pointwise

/-- The seventh block as it is stored. -/
theorem w6 (r : Fin 256) : (k0_pay29 (F := Ideal) (gates x f) (k0_pay5 (F := Ideal)) (carry4 x f) (k0_pay23 (gates x f)) (k0_pay24 (gates x f)) (k0_pay25 (gates x f) (k0_pay5 (F := Ideal)))) (ix3 0 r l) = pre (col (gates x f) l) (1536 + r.val + 1) := by
  refine Eq.trans ?_ (b6 x f l r)
  exact lead l (k0_pay28 (F := Ideal) (gates x f) (k0_pay5 (F := Ideal)) (carry4 x f) (k0_pay23 (gates x f)) (k0_pay24 (gates x f)) (k0_pay25 (gates x f) (k0_pay5 (F := Ideal)))) r

/-- The eighth block is one step. -/
theorem s7 : k0_pay30 (F := Ideal) (gates x f) (k0_pay5 (F := Ideal)) (carry4 x f) (k0_pay23 (gates x f)) (k0_pay24 (gates x f)) (k0_pay25 (gates x f) (k0_pay5 (F := Ideal))) = step (extractStridedSlice S1x128 ![255, 0] (k0_pay28 (F := Ideal) (gates x f) (k0_pay5 (F := Ideal)) (carry4 x f) (k0_pay23 (gates x f)) (k0_pay24 (gates x f)) (k0_pay25 (gates x f) (k0_pay5 (F := Ideal)))) slices_S256x128_o255_0_S1x128) (extractStridedSlice S256x128 ![1792, 0] (gates x f) slices_S2048x128_o1792_0_S256x128) := rfl

/-- The eighth block, by element. -/
theorem b7 (r : Fin 256) : (k0_pay30 (F := Ideal) (gates x f) (k0_pay5 (F := Ideal)) (carry4 x f) (k0_pay23 (gates x f)) (k0_pay24 (gates x f)) (k0_pay25 (gates x f) (k0_pay5 (F := Ideal)))) (ix2 r l) = pre (col (gates x f) l) (1792 + r.val + 1) := by
  rw [s7]
  refine step_pre (gates x f) l (ne x f l) 1792 (by omega) _ _ ?_ (fun k => ?_) r
  · refine Eq.trans ?_ (b6 x f l 255)
    generalize k0_pay28 (F := Ideal) (gates x f) (k0_pay5 (F := Ideal)) (carry4 x f) (k0_pay23 (gates x f)) (k0_pay24 (gates x f)) (k0_pay25 (gates x f) (k0_pay5 (F := Ideal))) = y
    pointwise
  · pointwise

/-- The eighth block as it is stored. -/
theorem w7 (r : Fin 256) : (k0_pay1 (F := Ideal) (k0_pay30 (F := Ideal) (gates x f) (k0_pay5 (F := Ideal)) (carry4 x f) (k0_pay23 (gates x f)) (k0_pay24 (gates x f)) (k0_pay25 (gates x f) (k0_pay5 (F := Ideal))))) (ix3 0 r l) = pre (col (gates x f) l) (1792 + r.val + 1) := by
  refine Eq.trans ?_ (b7 x f l r)
  exact lead l (k0_pay30 (F := Ideal) (gates x f) (k0_pay5 (F := Ideal)) (carry4 x f) (k0_pay23 (gates x f)) (k0_pay24 (gates x f)) (k0_pay25 (gates x f) (k0_pay5 (F := Ideal)))) r

end blocks

/-- Eight stored blocks of rows, by row. -/
theorem rows8 (g : ℕ → EReal) (l : Fin 128) (i0 : ∀ a, (![0, 0, 0] : Fin S1x2048x128.rank → ℕ) a + S1x256x128.size a ≤ S1x2048x128.size a) (i1 : ∀ a, (![0, 256, 0] : Fin S1x2048x128.rank → ℕ) a + S1x256x128.size a ≤ S1x2048x128.size a) (i2 : ∀ a, (![0, 512, 0] : Fin S1x2048x128.rank → ℕ) a + S1x256x128.size a ≤ S1x2048x128.size a) (i3 : ∀ a, (![0, 768, 0] : Fin S1x2048x128.rank → ℕ) a + S1x256x128.size a ≤ S1x2048x128.size a) (i4 : ∀ a, (![0, 1024, 0] : Fin S1x2048x128.rank → ℕ) a + S1x256x128.size a ≤ S1x2048x128.size a) (i5 : ∀ a, (![0, 1280, 0] : Fin S1x2048x128.rank → ℕ) a + S1x256x128.size a ≤ S1x2048x128.size a) (i6 : ∀ a, (![0, 1536, 0] : Fin S1x2048x128.rank → ℕ) a + S1x256x128.size a ≤ S1x2048x128.size a) (i7 : ∀ a, (![0, 1792, 0] : Fin S1x2048x128.rank → ℕ) a + S1x256x128.size a ≤ S1x2048x128.size a)
    (P0 : S1x256x128.Idx → EReal) (h0 : ∀ r : Fin 256, P0 (ix3 0 r l) = g (0 + r.val + 1))
    (P1 : S1x256x128.Idx → EReal) (h1 : ∀ r : Fin 256, P1 (ix3 0 r l) = g (256 + r.val + 1))
    (P2 : S1x256x128.Idx → EReal) (h2 : ∀ r : Fin 256, P2 (ix3 0 r l) = g (512 + r.val + 1))
    (P3 : S1x256x128.Idx → EReal) (h3 : ∀ r : Fin 256, P3 (ix3 0 r l) = g (768 + r.val + 1))
    (P4 : S1x256x128.Idx → EReal) (h4 : ∀ r : Fin 256, P4 (ix3 0 r l) = g (1024 + r.val + 1))
    (P5 : S1x256x128.Idx → EReal) (h5 : ∀ r : Fin 256, P5 (ix3 0 r l) = g (1280 + r.val + 1))
    (P6 : S1x256x128.Idx → EReal) (h6 : ∀ r : Fin 256, P6 (ix3 0 r l) = g (1536 + r.val + 1))
    (P7 : S1x256x128.Idx → EReal) (h7 : ∀ r : Fin 256, P7 (ix3 0 r l) = g (1792 + r.val + 1)) (r : Fin 2048) :
    View.canon ([⟨Rect.unit ![0, 1792, 0] S1x256x128.size i7, P7⟩, ⟨Rect.unit ![0, 1536, 0] S1x256x128.size i6, P6⟩, ⟨Rect.unit ![0, 1280, 0] S1x256x128.size i5, P5⟩, ⟨Rect.unit ![0, 1024, 0] S1x256x128.size i4, P4⟩, ⟨Rect.unit ![0, 768, 0] S1x256x128.size i3, P3⟩, ⟨Rect.unit ![0, 512, 0] S1x256x128.size i2, P2⟩, ⟨Rect.unit ![0, 256, 0] S1x256x128.size i1, P1⟩, ⟨Rect.unit ![0, 0, 0] S1x256x128.size i0, P0⟩] : List (View.Piece (Elt Ideal) S1x2048x128 .f32)) (ix3 0 r l) = g (r.val + 1) := by
  have hr := r.isLt
  by_cases h7' : 1792 ≤ r.val
  · rw [canon_hit _ _ _ _ (ix3 (0 : Fin 1) (⟨r.val - 1792, by omega⟩ : Fin 256) l) (by intro a; fin_cases a <;> simp [ix3] <;> omega), h7]
    congr 1
    dsimp only; omega
  rw [canon_miss _ _ _ _ ⟨1, Or.inl (by show r.val < 1792; omega)⟩]
  by_cases h6' : 1536 ≤ r.val
  · rw [canon_hit _ _ _ _ (ix3 (0 : Fin 1) (⟨r.val - 1536, by omega⟩ : Fin 256) l) (by intro a; fin_cases a <;> simp [ix3] <;> omega), h6]
    congr 1
    dsimp only; omega
  rw [canon_miss _ _ _ _ ⟨1, Or.inl (by show r.val < 1536; omega)⟩]
  by_cases h5' : 1280 ≤ r.val
  · rw [canon_hit _ _ _ _ (ix3 (0 : Fin 1) (⟨r.val - 1280, by omega⟩ : Fin 256) l) (by intro a; fin_cases a <;> simp [ix3] <;> omega), h5]
    congr 1
    dsimp only; omega
  rw [canon_miss _ _ _ _ ⟨1, Or.inl (by show r.val < 1280; omega)⟩]
  by_cases h4' : 1024 ≤ r.val
  · rw [canon_hit _ _ _ _ (ix3 (0 : Fin 1) (⟨r.val - 1024, by omega⟩ : Fin 256) l) (by intro a; fin_cases a <;> simp [ix3] <;> omega), h4]
    congr 1
    dsimp only; omega
  rw [canon_miss _ _ _ _ ⟨1, Or.inl (by show r.val < 1024; omega)⟩]
  by_cases h3' : 768 ≤ r.val
  · rw [canon_hit _ _ _ _ (ix3 (0 : Fin 1) (⟨r.val - 768, by omega⟩ : Fin 256) l) (by intro a; fin_cases a <;> simp [ix3] <;> omega), h3]
    congr 1
    dsimp only; omega
  rw [canon_miss _ _ _ _ ⟨1, Or.inl (by show r.val < 768; omega)⟩]
  by_cases h2' : 512 ≤ r.val
  · rw [canon_hit _ _ _ _ (ix3 (0 : Fin 1) (⟨r.val - 512, by omega⟩ : Fin 256) l) (by intro a; fin_cases a <;> simp [ix3] <;> omega), h2]
    congr 1
    dsimp only; omega
  rw [canon_miss _ _ _ _ ⟨1, Or.inl (by show r.val < 512; omega)⟩]
  by_cases h1' : 256 ≤ r.val
  · rw [canon_hit _ _ _ _ (ix3 (0 : Fin 1) (⟨r.val - 256, by omega⟩ : Fin 256) l) (by intro a; fin_cases a <;> simp [ix3] <;> omega), h1]
    congr 1
    dsimp only; omega
  rw [canon_miss _ _ _ _ ⟨1, Or.inl (by show r.val < 256; omega)⟩]
  rw [canon_hit _ _ _ _ (ix3 (0 : Fin 1) (⟨r.val, by omega⟩ : Fin 256) l) (by intro a; fin_cases a <;> simp [ix3]), h0]
  congr 1
  dsimp only; omega

variable (m : (ℓ : Loc nD τ sig) → Buf (Elt Ideal) ℓ)

/-- What a point leaves in the running sum's block. -/
theorem sum_point (c : Dev nD) (t : Fin cfg0.N) (r : Fin 2048) (l : Fin 128) :
    (outsAt0 m c t).2.1 (ix3 0 r l) = pre (col (k0_pay3 (F := Ideal) (iblk m c 0 t) (iblk m c 1 t)) l) (r.val + 1) := by
  unfold outsAt0
  frame_out
  exact rows8 (pre (col (k0_pay3 (F := Ideal) (iblk m c 0 t) (iblk m c 1 t)) l)) l _ _ _ _ _ _ _ _
    _ (w0 _ _ l) _ (w1 _ _ l) _ (w2 _ _ l) _ (w3 _ _ l) _ (w4 _ _ l) _ (w5 _ _ l) _ (w6 _ _ l) _ (w7 _ _ l) r

/-- What a point leaves in the gates' block. -/
theorem log_point (c : Dev nD) (t : Fin cfg0.N) (r : Fin 2048) (l : Fin 128) :
    (outsAt0 m c t).1 (ix3 0 r l) = k0_pay3 (F := Ideal) (iblk m c 0 t) (iblk m c 1 t) (ix2 r l) := by
  unfold outsAt0
  frame_out
  exact (log3_at _ _ r l).trans (log_at _ _ r l).symm

end Cert.GatesIdeal.Fg

end
end
-- ==== Proof.GatesArr.lean ====
module

public import proofs.«01_k».proof.Proof.GatesPoint

@[expose] public section

set_option maxRecDepth 16384

noncomputable section

open Idealize.ShloMosaic Idealize.ShloMosaic.TcCoe Idealize.SL.Sem
open Idealize.ShloMosaic.Pipeline (Dat)

namespace Cert.GatesIdeal.Fg

open Cert.GatesIdeal Cert.GatesIdeal.Gen Cert.Gates
open Idealize.ShloMosaic.Routing (scatter_set_hit)

/-- Where the bias is put: row `0`, from lane `24`. -/
def place : IVec S2 32 :=
  concatenate S2 0 [⟨S1, broadcastInDim S1 ![] bcast_S_S1 (constantI S_ 32 0#32)⟩, ⟨S1, broadcastInDim S1 ![] bcast_S_S1 (constantI S_ 32 24#32)⟩] concatenates_S1_S1_S2_d0

/-- The bias as a row of lanes. -/
def lanes (B : FVec Ideal S1x8 .f32) : FVec Ideal S1x128 .f32 :=
  Host.scatter scatter_S1x128_S2_S8_0_0_01_0 (fun _ b => b) (broadcastInDim S1x128 ![] bcast_S_S1x128 (constant (F := Ideal) S_ .f32 0x00000000#32)) place
    (shapeCast S8 B shapeCasts_S1x8_S8)

/-- Where each element of the bias lands. -/
theorem lands (k : Fin 8) : scatter_S1x128_S2_S8_0_0_01_0.resultIdx? (ix1 k) place = some (ix2 (0 : Fin 1) (⟨24 + k.val, by omega⟩ : Fin 128)) := by
  revert k
  decide +kernel

/-- The forget gates' lanes hold the bias. -/
theorem lanes_at (B : FVec Ideal S1x8 .f32) (h : Fin 8) : lanes B (ix2 0 ⟨24 + h.val, by omega⟩) = B (ix2 0 h) := by
  refine scatter_set_hit _ _ _ _ _ _ (fun k hk => ?_) (ix1 h) (lands h)
  obtain ⟨k, rfl⟩ : ∃ k' : Fin 8, k = ix1 k' := ⟨k 0, by blk_ext⟩
  rw [lands k] at hk
  have e : (⟨24 + k.val, by omega⟩ : Fin 128) = ⟨24 + h.val, by omega⟩ := congrFun (Option.some.inj hk) 1
  have e' : k = h := Fin.ext (by have := Fin.mk.inj e; omega)
  rw [e']
  pointwise

variable (m : (ℓ : Loc nD τ sig) → Buf (Elt Ideal) ℓ)

/-- The region finds the projected rows. -/
theorem V_z (c : Dev nD) : (V m c main_arg0 : FVec Ideal S4x2048x6144 .f32) = m ((c.tc : Thread nD τ).loc main_arg0) := by
  unfold V V0
  rfl

/-- The region finds the bias as a row of lanes. -/
theorem V_b (c : Dev nD) : (V m c main_v5 : FVec Ideal S1x128 .f32) = lanes (m ((c.tc : Thread nD τ).loc main_arg1)) := by
  unfold V V0
  rfl

/-- Which block of its array each window holds at a point. -/
theorem idx : ∀ t : Fin cfg0.N,
    win0_0.index t = ![t.val, 0, 44] ∧ win0_1.index t = ![0, 0] ∧ win0_2.index t = ![t.val, 0, 0] ∧ win0_3.index t = ![t.val, 0, 0] :=
  (by decide +kernel : ∀ t : Fin grid0.N, _)

/-- The gates of a batch, by row and lane. -/
def gate (z : FVec Ideal S4x2048x6144 .f32) (B : FVec Ideal S1x8 .f32) (b : Fin 4) (r : Fin 2048) (l : Fin 128) : EReal :=
  lsig (z (ix3 b r ⟨5632 + l.val, by omega⟩) + lanes B (ix2 0 l))

/-- The running sums of a batch, by row and lane. -/
def cum (z : FVec Ideal S4x2048x6144 .f32) (B : FVec Ideal S1x8 .f32) (b : Fin 4) (r : Fin 2048) (l : Fin 128) : EReal :=
  pre (fun n => if h : n < 2048 then gate z B b ⟨n, h⟩ l else 0) (r.val + 1)

/-- The gates of a head, in its lane. -/
theorem gate_fl (z : FVec Ideal S4x2048x6144 .f32) (B : FVec Ideal S1x8 .f32) (b : Fin 4) (r : Fin 2048) (h : Fin 8) :
    gate z B b r ⟨24 + h.val, by omega⟩ = lsig (z (ix3 b r ⟨5656 + h.val, by omega⟩) + B (ix2 0 h)) := by
  unfold gate
  rw [lanes_at]
  congr 4
  exact Fin.ext (by show 5632 + (24 + h.val) = 5656 + h.val; omega)

/-- The running sums of a head, in its lane. -/
theorem cum_fl (z : FVec Ideal S4x2048x6144 .f32) (B : FVec Ideal S1x8 .f32) (b : Fin 4) (r : Fin 2048) (h : Fin 8) :
    cum z B b r ⟨24 + h.val, by omega⟩
      = pre (fun n => if hn : n < 2048 then lsig (z (ix3 b ⟨n, hn⟩ ⟨5656 + h.val, by omega⟩) + B (ix2 0 h)) else 0) (r.val + 1) := by
  unfold cum
  simp only [gate_fl]

/-- A block of the projected rows. -/
theorem blk_z (c : Dev nD) (t : Fin cfg0.N) (r : Fin 2048) (l : Fin 128) :
    (iblk m c 0 t : FVec Ideal S1x2048x128 .f32) (ix3 0 r l)
      = (m ((c.tc : Thread nD τ).loc main_arg0) : FVec Ideal S4x2048x6144 .f32) (ix3 (⟨t.val, t.isLt⟩ : Fin 4) r ⟨5632 + l.val, by omega⟩) := by
  have e : (iblk m c 0 t : FVec Ideal S1x2048x128 .f32) (ix3 0 r l) = (V m c main_arg0 : FVec Ideal S4x2048x6144 .f32) (ix3 (⟨t.val, t.isLt⟩ : Fin 4) r ⟨5632 + l.val, by omega⟩) := by
    blk_point [iblk, idx t]
  rw [e, V_z]

/-- The block of the bias. -/
theorem blk_b (c : Dev nD) (t : Fin cfg0.N) (l : Fin 128) :
    (iblk m c 1 t : FVec Ideal S1x128 .f32) (ix2 0 l) = lanes (m ((c.tc : Thread nD τ).loc main_arg1)) (ix2 0 l) := by
  rw [← V_b]
  blk_point [iblk, idx t]

/-- The gates of a point's blocks. -/
theorem gate_blk (c : Dev nD) (t : Fin cfg0.N) (r : Fin 2048) (l : Fin 128) :
    k0_pay3 (F := Ideal) (iblk m c 0 t) (iblk m c 1 t) (ix2 r l)
      = gate (m ((c.tc : Thread nD τ).loc main_arg0)) (m ((c.tc : Thread nD τ).loc main_arg1)) ⟨t.val, t.isLt⟩ r l := by
  refine (log_at _ _ r l).trans (congrArg lsig ?_)
  exact congrArg₂ (fun a b : EReal => a + b) (blk_z m c t r l) (blk_b m c t l)

/-- The running sums of a point's blocks. -/
theorem cum_blk (c : Dev nD) (t : Fin cfg0.N) (r : Fin 2048) (l : Fin 128) :
    pre (col (k0_pay3 (F := Ideal) (iblk m c 0 t) (iblk m c 1 t)) l) (r.val + 1)
      = cum (m ((c.tc : Thread nD τ).loc main_arg0)) (m ((c.tc : Thread nD τ).loc main_arg1)) ⟨t.val, t.isLt⟩ r l := by
  unfold cum
  congr 1
  funext n
  unfold col
  split
  · exact gate_blk m c t _ l
  · rfl

/-- The gates' array after the run. -/
theorem final2 (c : Dev nD) : (dats m 0 c).arrAt 2 cfg0.N = fun i : S4x2048x128.Idx =>
    gate (m ((c.tc : Thread nD τ).loc main_arg0)) (m ((c.tc : Thread nD τ).loc main_arg1)) (i 0) (i 1) (i 2) := by
  refine (dats m 0 c).arrAt_eq_of_covers 2 _ (by decide +kernel) fun t hf y => ?_
  blk_simp
  rw [after0_2]
  obtain ⟨r, l, rfl⟩ : ∃ (r : Fin 2048) (l : Fin 128), y = ix3 0 r l := ⟨y 1, y 2, by blk_ext⟩
  refine (log_point m c t r l).trans ((gate_blk m c t r l).trans ?_)
  congr 1 <;> apply Fin.ext <;> blk_simp [idx t]
  all_goals first | rfl | (dsimp only; omega)

/-- The running sums' array after the run. -/
theorem final3 (c : Dev nD) : (dats m 0 c).arrAt 3 cfg0.N = fun i : S4x2048x128.Idx =>
    cum (m ((c.tc : Thread nD τ).loc main_arg0)) (m ((c.tc : Thread nD τ).loc main_arg1)) (i 0) (i 1) (i 2) := by
  refine (dats m 0 c).arrAt_eq_of_covers 3 _ (by decide +kernel) fun t hf y => ?_
  blk_simp
  rw [after0_3]
  obtain ⟨r, l, rfl⟩ : ∃ (r : Fin 2048) (l : Fin 128), y = ix3 0 r l := ⟨y 1, y 2, by blk_ext⟩
  refine (sum_point m c t r l).trans ((cum_blk m c t r l).trans ?_)
  congr 1 <;> apply Fin.ext <;> blk_simp [idx t]
  all_goals first | rfl | (dsimp only; omega)

/-- The forget gates' lanes of an array. -/
def tail (Z : FVec Ideal S4x2048x128 .f32) : FVec Ideal S4x2048x8 .f32 :=
  extractStridedSlice S4x2048x8 ![0, 0, 24] Z slices_S4x2048x128_S4x2048x8_0_0_24

/-- The forget gates' lanes, by element. -/
theorem tail_at (Z : FVec Ideal S4x2048x128 .f32) (b : Fin 4) (t : Fin 2048) (h : Fin 8) :
    tail Z (ix3 b t h) = Z (ix3 b t ⟨24 + h.val, by omega⟩) := by
  pointwise [tail]

/-- The gates' array as the lines after the region find it. -/
theorem after_out2 (c : Dev nD) : Pipeline.withArrays (cfgs 0).spec c (V0 m c) (fun w => (dats m 0 c).arrAt w (cfgs 0).N) (Proc.devRef .tc main_v6_0)
    = (dats m 0 c).arrAt 2 cfg0.N :=
  Pipeline.withArrays_arr (cfgs 0).spec (by decide) c (V0 m c) (fun w => (dats m 0 c).arrAt w (cfgs 0).N) 2

/-- The running sums' array as the lines after the region find it. -/
theorem after_out3 (c : Dev nD) : Pipeline.withArrays (cfgs 0).spec c (V0 m c) (fun w => (dats m 0 c).arrAt w (cfgs 0).N) (Proc.devRef .tc main_v6_1)
    = (dats m 0 c).arrAt 3 cfg0.N :=
  Pipeline.withArrays_arr (cfgs 0).spec (by decide) c (V0 m c) (fun w => (dats m 0 c).arrAt w (cfgs 0).N) 3

/-- What the lines after the region leave as the first result. -/
theorem after7 (c : Dev nD) : (Pipeline.afterTail₀ cfgs (dats m) 0 (V0 m) [hostOps1] c main_v7 : FVec Ideal S4x2048x8 .f32)
    = tail ((dats m 0 c).arrAt 2 cfg0.N) := by
  rw [← after_out2]
  unfold Pipeline.afterTail₀
  simp only [List.flatten_cons, List.flatten_nil, List.append_nil, StableHlo.after_cons, StableHlo.after_nil]
  after_results_simp
  after_results_loop
  rfl

/-- What the lines after the region leave as the second result. -/
theorem after8 (c : Dev nD) : (Pipeline.afterTail₀ cfgs (dats m) 0 (V0 m) [hostOps1] c main_v8 : FVec Ideal S4x2048x8 .f32)
    = tail ((dats m 0 c).arrAt 3 cfg0.N) := by
  rw [← after_out3]
  unfold Pipeline.afterTail₀
  simp only [List.flatten_cons, List.flatten_nil, List.append_nil, StableHlo.after_cons, StableHlo.after_nil]
  after_results_simp
  after_results_loop
  rfl

end Cert.GatesIdeal.Fg

end
end
-- ==== Proof.GatesRef.lean ====
module

public import proofs.«01_k».proof.Proof.GatesMath
public import proofs.«01_k».proof.Proof.Gen.GatesRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesRefIdeal.Fg

open Cert.GatesRefIdeal Cert.GatesRefIdeal.Gen Cert.Gates

/-- The reference's forget column with its bias, negated. -/
def refP (z : FVec Ideal S4x2048x6144 .f32) (B : FVec Ideal S1x8 .f32) : FVec Ideal S4x2048x8 .f32 :=
  Host.negf (addf (extractStridedSlice S4x2048x8 ![0, 0, 5656] z slices_S4x2048x6144_S4x2048x8_0_0_5656) (broadcastInDim S4x2048x8 ![0, 1, 2] bcast_S1x1x8_S4x2048x8_0_1_2 (broadcastInDim S1x1x8 ![2] bcast_S8_S1x1x8_2 (shapeCast _ B shapeCasts_S1x8_S8))))

/-- The reference's zeros. -/
def refO : FVec Ideal S4x2048x8 .f32 := broadcastInDim S4x2048x8 ![] bcast_S_S4x2048x8 (constant S_ .f32 0x00000000#32)

/-- The reference's log-forget gates, from the negated column. -/
def refS (P : FVec Ideal S4x2048x8 .f32) : FVec Ideal S4x2048x8 .f32 :=
  Host.negf (select (cmpf .une (subf P refO) (subf P refO)) (addf P refO) (addf (maximumf P refO) (Host.log1p (Host.exp (Host.negf (Host.absf (subf P refO)))))))

/-- The reference's running sum. -/
def refF (X : FVec Ideal S4x2048x8 .f32) : FVec Ideal S4x2048x8 .f32 :=
  Host.reduceWindowAdd ![1, 2048, 1] ![1, 1, 1] ![0, 2047, 0] ![0, 0, 0] X (constant S_ .f32 0x00000000#32) reduceWindows_S4x2048x8_S4x2048x8_w1s1p0_0_w2048s1p2047_0_w1s1p0_0 h_S_

/-- The log-forget gates, by element. -/
theorem refS_at (z : FVec Ideal S4x2048x6144 .f32) (B : FVec Ideal S1x8 .f32) (b : Fin 4) (t : Fin 2048) (h : Fin 8) :
    refS (refP z B) (ix3 b t h) = lsig (z (ix3 b t ⟨5656 + h.val, by omega⟩) + B (ix2 0 h)) := by
  rw [← lsig_soft]
  pointwise [refS, refP, refO]
  rw [if_neg (by simp)]
  rfl

/-- A column of an array, by position. -/
def col (X : FVec Ideal S4x2048x8 .f32) (b : Fin 4) (h : Fin 8) (n : ℕ) : EReal := if hn : n < 2048 then X (ix3 b ⟨n, hn⟩ h) else 0

/-- A sum over a window of one, `2048`, one. -/
theorem win_sum (g : (⟨3, ![1, 2048, 1]⟩ : Shape).Idx → EReal) : ∑ i, g i = ∑ k : Fin 2048, g (ix3 0 k 0) := by
  let E : Fin 2048 ≃ (⟨3, ![1, 2048, 1]⟩ : Shape).Idx := {
    toFun := fun k => ix3 0 k 0
    invFun := fun i => i 1
    left_inv := fun k => rfl
    right_inv := fun i => by blk_ext }
  exact (Equiv.sum_comp E g).symm

/-- A column that starts `2047` places late, summed up to a position. -/
theorem late (x : ℕ → EReal) (t : Fin 2048) :
    (∑ k : Fin 2048, if 2047 ≤ t.val + k.val then x (t.val + k.val - 2047) else 0) = pre x (t.val + 1) := by
  obtain ⟨t, ht⟩ := t
  dsimp only
  rw [Fin.sum_univ_eq_sum_range (fun k => if 2047 ≤ t + k then x (t + k - 2047) else 0) 2048]
  have e : Finset.range 2048 = Finset.range ((2047 - t) + (t + 1)) := congrArg _ (by omega)
  rw [e, Finset.sum_range_add, Finset.sum_eq_zero, zero_add, pre]
  · refine Finset.sum_congr rfl fun k hk => ?_
    rw [if_pos (by omega)]
    congr 1; omega
  · intro k hk
    rw [Finset.mem_range] at hk
    rw [if_neg (by omega)]

/-- A window's sum from zero, as a sum over the window. -/
theorem window_sum {s t : Shape} (window strides lo hi : Fin s.rank → ℕ) (h : s.ReduceWindows window strides lo hi t) (x : s.Idx → EReal) (j : t.Idx) :
    Ideal.hostReduceWindowAdd window strides lo hi h x 0 j = ∑ i : (⟨s.rank, window⟩ : Shape).Idx,
      if hin : ∀ a, lo a ≤ (j (a.cast h.1.symm)).val * strides a + (i a).val
          ∧ (j (a.cast h.1.symm)).val * strides a + (i a).val - lo a < s.size a
        then x (fun a => ⟨(j (a.cast h.1.symm)).val * strides a + (i a).val - lo a, (hin a).2⟩) else 0 := by
  rw [sum_idx_eq_foldl]
  unfold Ideal.hostReduceWindowAdd Host.reduceWindow
  dsimp only
  congr 1
  funext r n
  congr 1
  split <;> rfl

/-- The running sum, by element. -/
theorem refF_at (X : FVec Ideal S4x2048x8 .f32) (b : Fin 4) (t : Fin 2048) (h : Fin 8) :
    refF X (ix3 b t h) = pre (col X b h) (t.val + 1) := by
  rw [← late]
  have hz : constant (F := Ideal) S_ .f32 0x00000000#32 (Shape.Idx.first h_S_) = (0 : EReal) := by
    pointwise
  unfold refF Host.reduceWindowAdd
  rw [Ideal.hostReduceWindowAdd_def, hz, window_sum]
  refine (win_sum _).trans (Finset.sum_congr rfl fun k _ => ?_)
  by_cases hk : 2047 ≤ t.val + k.val
  · rw [dif_pos, if_pos hk, col, dif_pos (by omega)]
    · congr 1
      funext a
      fin_cases a
      · exact Fin.ext (by show b.val * 1 + 0 - 0 = b.val; omega)
      · exact Fin.ext (by show t.val * 1 + k.val - 2047 = t.val + k.val - 2047; omega)
      · exact Fin.ext (by show h.val * 1 + 0 - 0 = h.val; omega)
    · intro a
      fin_cases a
      · show 0 ≤ b.val * 1 + 0 ∧ b.val * 1 + 0 - 0 < 4
        omega
      · show 2047 ≤ t.val * 1 + k.val ∧ t.val * 1 + k.val - 2047 < 2048
        omega
      · show 0 ≤ h.val * 1 + 0 ∧ h.val * 1 + 0 - 0 < 8
        omega
  · rw [dif_neg, if_neg hk]
    intro hin
    have h1 : 2047 ≤ t.val * 1 + k.val := (hin 1).1
    omega

/-- The running sum of the log-forget gates, by element. -/
theorem refFS_at (z : FVec Ideal S4x2048x6144 .f32) (B : FVec Ideal S1x8 .f32) (b : Fin 4) (t : Fin 2048) (h : Fin 8) :
    refF (refS (refP z B)) (ix3 b t h)
      = pre (fun n => if hn : n < 2048 then lsig (z (ix3 b ⟨n, hn⟩ ⟨5656 + h.val, by omega⟩) + B (ix2 0 h)) else 0) (t.val + 1) := by
  rw [refF_at]
  congr 1
  funext n
  unfold col
  split
  · exact refS_at z B b _ h
  · rfl

end Cert.GatesRefIdeal.Fg

end
end
-- ==== Proof.SwigluArr.lean ====
module

public import proofs.«01_k».proof.Proof.Norm
public import proofs.«01_k».proof.Proof.Gen.SwigluIdeal.Skeleton
public import proofs.«01_k».proof.Proof.Gen.SwigluIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwigluIdeal.Ffn

open Cert.SwigluIdeal Cert.SwigluIdeal.Gen Cert.Norm

/-- The normalization payload, by element. -/
theorem pay1_at (x : FVec Ideal S1024x2048 .f32) (g : FVec Ideal S1x2048 .f32) (r : Fin 1024) (k : Fin 2048) :
    k0_pay1 (F := Ideal) x g (ix2 r k) = nrm (fun k => x (ix2 r k)) (fun k => g (ix2 0 k)) k := by
  pointwise [k0_pay1]
  rfl

/-- The gated-unit payload, by element. -/
theorem pay2_at (xn : FVec Ideal S1024x2048 .bf16) (wg wu : FVec Ideal S1x2048x512 .bf16) (r : Fin 1024) (n : Fin 512) :
    k0_pay2 (F := Ideal) xn wg wu (ix2 r n) = glu (∑ k : Fin 2048, xn (ix2 r k) * wg (ix3 0 k n)) (∑ k : Fin 2048, xn (ix2 r k) * wu (ix3 0 k n)) := by
  pointwise [k0_pay2]
  rfl

variable (m : (ℓ : Loc nD τ sig) → Buf (Elt Ideal) ℓ)

/-- Which block of its array each window holds at a point. -/
theorem idx : ∀ t : Fin cfg0.N,
    win0_0.index t = ![t.val / 11, 0] ∧ win0_1.index t = ![0, 0] ∧ win0_2.index t = ![1, 0, t.val % 11]
    ∧ win0_3.index t = ![1, 0, t.val % 11 + 11] ∧ win0_4.index t = ![t.val / 11, t.val % 11] :=
  (by decide +kernel : ∀ t : Fin grid0.N, _)

/-- The row of the activations behind a row of a point's block. -/
def row (t : ℕ) (ht : t < 88) (r : Fin 1024) : Fin 8192 := ⟨1024 * (t / 11) + r.val, by omega⟩

/-- What the carried scratch holds after a point: the normalized rows of the point's row block. -/
theorem scratch (c : Dev nD) (n : ℕ) (hn : n < cfg0.N) (r : Fin 1024) (k : Fin 2048) :
    (outsAt0 m c n hn).2 (ix2 r k) = nrm (fun k => (m ((c.tc : Thread nD τ).loc main_arg0) : FVec Ideal S8192x2048 .f32) (ix2 (row n hn r) k))
      (fun k => (m ((c.tc : Thread nD τ).loc main_arg1) : FVec Ideal S2x5x2048 .f32) (ix3 1 2 k)) k := by
  have key : ∀ t : Fin cfg0.N, t.val % 11 = 0 → (outsAt0 m c t.val t.isLt).2 (ix2 r k) = nrm (fun k => (m ((c.tc : Thread nD τ).loc main_arg0) : FVec Ideal S8192x2048 .f32) (ix2 (row t.val t.isLt r) k))
      (fun k => (m ((c.tc : Thread nD τ).loc main_arg1) : FVec Ideal S2x5x2048 .f32) (ix3 1 2 k)) k := by
    intro t h0
    rw [outsAt0_A m c t h0]
    frame_out
    rw [pay1_at]
    congr 1
    · funext k; blk_point [iblk, V, idx t, row]
    · funext k; blk_point [iblk, V, idx t, row]
  induction n with
  | zero => exact key ⟨0, hn⟩ rfl
  | succ n ih =>
    by_cases h0 : (n + 1) % 11 = 0
    · exact key ⟨n + 1, hn⟩ h0
    · rw [outsAt0_B m c ⟨n + 1, hn⟩ h0]
      frame_out
      refine (ih (Nat.lt_of_succ_lt hn)).trans ?_
      rw [show row n (Nat.lt_of_succ_lt hn) r = row (n + 1) hn r from Fin.ext (by show 1024 * (n / 11) + r.val = 1024 * ((n + 1) / 11) + r.val; omega)]

/-- The gated unit of the feed-forward part, by row and column. -/
def unit (X : FVec Ideal S8192x2048 .f32) (G : FVec Ideal S2x5x2048 .f32) (W : FVec Ideal S2x2048x11264 .f32) (r : Fin 8192) (n : Fin 5632) : EReal :=
  glu (proj (fun k => X (ix2 r k)) (fun k => G (ix3 1 2 k)) fun k => W (ix3 1 k ⟨n.val, by omega⟩))
    (proj (fun k => X (ix2 r k)) (fun k => G (ix3 1 2 k)) fun k => W (ix3 1 k ⟨5632 + n.val, by omega⟩))

/-- What a point leaves in the output block. -/
theorem point (c : Dev nD) (t : Fin cfg0.N) (r : Fin 1024) (n : Fin 512) :
    (outsAt0 m c t.val t.isLt).1 (ix2 r n)
      = unit (m ((c.tc : Thread nD τ).loc main_arg0)) (m ((c.tc : Thread nD τ).loc main_arg1)) (m ((c.tc : Thread nD τ).loc main_arg2))
        (row t.val t.isLt r) ⟨512 * (t.val % 11) + n.val, by omega⟩ := by
  have e : (outsAt0 m c t.val t.isLt).1 = k0_pay2 (F := Ideal) (outsAt0 m c t.val t.isLt).2 (iblk m c 2 t) (iblk m c 3 t) := by
    by_cases h0 : t.val % 11 = 0
    · rw [outsAt0_A m c t h0]; frame_out
    · rw [outsAt0_B m c t h0]; frame_out
      exact congrArg (fun x => k0_pay2 (F := Ideal) x (iblk m c 2 t) (iblk m c 3 t)) (Memref.IsWhole.read_unread _ _)
  rw [e, pay2_at, unit, proj, proj]
  congr 1
  · refine Finset.sum_congr rfl fun k _ => ?_
    rw [scratch]
    congr 1
    blk_point [iblk, V, idx t]
  · refine Finset.sum_congr rfl fun k _ => ?_
    rw [scratch]
    congr 1
    blk_point [iblk, V, idx t]

/-- The output array after the run. -/
theorem final (c : Dev nD) : (dats m 0 c).arrAt 4 cfg0.N = fun i : S8192x5632.Idx =>
    unit (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  blk_simp
  rw [after0_4]
  obtain ⟨r, n, rfl⟩ : ∃ (r : Fin 1024) (n : Fin 512), y = ix2 r n := ⟨y 0, y 1, by blk_ext⟩
  refine (point m c t r n).trans ?_
  congr 1 <;> apply Fin.ext <;> blk_simp [idx t, row]
  all_goals first | rfl | (dsimp only; omega)

end Cert.SwigluIdeal.Ffn

end
end
-- ==== Proof.SwigluRef.lean ====
module

public import proofs.«01_k».proof.Proof.Norm
public import proofs.«01_k».proof.Proof.Gen.SwigluRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SwigluRefIdeal.Ffn

open Cert.SwigluRefIdeal Cert.SwigluRefIdeal.Gen Cert.SwigluRefIdeal.Value Cert.Norm

/-- The reference's normalized rows. -/
def refN (X : FVec Ideal S8192x2048 .f32) (G : FVec Ideal S2x5x2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![2, 0] (shapeCast _ (extractStridedSlice S1x5x2048 ![1, 0, 0] G slices_S2x5x2048_S1x5x2048_1_0_0) shapeCasts_S1x5x2048_S5x2048) slices_S5x2048_S1x2048_2_0) shapeCasts_S1x2048_S2048)))

/-- The reference's product with the up-projection. -/
def refP (N : FVec Ideal S8192x2048 .f32) (W : FVec Ideal S2x2048x11264 .f32) : FVec Ideal S8192x11264 .f32 :=
  Host.dotGeneral dot_S8192x2048_S2048x11264_S8192x11264_1_0_0_1_n_n none N (shapeCast _ (extractStridedSlice S1x2048x11264 ![1, 0, 0] W slices_S2x2048x11264_S1x2048x11264_1_0_0) shapeCasts_S1x2048x11264_S2048x11264)

/-- The reference's gated unit of the product's two halves. -/
def refU (Z : FVec Ideal S8192x11264 .f32) : FVec Ideal S8192x5632 .bf16 :=
  truncf .bf16 (mulf (mulf (extractStridedSlice S8192x5632 ![0, 0] Z slices_S8192x11264_S8192x5632_0_0) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extractStridedSlice S8192x5632 ![0, 0] Z slices_S8192x11264_S8192x5632_0_0)))))) (extractStridedSlice S8192x5632 ![0, 5632] Z slices_S8192x11264_S8192x5632_0_5632)) bitsLt_bf16_f32

/-- A normalized row of the reference, by element. -/
theorem refN_at (X : FVec Ideal S8192x2048 .f32) (G : FVec Ideal S2x5x2048 .f32) (r : Fin 8192) (k : Fin 2048) :
    refN X G (ix2 r k) = nrm (fun k => X (ix2 r k)) (fun k => G (ix3 1 2 k)) k := by
  pointwise [refN]
  rfl

/-- The reference's product, by element. -/
theorem refP_at (N : FVec Ideal S8192x2048 .f32) (W : FVec Ideal S2x2048x11264 .f32) (r : Fin 8192) (n : Fin 11264) :
    refP N W (ix2 r n) = ∑ k : Fin 2048, N (ix2 r k) * W (ix3 1 k n) := by
  pointwise [refP]

/-- The reference's gated unit, by element. -/
theorem refU_at (Z : FVec Ideal S8192x11264 .f32) (r : Fin 8192) (n : Fin 5632) :
    refU Z (ix2 r n) = glu (Z (ix2 r ⟨n.val, by omega⟩)) (Z (ix2 r ⟨5632 + n.val, by omega⟩)) := by
  pointwise [refU]
  rfl

/-- The reference by element: the gated unit of a normalized row against a gate column and an up column. -/
theorem ref_at (X : FVec Ideal S8192x2048 .f32) (G : FVec Ideal S2x5x2048 .f32) (W : FVec Ideal S2x2048x11264 .f32) (r : Fin 8192) (n : Fin 5632) :
    refU (refP (refN X G) W) (ix2 r n)
      = glu (proj (fun k => X (ix2 r k)) (fun k => G (ix3 1 2 k)) fun k => W (ix3 1 k ⟨n.val, by omega⟩))
        (proj (fun k => X (ix2 r k)) (fun k => G (ix3 1 2 k)) fun k => W (ix3 1 k ⟨5632 + n.val, by omega⟩)) := by
  simp only [refU_at, refP_at, refN_at]
  rfl

end Cert.SwigluRefIdeal.Ffn

end
end
-- ==== Proof.FfnDownArr.lean ====
module

public import proofs.«01_k».proof.Proof.Norm
public import proofs.«01_k».proof.Proof.Gen.FfnDownIdeal.Skeleton
public import proofs.«01_k».proof.Proof.Gen.FfnDownIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Ffn

open Cert.FfnDownIdeal Cert.FfnDownIdeal.Gen Cert.Norm

/-- The residual payload, by element. -/
theorem pay2_at (a : FVec Ideal S256x5632 .bf16) (w : FVec Ideal S5632x2048 .bf16) (h : FVec Ideal S256x2048 .f32) (g : FVec Ideal S1x2048 .f32)
    (r : Fin 256) (n : Fin 2048) :
    k0_pay2 (F := Ideal) a w h g (ix2 r n) = post (fun k => h (ix2 r k)) (fun k => ∑ f : Fin 5632, a (ix2 r f) * w (ix2 f k)) (fun k => g (ix2 0 k)) n := by
  pointwise [k0_pay2]
  rfl

/-- The embedding's payload, by element. -/
theorem pay3_at (p : FVec Ideal S256x256 .f32) (w : FVec Ideal S256x2048 .bf16) (r : Fin 256) (n : Fin 2048) :
    k0_pay3 (F := Ideal) p w (ix2 r n) = ∑ k : Fin 256, p (ix2 r k) * w (ix2 k n) := by
  pointwise [k0_pay3]

/-- The gate's payload, by element. -/
theorem pay4_at (a : FVec Ideal S256x5632 .bf16) (w : FVec Ideal S5632x2048 .bf16) (h : FVec Ideal S256x2048 .f32) (g : FVec Ideal S1x2048 .f32)
    (v : FVec Ideal S2048x2048 .bf16) (r : Fin 256) (n : Fin 2048) :
    k0_pay4 (F := Ideal) a w h g v (ix2 r n) = ∑ k : Fin 2048, k0_pay2 (F := Ideal) a w h g (ix2 r k) * v (ix2 k n) := by
  pointwise [k0_pay4]

/-- The embedding norm's weight payload, by element. -/
theorem pay5_at (g : FVec Ideal S1x2048 .f32) (n : Fin 2048) : k0_pay5 (F := Ideal) g (ix2 0 n) = g (ix2 0 n) := by
  pointwise [k0_pay5]

/-- The sum of squares payload, by element. -/
theorem pay6_at (p : FVec Ideal S256x256 .f32) (w : FVec Ideal S256x2048 .bf16) (r : Fin 256) :
    k0_pay6 (F := Ideal) p w (ix2 r 0) = ∑ k : Fin 2048, k0_pay3 (F := Ideal) p w (ix2 r k) * k0_pay3 (F := Ideal) p w (ix2 r k) := by
  pointwise [k0_pay6]

/-- The final payload, by element, once its row sum is that of its row. -/
theorem pay1_at (h y z : FVec Ideal S256x2048 .f32) (g : FVec Ideal S1x2048 .f32) (s : FVec Ideal S256x1 .f32) (r : Fin 256) (n : Fin 2048)
    (hs : s (ix2 r 0) = ∑ k : Fin 2048, y (ix2 r k) * y (ix2 r k)) :
    k0_pay1 (F := Ideal) h y z g s (Scalar.ofBits .f32 0x45000000#32) (ix2 r n)
      = h (ix2 r n) + nrm (fun k => y (ix2 r k)) (fun k => g (ix2 0 k)) n * Ideal.logistic (z (ix2 r n)) := by
  pointwise [k0_pay1]
  rw [hs]
  rfl

/-- The stored block, by element. -/
theorem out_at (a : FVec Ideal S256x5632 .bf16) (w : FVec Ideal S5632x2048 .bf16) (g3 : FVec Ideal S1x2048 .f32) (h : FVec Ideal S256x2048 .f32)
    (p : FVec Ideal S256x256 .f32) (wp : FVec Ideal S256x2048 .bf16) (v : FVec Ideal S2048x2048 .bf16) (g4 : FVec Ideal S1x2048 .f32) (r : Fin 256) (n : Fin 2048) :
    out0_8 (F := Ideal) a w g3 h p wp v g4 (ix2 r n)
      = gated (post (fun k => h (ix2 r k)) (fun k => ∑ f : Fin 5632, a (ix2 r f) * w (ix2 f k)) (fun k => g3 (ix2 0 k)))
          (fun n => ∑ k : Fin 256, p (ix2 r k) * wp (ix2 k n)) (fun k => g4 (ix2 0 k)) (fun j k => v (ix2 j k)) n := by
  frame_out
  rw [pay1_at _ _ _ _ _ r n (pay6_at p wp r), pay2_at, pay4_at]
  simp only [pay2_at, pay3_at, pay5_at]
  rfl

variable (m : (ℓ : Loc nD τ sig) → Buf (Elt Ideal) ℓ)

/-- Which block of its array each window holds at a point. -/
theorem idx : ∀ t : Fin cfg0.N,
    win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] ∧ win0_7.index t = ![0, 0] ∧ win0_8.index t = ![t.val, 0] :=
  (by decide +kernel : ∀ t : Fin grid0.N, _)

/-- The row of the activations behind a row of a point's block. -/
def row (t : ℕ) (ht : t < 32) (r : Fin 256) : Fin 8192 := ⟨256 * t + r.val, by omega⟩

/-- The activations after the feed-forward part's residual. -/
def hid (A : FVec Ideal S8192x5632 .bf16) (H : FVec Ideal S8192x2048 .f32) (G : FVec Ideal S2x5x2048 .f32) (W : FVec Ideal S2x5632x2048 .f32)
    (r : Fin 8192) : Fin 2048 → EReal :=
  post (fun k => H (ix2 r k)) (fun k => ∑ f : Fin 5632, A (ix2 r f) * W (ix3 1 f k)) fun k => G (ix3 1 3 k)

/-- The projection of the layer's embedding. -/
def emb (Q : FVec Ideal S2x4x2048x256 .f32) (W : FVec Ideal S2x256x2048 .f32) (r : Fin 8192) (n : Fin 2048) : EReal :=
  ∑ k : Fin 256, Q (ix4 1 ⟨r.val / 2048, by omega⟩ ⟨r.val % 2048, by omega⟩ k) * W (ix3 1 k n)

/-- The layer's output. -/
def unit (A : FVec Ideal S8192x5632 .bf16) (H : FVec Ideal S8192x2048 .f32) (Q : FVec Ideal S2x4x2048x256 .f32) (G : FVec Ideal S2x5x2048 .f32)
    (W : FVec Ideal S2x5632x2048 .f32) (E : FVec Ideal S2x256x2048 .f32) (V : FVec Ideal S2x2048x2048 .f32) (r : Fin 8192) (n : Fin 2048) : EReal :=
  gated (hid A H G W r) (emb Q E r) (fun k => G (ix3 1 4 k)) (fun j k => V (ix3 1 j k)) n

/-- What a point leaves in the output block. -/
theorem point (c : Dev nD) (t : Fin cfg0.N) (r : Fin 256) (n : Fin 2048) :
    out0_8 (F := Ideal) (iblk m c 0 t) (iblk m c 1 t) (iblk m c 2 t) (iblk m c 3 t) (iblk m c 4 t) (iblk m c 5 t) (iblk m c 6 t) (iblk m c 7 t) (ix2 r n)
      = unit (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (row t.val t.isLt r) n := by
  refine (out_at _ _ _ _ _ _ _ _ r n).trans ?_
  rw [unit]
  congr 1
  · rw [hid]
    congr 1
    · funext k; blk_point [iblk, V, idx t, row]
    · funext k
      refine Finset.sum_congr rfl fun f _ => ?_
      congr 1
      · blk_point [iblk, V, idx t, row]
      · blk_point [iblk, V, idx t]
    · funext k; blk_point [iblk, V, idx t]
  · funext k
    rw [emb]
    refine Finset.sum_congr rfl fun f _ => ?_
    congr 1
    · blk_point [iblk, V, idx t, row]
    · blk_point [iblk, V, idx t]
  · funext k; blk_point [iblk, V, idx t]
  · funext j k; blk_point [iblk, V, idx t]

/-- The output array after the run. -/
theorem final (c : Dev nD) : (dats m 0 c).arrAt 8 cfg0.N = fun i : S8192x2048.Idx =>
    unit (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (i 0) (i 1) := by
  refine (dats m 0 c).arrAt_eq_of_covers 8 _ (by decide +kernel) fun t hf y => ?_
  blk_simp
  rw [after0_8]
  obtain ⟨r, n, rfl⟩ : ∃ (r : Fin 256) (n : Fin 2048), y = ix2 r n := ⟨y 0, y 1, by blk_ext⟩
  refine (point m c t r n).trans ?_
  congr 1 <;> apply Fin.ext <;> blk_simp [idx t, row]
  all_goals first | rfl | (dsimp only; omega)

end Cert.FfnDownIdeal.Ffn

end
end
-- ==== Proof.FfnDownRef.lean ====
module

public import proofs.«01_k».proof.Proof.Norm
public import proofs.«01_k».proof.Proof.Gen.FfnDownRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownRefIdeal.Ffn

open Cert.FfnDownRefIdeal Cert.FfnDownRefIdeal.Gen Cert.FfnDownRefIdeal.Value Cert.Norm

/-- The reference's down-projection. -/
def refD (A : FVec Ideal S8192x5632 .bf16) (W : FVec Ideal S2x5632x2048 .f32) : FVec Ideal S8192x2048 .f32 :=
  Host.dotGeneral dot_S8192x5632_S5632x2048_S8192x2048_1_0_0_1_n_n none (extf .f32 A bitsLt_bf16_f32) (shapeCast _ (extractStridedSlice S1x5632x2048 ![1, 0, 0] W slices_S2x5632x2048_S1x5632x2048_1_0_0) shapeCasts_S1x5632x2048_S5632x2048)

/-- The reference's projection of the layer's embedding. -/
def refE (Q : FVec Ideal S2x4x2048x256 .f32) (W : FVec Ideal S2x256x2048 .f32) : FVec Ideal S8192x2048 .f32 :=
  Host.dotGeneral dot_S8192x256_S256x2048_S8192x2048_1_0_0_1_n_n none (shapeCast _ (shapeCast _ (extractStridedSlice S1x4x2048x256 ![1, 0, 0, 0] Q slices_S2x4x2048x256_S1x4x2048x256_1_0_0_0) shapeCasts_S1x4x2048x256_S4x2048x256) shapeCasts_S4x2048x256_S8192x256) (shapeCast _ (extractStridedSlice S1x256x2048 ![1, 0, 0] W slices_S2x256x2048_S1x256x2048_1_0_0) shapeCasts_S1x256x2048_S256x2048)

/-- The reference's normalization with a weight. -/
def refN (Y : FVec Ideal S8192x2048 .f32) (g : FVec Ideal S2048 .f32) : FVec Ideal S8192x2048 .f32 :=
  mulf (mulf Y (broadcastInDim S8192x2048 ![0, 1] bcast_S8192x1_S8192x2048_0_1 (Host.rsqrt (addf (Host.divf (broadcastInDim S8192x1 ![0] bcast_S8192_S8192x1_0 (Host.reduceAdd (mulf Y Y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The weight of the norm after the feed-forward part. -/
def refG3 (G : FVec Ideal S2x5x2048 .f32) : FVec Ideal S2048 .f32 := (shapeCast _ (extractStridedSlice S1x2048 ![3, 0] (shapeCast _ (extractStridedSlice S1x5x2048 ![1, 0, 0] G slices_S2x5x2048_S1x5x2048_1_0_0) shapeCasts_S1x5x2048_S5x2048) slices_S5x2048_S1x2048_3_0) shapeCasts_S1x2048_S2048)

/-- The weight of the embedding's norm. -/
def refG4 (G : FVec Ideal S2x5x2048 .f32) : FVec Ideal S2048 .f32 := (shapeCast _ (extractStridedSlice S1x2048 ![4, 0] (shapeCast _ (extractStridedSlice S1x5x2048 ![1, 0, 0] G slices_S2x5x2048_S1x5x2048_1_0_0) shapeCasts_S1x5x2048_S5x2048) slices_S5x2048_S1x2048_4_0) shapeCasts_S1x2048_S2048)

/-- The reference's gate: the sigmoid of a product with the activations. -/
def refS (H : FVec Ideal S8192x2048 .f32) (W : FVec Ideal S2x2048x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none H (shapeCast _ (extractStridedSlice S1x2048x2048 ![1, 0, 0] W slices_S2x2048x2048_S1x2048x2048_1_0_0) shapeCasts_S1x2048x2048_S2048x2048)))))

/-- The activations after the feed-forward part's residual. -/
def refH (A : FVec Ideal S8192x5632 .bf16) (H : FVec Ideal S8192x2048 .f32) (G : FVec Ideal S2x5x2048 .f32) (W : FVec Ideal S2x5632x2048 .f32) : FVec Ideal S8192x2048 .f32 :=
  addf H (refN (refD A W) (refG3 G))

/-- The reference's result. -/
def refO (H : FVec Ideal S8192x2048 .f32) (E : FVec Ideal S8192x2048 .f32) (G : FVec Ideal S2x5x2048 .f32) (W : FVec Ideal S2x2048x2048 .f32) : FVec Ideal S8192x2048 .f32 :=
  addf H (mulf (refN E (refG4 G)) (refS H W))

/-- The reference's result is these steps. -/
theorem res_eq (m : (ℓ : Loc nD τ sig) → Buf (Elt Ideal) ℓ) (c : Dev nD) :
    (res_main_v53 m c : FVec Ideal S8192x2048 .f32) = refO
      (refH (m ((c.tc : Thread nD τ).loc main_arg0)) (m ((c.tc : Thread nD τ).loc main_arg1)) (m ((c.tc : Thread nD τ).loc main_arg3)) (m ((c.tc : Thread nD τ).loc main_arg4)))
      (refE (m ((c.tc : Thread nD τ).loc main_arg2)) (m ((c.tc : Thread nD τ).loc main_arg5)))
      (m ((c.tc : Thread nD τ).loc main_arg3)) (m ((c.tc : Thread nD τ).loc main_arg6)) := rfl

/-- The down-projection, by element. -/
theorem refD_at (A : FVec Ideal S8192x5632 .bf16) (W : FVec Ideal S2x5632x2048 .f32) (r : Fin 8192) (n : Fin 2048) :
    refD A W (ix2 r n) = ∑ f : Fin 5632, A (ix2 r f) * W (ix3 1 f n) := by
  pointwise [refD]

/-- The embedding's projection, by element. -/
theorem refE_at (Q : FVec Ideal S2x4x2048x256 .f32) (W : FVec Ideal S2x256x2048 .f32) (r : Fin 8192) (n : Fin 2048) :
    refE Q W (ix2 r n) = ∑ k : Fin 256, Q (ix4 1 ⟨r.val / 2048, by omega⟩ ⟨r.val % 2048, by omega⟩ k) * W (ix3 1 k n) := by
  pointwise [refE]

/-- The normalization, by element. -/
theorem refN_at (Y : FVec Ideal S8192x2048 .f32) (g : FVec Ideal S2048 .f32) (r : Fin 8192) (n : Fin 2048) :
    refN Y g (ix2 r n) = nrm (fun k => Y (ix2 r k)) (fun k => g (ix1 k)) n := by
  pointwise [refN]
  rfl

/-- The weight of the norm after the feed-forward part, by element. -/
theorem refG3_at (G : FVec Ideal S2x5x2048 .f32) (n : Fin 2048) : refG3 G (ix1 n) = G (ix3 1 3 n) := by
  pointwise [refG3]

/-- The weight of the embedding's norm, by element. -/
theorem refG4_at (G : FVec Ideal S2x5x2048 .f32) (n : Fin 2048) : refG4 G (ix1 n) = G (ix3 1 4 n) := by
  pointwise [refG4]

/-- The gate, by element. -/
theorem refS_at (H : FVec Ideal S8192x2048 .f32) (W : FVec Ideal S2x2048x2048 .f32) (r : Fin 8192) (n : Fin 2048) :
    refS H W (ix2 r n) = Ideal.logistic (∑ k : Fin 2048, H (ix2 r k) * W (ix3 1 k n)) := by
  pointwise [refS]
  rfl

/-- The activations after the residual, by element. -/
theorem refH_at (A : FVec Ideal S8192x5632 .bf16) (H : FVec Ideal S8192x2048 .f32) (G : FVec Ideal S2x5x2048 .f32) (W : FVec Ideal S2x5632x2048 .f32)
    (r : Fin 8192) (n : Fin 2048) :
    refH A H G W (ix2 r n) = post (fun k => H (ix2 r k)) (fun k => ∑ f : Fin 5632, A (ix2 r f) * W (ix3 1 f k)) (fun k => G (ix3 1 3 k)) n := by
  show H (ix2 r n) + refN (refD A W) (refG3 G) (ix2 r n) = _
  rw [refN_at]
  simp only [refD_at, refG3_at]
  rfl

/-- The result, by element. -/
theorem refO_at (H : FVec Ideal S8192x2048 .f32) (E : FVec Ideal S8192x2048 .f32) (G : FVec Ideal S2x5x2048 .f32) (W : FVec Ideal S2x2048x2048 .f32)
    (r : Fin 8192) (n : Fin 2048) :
    refO H E G W (ix2 r n) = gated (fun k => H (ix2 r k)) (fun k => E (ix2 r k)) (fun k => G (ix3 1 4 k)) (fun j k => W (ix3 1 j k)) n := by
  show H (ix2 r n) + refN E (refG4 G) (ix2 r n) * refS H W (ix2 r n) = _
  rw [refN_at, refS_at]
  simp only [refG4_at]
  rfl

end Cert.FfnDownRefIdeal.Ffn

end
end
-- ==== Proof.InEvenArr.lean ====
module

public import proofs.«01_k».proof.Proof.Norm
public import proofs.«01_k».proof.Proof.Gen.InEvenIdeal.Skeleton
public import proofs.«01_k».proof.Proof.Gen.InEvenIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InEvenIdeal.Proj

open Cert.InEvenIdeal Cert.InEvenIdeal.Gen Cert.Norm

/-- The normalization payload, by element. -/
theorem pay1_at (x : FVec Ideal S512x2048 .f32) (g : FVec Ideal S1x2048 .f32) (r : Fin 512) (k : Fin 2048) :
    k0_pay1 (F := Ideal) x g (ix2 r k) = nrm (fun k => x (ix2 r k)) (fun k => g (ix2 0 k)) k := by
  pointwise [k0_pay1]
  rfl

/-- The product payload, by element. -/
theorem pay2_at (xn : FVec Ideal S512x2048 .bf16) (w : FVec Ideal S2048x1024 .bf16) (r : Fin 512) (n : Fin 1024) :
    k0_pay2 (F := Ideal) xn w (ix2 r n) = ∑ k : Fin 2048, xn (ix2 r k) * w (ix2 k n) := by
  pointwise [k0_pay2]

/-- The projection's weights with their columns in the array's order, the unused ones zero. -/
def prep (W : FVec Ideal S1x2048x5664 .f32) : FVec Ideal S2048x6144 .bf16 :=
  truncf .bf16 (concatenate S2048x6144 1
    [⟨S2048x2560, extractStridedSlice S2048x2560 ![0, 0] (shapeCast S2048x5664 W shapeCasts_S1x2048x5664_S2048x5664) slices_S2048x5664_S2048x2560_0_0⟩,
     ⟨S2048x3072, extractStridedSlice S2048x3072 ![0, 2584] (shapeCast S2048x5664 W shapeCasts_S1x2048x5664_S2048x5664) slices_S2048x5664_S2048x3072_0_2584⟩,
     ⟨S2048x24, extractStridedSlice S2048x24 ![0, 2560] (shapeCast S2048x5664 W shapeCasts_S1x2048x5664_S2048x5664) slices_S2048x5664_S2048x24_0_2560⟩,
     ⟨S2048x8, extractStridedSlice S2048x8 ![0, 5656] (shapeCast S2048x5664 W shapeCasts_S1x2048x5664_S2048x5664) slices_S2048x5664_S2048x8_0_5656⟩,
     ⟨S2048x480, broadcastInDim S2048x480 ![] bcast_S_S2048x480 (constant S_ .f32 0x00000000#32)⟩]
    concatenates_S2048x2560_S2048x3072_S2048x24_S2048x8_S2048x480_S2048x6144_d1) bitsLt_bf16_f32

/-- A column of the first part is that of the argument. -/
theorem prep_lo (W : FVec Ideal S1x2048x5664 .f32) (k : Fin 2048) (n : Fin 6144) (h : n.val < 2560) :
    prep W (ix2 k n) = W (ix3 0 k ⟨n.val, by omega⟩) := by
  pointwise [prep]
  rw [dif_pos h]

/-- A column of the second part is the argument's, twenty-four further. -/
theorem prep_hi (W : FVec Ideal S1x2048x5664 .f32) (k : Fin 2048) (n : Fin 6144) (h : 2560 ≤ n.val) (h' : n.val < 5632) :
    prep W (ix2 k n) = W (ix3 0 k ⟨n.val + 24, by omega⟩) := by
  pointwise [prep]
  rw [dif_neg (by omega), dif_pos (by omega)]
  congr 2
  apply Fin.ext
  show 2584 + (n.val - 2560) = n.val + 24
  omega

/-- A column of the gates is the argument's. -/
theorem prep_gate (W : FVec Ideal S1x2048x5664 .f32) (k : Fin 2048) (n : Fin 6144) (h : 5632 ≤ n.val) (h' : n.val < 5656) :
    prep W (ix2 k n) = W (ix3 0 k ⟨n.val - 3072, by omega⟩) := by
  pointwise [prep]
  rw [dif_neg (by omega), dif_neg (by omega), dif_pos (by omega)]
  exact congrArg (fun x : Fin 5664 => W (ix3 0 k x)) (Fin.ext (by show 2560 + (n.val - 2560 - 3072) = n.val - 3072; omega))

/-- A column of the forget gates is the argument's. -/
theorem prep_forget (W : FVec Ideal S1x2048x5664 .f32) (k : Fin 2048) (n : Fin 6144) (h : 5656 ≤ n.val) (h' : n.val < 5664) :
    prep W (ix2 k n) = W (ix3 0 k ⟨n.val, h'⟩) := by
  pointwise [prep]
  rw [dif_neg (by omega), dif_neg (by omega), dif_neg (by omega), dif_pos (by omega)]
  exact congrArg (fun x : Fin 5664 => W (ix3 0 k x)) (Fin.ext (by show 5656 + (n.val - 2560 - 3072 - 24) = n.val; omega))

/-- The activations as rows, by element. -/
theorem rows_at (X : FVec Ideal S4x2048x2048 .f32) (r : Fin 8192) (k : Fin 2048) :
    shapeCast S8192x2048 X shapeCasts_S4x2048x2048_S8192x2048 (ix2 r k) = X (ix3 ⟨r.val / 2048, by omega⟩ ⟨r.val % 2048, by omega⟩ k) := by
  pointwise

/-- The norm's weight as a row, by element. -/
theorem g_at (G : FVec Ideal S2x5x2048 .f32) (k : Fin 2048) :
    shapeCast S1x2048 (shapeCast S2048 (extractStridedSlice S1x2048 ![0, 0] (shapeCast S5x2048 (extractStridedSlice S1x5x2048 ![0, 0, 0]
        G slices_S2x5x2048_S1x5x2048_0_0_0) shapeCasts_S1x5x2048_S5x2048) slices_S5x2048_S1x2048_0_0) shapeCasts_S1x2048_S2048) shapeCasts_S2048_S1x2048 (ix2 0 k)
      = G (ix3 0 0 k) := by
  pointwise

variable (m : (ℓ : Loc nD τ sig) → Buf (Elt Ideal) ℓ)

/-- The region finds the activations as rows. -/
theorem V_x (c : Dev nD) : (V m c main_v0 : FVec Ideal S8192x2048 .f32)
    = shapeCast S8192x2048 (m ((c.tc : Thread nD τ).loc main_arg0) : FVec Ideal S4x2048x2048 .f32) shapeCasts_S4x2048x2048_S8192x2048 := by
  unfold V V0
  rfl

/-- The region finds the norm's weight as a row. -/
theorem V_g (c : Dev nD) : (V m c main_v13 : FVec Ideal S1x2048 .f32)
    = shapeCast S1x2048 (shapeCast S2048 (extractStridedSlice S1x2048 ![0, 0] (shapeCast S5x2048 (extractStridedSlice S1x5x2048 ![0, 0, 0]
        (m ((c.tc : Thread nD τ).loc main_arg1) : FVec Ideal S2x5x2048 .f32) slices_S2x5x2048_S1x5x2048_0_0_0) shapeCasts_S1x5x2048_S5x2048) slices_S5x2048_S1x2048_0_0) shapeCasts_S1x2048_S2048) shapeCasts_S2048_S1x2048 := by
  unfold V V0
  rfl

/-- The region finds the weights in the array's order. -/
theorem V_w (c : Dev nD) : (V m c main_v12 : FVec Ideal S2048x6144 .bf16) = prep (m ((c.tc : Thread nD τ).loc main_arg2)) := by
  unfold V V0
  rfl

/-- Which block of its array each window holds at a point. -/
theorem idx : ∀ t : Fin cfg0.N,
    win0_0.index t = ![t.val / 6, 0] ∧ win0_1.index t = ![0, 0] ∧ win0_2.index t = ![0, t.val % 6]
    ∧ win0_3.index t = ![t.val / 6, t.val % 6] :=
  (by decide +kernel : ∀ t : Fin grid0.N, _)

/-- The row of the activations behind a row of a point's block. -/
def row (t : ℕ) (ht : t < 96) (r : Fin 512) : Fin 8192 := ⟨512 * (t / 6) + r.val, by omega⟩

/-- A row of the normalized activations. -/
def rowN (X : FVec Ideal S4x2048x2048 .f32) (G : FVec Ideal S2x5x2048 .f32) (r : Fin 8192) : Fin 2048 → EReal :=
  nrm (fun k => X (ix3 ⟨r.val / 2048, by omega⟩ ⟨r.val % 2048, by omega⟩ k)) fun k => G (ix3 0 0 k)

/-- The normalized row of a batch's position. -/
theorem rowN_at (X : FVec Ideal S4x2048x2048 .f32) (G : FVec Ideal S2x5x2048 .f32) (b : Fin 4) (t : Fin 2048) (h : b.val * 2048 + t.val < 8192) :
    rowN X G ⟨b.val * 2048 + t.val, h⟩ = nrm (fun k => X (ix3 b t k)) fun k => G (ix3 0 0 k) := by
  have hb : (⟨(b.val * 2048 + t.val) / 2048, by omega⟩ : Fin 4) = b := Fin.ext (by show (b.val * 2048 + t.val) / 2048 = b.val; omega)
  have ht : (⟨(b.val * 2048 + t.val) % 2048, by omega⟩ : Fin 2048) = t := Fin.ext (by show (b.val * 2048 + t.val) % 2048 = t.val; omega)
  show nrm (fun k => X (ix3 ⟨(b.val * 2048 + t.val) / 2048, _⟩ ⟨(b.val * 2048 + t.val) % 2048, _⟩ k)) _ = _
  rw [hb, ht]

/-- A block of the activations. -/
theorem blk_x (c : Dev nD) (t : Fin cfg0.N) (r : Fin 512) (k : Fin 2048) :
    (iblk m c 0 t : FVec Ideal S512x2048 .f32) (ix2 r k) = (m ((c.tc : Thread nD τ).loc main_arg0) : FVec Ideal S4x2048x2048 .f32)
      (ix3 ⟨(row t.val t.isLt r).val / 2048, by omega⟩ ⟨(row t.val t.isLt r).val % 2048, by omega⟩ k) := by
  have e : (iblk m c 0 t : FVec Ideal S512x2048 .f32) (ix2 r k) = (V m c main_v0 : FVec Ideal S8192x2048 .f32) (ix2 (row t.val t.isLt r) k) := by
    blk_point [iblk, idx t, row]
  rw [e, V_x]
  exact rows_at _ _ k

/-- The block of the norm's weight. -/
theorem blk_g (c : Dev nD) (t : Fin cfg0.N) (k : Fin 2048) :
    (iblk m c 1 t : FVec Ideal S1x2048 .f32) (ix2 0 k) = (m ((c.tc : Thread nD τ).loc main_arg1) : FVec Ideal S2x5x2048 .f32) (ix3 0 0 k) := by
  have e : (iblk m c 1 t : FVec Ideal S1x2048 .f32) (ix2 0 k) = (V m c main_v13 : FVec Ideal S1x2048 .f32) (ix2 0 k) := by
    blk_point [iblk, idx t]
  rw [e, V_g]
  exact g_at _ k

/-- A block of the weights. -/
theorem blk_w (c : Dev nD) (t : Fin cfg0.N) (k : Fin 2048) (n : Fin 1024) :
    (iblk m c 2 t : FVec Ideal S2048x1024 .bf16) (ix2 k n) = prep (m ((c.tc : Thread nD τ).loc main_arg2)) (ix2 k ⟨1024 * (t.val % 6) + n.val, by omega⟩) := by
  rw [← V_w]
  blk_point [iblk, idx t]

/-- What the carried scratch holds after a point: the normalized rows of the point's row block. -/
theorem scratch (c : Dev nD) (n : ℕ) (hn : n < cfg0.N) (r : Fin 512) (k : Fin 2048) :
    (outsAt0 m c n hn).2 (ix2 r k) = rowN (m ((c.tc : Thread nD τ).loc main_arg0)) (m ((c.tc : Thread nD τ).loc main_arg1)) (row n hn r) k := by
  have key : ∀ t : Fin cfg0.N, t.val % 6 = 0 → (outsAt0 m c t.val t.isLt).2 (ix2 r k)
      = rowN (m ((c.tc : Thread nD τ).loc main_arg0)) (m ((c.tc : Thread nD τ).loc main_arg1)) (row t.val t.isLt r) k := by
    intro t h0
    rw [outsAt0_A m c t h0]
    frame_out
    rw [pay1_at, rowN]
    congr 1
    · funext k; exact blk_x m c t r k
    · funext k; exact blk_g m c t k
  induction n with
  | zero => exact key ⟨0, hn⟩ rfl
  | succ n ih =>
    by_cases h0 : (n + 1) % 6 = 0
    · exact key ⟨n + 1, hn⟩ h0
    · rw [outsAt0_B m c ⟨n + 1, hn⟩ h0]
      frame_out
      refine (ih (Nat.lt_of_succ_lt hn)).trans ?_
      rw [show row n (Nat.lt_of_succ_lt hn) r = row (n + 1) hn r from Fin.ext (by show 512 * (n / 6) + r.val = 512 * ((n + 1) / 6) + r.val; omega)]

/-- The projected activations, by row and column of the array. -/
def z (X : FVec Ideal S4x2048x2048 .f32) (G : FVec Ideal S2x5x2048 .f32) (W : FVec Ideal S1x2048x5664 .f32) (r : Fin 8192) (n : Fin 6144) : EReal :=
  ∑ k : Fin 2048, rowN X G r k * prep W (ix2 k n)

/-- A column of the first part of the array. -/
theorem z_lo (X : FVec Ideal S4x2048x2048 .f32) (G : FVec Ideal S2x5x2048 .f32) (W : FVec Ideal S1x2048x5664 .f32) (b : Fin 4) (t : Fin 2048)
    (h : b.val * 2048 + t.val < 8192) (n : Fin 6144) (hn : n.val < 2560) :
    z X G W ⟨b.val * 2048 + t.val, h⟩ n = proj (fun k => X (ix3 b t k)) (fun k => G (ix3 0 0 k)) fun k => W (ix3 0 k ⟨n.val, by omega⟩) := by
  rw [z, proj, rowN_at]
  simp only [prep_lo W _ n hn]

/-- A column of the second part of the array. -/
theorem z_hi (X : FVec Ideal S4x2048x2048 .f32) (G : FVec Ideal S2x5x2048 .f32) (W : FVec Ideal S1x2048x5664 .f32) (b : Fin 4) (t : Fin 2048)
    (h : b.val * 2048 + t.val < 8192) (n : Fin 6144) (hn : 2560 ≤ n.val) (hn' : n.val < 5632) (a : Fin 5664) (ha : a.val = n.val + 24) :
    z X G W ⟨b.val * 2048 + t.val, h⟩ n = proj (fun k => X (ix3 b t k)) (fun k => G (ix3 0 0 k)) fun k => W (ix3 0 k a) := by
  rw [show a = ⟨n.val + 24, by omega⟩ from Fin.ext ha]
  rw [z, proj, rowN_at]
  simp only [prep_hi W _ n hn hn']

/-- A column of the gates. -/
theorem z_gate (X : FVec Ideal S4x2048x2048 .f32) (G : FVec Ideal S2x5x2048 .f32) (W : FVec Ideal S1x2048x5664 .f32) (b : Fin 4) (t : Fin 2048)
    (h : b.val * 2048 + t.val < 8192) (n : Fin 6144) (hn : 5632 ≤ n.val) (hn' : n.val < 5656) (a : Fin 5664) (ha : a.val = n.val - 3072) :
    z X G W ⟨b.val * 2048 + t.val, h⟩ n = proj (fun k => X (ix3 b t k)) (fun k => G (ix3 0 0 k)) fun k => W (ix3 0 k a) := by
  rw [show a = ⟨n.val - 3072, by omega⟩ from Fin.ext ha]
  rw [z, proj, rowN_at]
  simp only [prep_gate W _ n hn hn']

/-- A column of the forget gates. -/
theorem z_forget (X : FVec Ideal S4x2048x2048 .f32) (G : FVec Ideal S2x5x2048 .f32) (W : FVec Ideal S1x2048x5664 .f32) (b : Fin 4) (t : Fin 2048)
    (h : b.val * 2048 + t.val < 8192) (n : Fin 6144) (hn : 5656 ≤ n.val) (hn' : n.val < 5664) :
    z X G W ⟨b.val * 2048 + t.val, h⟩ n = proj (fun k => X (ix3 b t k)) (fun k => G (ix3 0 0 k)) fun k => W (ix3 0 k ⟨n.val, hn'⟩) := by
  rw [z, proj, rowN_at]
  simp only [prep_forget W _ n hn hn']

/-- What a point leaves in the output block. -/
theorem point (c : Dev nD) (t : Fin cfg0.N) (r : Fin 512) (n : Fin 1024) :
    (outsAt0 m c t.val t.isLt).1 (ix2 r n)
      = z (m ((c.tc : Thread nD τ).loc main_arg0)) (m ((c.tc : Thread nD τ).loc main_arg1)) (m ((c.tc : Thread nD τ).loc main_arg2))
        (row t.val t.isLt r) ⟨1024 * (t.val % 6) + n.val, by omega⟩ := by
  have e : (outsAt0 m c t.val t.isLt).1 = k0_pay2 (F := Ideal) (outsAt0 m c t.val t.isLt).2 (iblk m c 2 t) := by
    by_cases h0 : t.val % 6 = 0
    · rw [outsAt0_A m c t h0]; frame_out
    · rw [outsAt0_B m c t h0]; frame_out
      exact congrArg (fun x => k0_pay2 (F := Ideal) x (iblk m c 2 t)) (Memref.IsWhole.read_unread _ _)
  rw [e, pay2_at, z]
  refine Finset.sum_congr rfl fun k _ => ?_
  rw [scratch, blk_w]

/-- The output array after the run. -/
theorem final (c : Dev nD) : (dats m 0 c).arrAt 3 cfg0.N = fun i : S8192x6144.Idx =>
    z (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  obtain ⟨r, n, rfl⟩ : ∃ (r : Fin 512) (n : Fin 1024), y = ix2 r n := ⟨y 0, y 1, by blk_ext⟩
  refine (point m c t r n).trans ?_
  congr 1 <;> apply Fin.ext <;> blk_simp [idx t, row]
  all_goals first | rfl | (dsimp only; omega)

/-- The first result's columns of the array. -/
def tail17 (Z : FVec Ideal S8192x6144 .f32) : FVec Ideal S4x2048x4x2x128 .f32 :=
  shapeCast _ (extractStridedSlice S4x2048x1024 ![0, 0, 1024] (shapeCast S4x2048x6144 Z shapeCasts_S8192x6144_S4x2048x6144) slices_S4x2048x6144_S4x2048x1024_0_0_1024) shapeCasts_S4x2048x1024_S4x2048x4x2x128

/-- The second result's columns of the array. -/
def tail19 (Z : FVec Ideal S8192x6144 .f32) : FVec Ideal S4x2048x2x8x128 .f32 :=
  shapeCast _ (extractStridedSlice S4x2048x2048 ![0, 0, 3584] (shapeCast S4x2048x6144 Z shapeCasts_S8192x6144_S4x2048x6144) slices_S4x2048x6144_S4x2048x2048_0_0_3584) shapeCasts_S4x2048x2048_S4x2048x2x8x128

/-- The third result's rows and columns of the array. -/
def tail21 (Z : FVec Ideal S8192x6144 .f32) : FVec Ideal S4x512x2x2x128 .f32 :=
  shapeCast _ (extractStridedSlice S4x512x512 ![0, 1536, 2048] (shapeCast S4x2048x6144 Z shapeCasts_S8192x6144_S4x2048x6144) slices_S4x2048x6144_S4x512x512_0_1536_2048) shapeCasts_S4x512x512_S4x512x2x2x128

/-- The first result's columns, by element. -/
theorem tail17_at (Z : FVec Ideal S8192x6144 .f32) (b : Fin 4) (t : Fin 2048) (i : Fin 4) (j : Fin 2) (d : Fin 128) :
    tail17 Z (ix5 b t i j d) = Z (ix2 ⟨b.val * 2048 + t.val, by omega⟩ ⟨1024 + (i.val * 256 + j.val * 128 + d.val), by omega⟩) := by
  pointwise [tail17]

/-- The second result's columns, by element. -/
theorem tail19_at (Z : FVec Ideal S8192x6144 .f32) (b : Fin 4) (t : Fin 2048) (i : Fin 2) (j : Fin 8) (d : Fin 128) :
    tail19 Z (ix5 b t i j d) = Z (ix2 ⟨b.val * 2048 + t.val, by omega⟩ ⟨3584 + (i.val * 1024 + j.val * 128 + d.val), by omega⟩) := by
  pointwise [tail19]

/-- The third result's rows and columns, by element. -/
theorem tail21_at (Z : FVec Ideal S8192x6144 .f32) (b : Fin 4) (t : Fin 512) (i : Fin 2) (j : Fin 2) (d : Fin 128) :
    tail21 Z (ix5 b t i j d) = Z (ix2 ⟨b.val * 2048 + (1536 + t.val), by omega⟩ ⟨2048 + (i.val * 256 + j.val * 128 + d.val), by omega⟩) := by
  pointwise [tail21]

/-- The columns of the first queries. -/
def tail22 (Z : FVec Ideal S8192x6144 .f32) : FVec Ideal S4x2048x1024 .f32 :=
  extractStridedSlice S4x2048x1024 ![0, 0, 0] (shapeCast S4x2048x6144 Z shapeCasts_S8192x6144_S4x2048x6144) slices_S4x2048x6144_S4x2048x1024_0_0_0

/-- The columns of the window's keys and values. -/
def tail23 (Z : FVec Ideal S8192x6144 .f32) : FVec Ideal S4x2048x512 .f32 :=
  extractStridedSlice S4x2048x512 ![0, 0, 2048] (shapeCast S4x2048x6144 Z shapeCasts_S8192x6144_S4x2048x6144) slices_S4x2048x6144_S4x2048x512_0_0_2048

/-- The columns of the second queries. -/
def tail24 (Z : FVec Ideal S8192x6144 .f32) : FVec Ideal S4x2048x1024 .f32 :=
  extractStridedSlice S4x2048x1024 ![0, 0, 2560] (shapeCast S4x2048x6144 Z shapeCasts_S8192x6144_S4x2048x6144) slices_S4x2048x6144_S4x2048x1024_0_0_2560

/-- The columns of the gates. -/
def tail25 (Z : FVec Ideal S8192x6144 .f32) : FVec Ideal S4x2048x24 .f32 :=
  extractStridedSlice S4x2048x24 ![0, 0, 5632] (shapeCast S4x2048x6144 Z shapeCasts_S8192x6144_S4x2048x6144) slices_S4x2048x6144_S4x2048x24_0_0_5632

/-- The columns of the forget gates. -/
def tail26 (Z : FVec Ideal S8192x6144 .f32) : FVec Ideal S4x2048x8 .f32 :=
  extractStridedSlice S4x2048x8 ![0, 0, 5656] (shapeCast S4x2048x6144 Z shapeCasts_S8192x6144_S4x2048x6144) slices_S4x2048x6144_S4x2048x8_0_0_5656

/-- The columns of the first queries, by element. -/
theorem tail22_at (Z : FVec Ideal S8192x6144 .f32) (b : Fin 4) (t : Fin 2048) (n : Fin 1024) :
    tail22 Z (ix3 b t n) = Z (ix2 ⟨b.val * 2048 + t.val, by omega⟩ ⟨n.val, by omega⟩) := by
  pointwise [tail22]

/-- The columns of the window's keys and values, by element. -/
theorem tail23_at (Z : FVec Ideal S8192x6144 .f32) (b : Fin 4) (t : Fin 2048) (n : Fin 512) :
    tail23 Z (ix3 b t n) = Z (ix2 ⟨b.val * 2048 + t.val, by omega⟩ ⟨2048 + n.val, by omega⟩) := by
  pointwise [tail23]

/-- The columns of the second queries, by element. -/
theorem tail24_at (Z : FVec Ideal S8192x6144 .f32) (b : Fin 4) (t : Fin 2048) (n : Fin 1024) :
    tail24 Z (ix3 b t n) = Z (ix2 ⟨b.val * 2048 + t.val, by omega⟩ ⟨2560 + n.val, by omega⟩) := by
  pointwise [tail24]

/-- The columns of the gates, by element. -/
theorem tail25_at (Z : FVec Ideal S8192x6144 .f32) (b : Fin 4) (t : Fin 2048) (n : Fin 24) :
    tail25 Z (ix3 b t n) = Z (ix2 ⟨b.val * 2048 + t.val, by omega⟩ ⟨5632 + n.val, by omega⟩) := by
  pointwise [tail25]

/-- The columns of the forget gates, by element. -/
theorem tail26_at (Z : FVec Ideal S8192x6144 .f32) (b : Fin 4) (t : Fin 2048) (n : Fin 8) :
    tail26 Z (ix3 b t n) = Z (ix2 ⟨b.val * 2048 + t.val, by omega⟩ ⟨5656 + n.val, by omega⟩) := by
  pointwise [tail26]

/-- The array as the lines after the region find it. -/
theorem after_out (c : Dev nD) : Pipeline.withArrays (cfgs 0).spec c (V0 m c) (fun w => (dats m 0 c).arrAt w (cfgs 0).N) (Proc.devRef .tc main_v14)
    = (dats m 0 c).arrAt 3 cfg0.N :=
  Pipeline.withArrays_arr (cfgs 0).spec (by decide) c (V0 m c) (fun w => (dats m 0 c).arrAt w (cfgs 0).N) 3

/-- What the lines after the region leave as the first result. -/
theorem after17 (c : Dev nD) : (Pipeline.afterTail₀ cfgs (dats m) 0 (V0 m) [hostOps1] c main_v17 : FVec Ideal S4x2048x4x2x128 .f32)
    = tail17 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What they leave as the second. -/
theorem after19 (c : Dev nD) : (Pipeline.afterTail₀ cfgs (dats m) 0 (V0 m) [hostOps1] c main_v19 : FVec Ideal S4x2048x2x8x128 .f32)
    = tail19 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What they leave as the third. -/
theorem after21 (c : Dev nD) : (Pipeline.afterTail₀ cfgs (dats m) 0 (V0 m) [hostOps1] c main_v21 : FVec Ideal S4x512x2x2x128 .f32)
    = tail21 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What they leave as the first queries. -/
theorem after22 (c : Dev nD) : (Pipeline.afterTail₀ cfgs (dats m) 0 (V0 m) [hostOps1] c main_v22 : FVec Ideal S4x2048x1024 .f32)
    = tail22 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What they leave as the window's keys and values. -/
theorem after23 (c : Dev nD) : (Pipeline.afterTail₀ cfgs (dats m) 0 (V0 m) [hostOps1] c main_v23 : FVec Ideal S4x2048x512 .f32)
    = tail23 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What they leave as the second queries. -/
theorem after24 (c : Dev nD) : (Pipeline.afterTail₀ cfgs (dats m) 0 (V0 m) [hostOps1] c main_v24 : FVec Ideal S4x2048x1024 .f32)
    = tail24 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What they leave as the gates. -/
theorem after25 (c : Dev nD) : (Pipeline.afterTail₀ cfgs (dats m) 0 (V0 m) [hostOps1] c main_v25 : FVec Ideal S4x2048x24 .f32)
    = tail25 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- What they leave as the forget gates. -/
theorem after26 (c : Dev nD) : (Pipeline.afterTail₀ cfgs (dats m) 0 (V0 m) [hostOps1] c main_v26 : FVec Ideal S4x2048x8 .f32)
    = tail26 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

end Cert.InEvenIdeal.Proj

end
end
-- ==== Proof.InEvenRef.lean ====
module

public import proofs.«01_k».proof.Proof.Norm
public import proofs.«01_k».proof.Proof.Gen.InEvenRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InEvenRefIdeal.Proj

open Cert.InEvenRefIdeal Cert.InEvenRefIdeal.Gen Cert.Norm

/-- The reference's normalized activations. -/
def refN (X : FVec Ideal S4x2048x2048 .f32) (G : FVec Ideal S2x5x2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![0, 0] (shapeCast _ (extractStridedSlice S1x5x2048 ![0, 0, 0] G slices_S2x5x2048_S1x5x2048_0_0_0) shapeCasts_S1x5x2048_S5x2048) slices_S5x2048_S1x2048_0_0) shapeCasts_S1x2048_S2048)))

/-- The reference's projection. -/
def refZ (N : FVec Ideal S4x2048x2048 .f32) (W : FVec Ideal S1x2048x5664 .f32) : FVec Ideal S4x2048x5664 .f32 :=
  Host.dotGeneral dot_S4x2048x2048_S2048x5664_S4x2048x5664_2_0_01_1_n_n none N (shapeCast _ W shapeCasts_S1x2048x5664_S2048x5664)

/-- The first attention's keys and values. -/
def refA (Z : FVec Ideal S4x2048x5664 .f32) : FVec Ideal S4x2048x6x2x128 .f32 :=
  shapeCast _ (extractStridedSlice S4x2048x1536 ![0, 0, 1024] Z slices_S4x2048x5664_S4x2048x1536_0_0_1024) shapeCasts_S4x2048x1536_S4x2048x6x2x128

/-- The reference's first result. -/
def refK (Z : FVec Ideal S4x2048x5664 .f32) : FVec Ideal S4x2048x4x2x128 .f32 :=
  extractStridedSlice S4x2048x4x2x128 ![0, 0, 0, 0, 0] (refA Z) slices_S4x2048x6x2x128_S4x2048x4x2x128_0_0_0_0_0

/-- The reference's second result. -/
def refF (Z : FVec Ideal S4x2048x5664 .f32) : FVec Ideal S4x2048x2x8x128 .f32 :=
  concatenate S4x2048x2x8x128 2
    [⟨S4x2048x1x8x128, broadcastInDim S4x2048x1x8x128 ![0, 1, 3, 4] bcast_S4x2048x8x128_S4x2048x1x8x128_0_1_3_4 (shapeCast S4x2048x8x128 (extractStridedSlice S4x2048x1024 ![0, 0, 3608] Z slices_S4x2048x5664_S4x2048x1024_0_0_3608) shapeCasts_S4x2048x1024_S4x2048x8x128)⟩,
     ⟨S4x2048x1x8x128, broadcastInDim S4x2048x1x8x128 ![0, 1, 3, 4] bcast_S4x2048x8x128_S4x2048x1x8x128_0_1_3_4 (shapeCast S4x2048x8x128 (extractStridedSlice S4x2048x1024 ![0, 0, 4632] Z slices_S4x2048x5664_S4x2048x1024_0_0_4632) shapeCasts_S4x2048x1024_S4x2048x8x128)⟩]
    concatenates_S4x2048x1x8x128_S4x2048x1x8x128_S4x2048x2x8x128_d2

/-- The reference's third result. -/
def refV (Z : FVec Ideal S4x2048x5664 .f32) : FVec Ideal S4x512x2x2x128 .f32 :=
  extractStridedSlice S4x512x2x2x128 ![0, 1536, 4, 0, 0] (refA Z) slices_S4x2048x6x2x128_S4x512x2x2x128_0_1536_4_0_0

/-- The normalization, by element. -/
theorem refN_at (X : FVec Ideal S4x2048x2048 .f32) (G : FVec Ideal S2x5x2048 .f32) (b : Fin 4) (t n : Fin 2048) :
    refN X G (ix3 b t n) = nrm (fun k => X (ix3 b t k)) (fun k => G (ix3 0 0 k)) n := by
  pointwise [refN]
  rfl

/-- The projection, by element. -/
theorem refZ_at (N : FVec Ideal S4x2048x2048 .f32) (W : FVec Ideal S1x2048x5664 .f32) (b : Fin 4) (t : Fin 2048) (n : Fin 5664) :
    refZ N W (ix3 b t n) = ∑ k : Fin 2048, N (ix3 b t k) * W (ix3 0 k n) := by
  pointwise [refZ]

/-- The projection of the normalized activations, by element. -/
theorem ref_at (X : FVec Ideal S4x2048x2048 .f32) (G : FVec Ideal S2x5x2048 .f32) (W : FVec Ideal S1x2048x5664 .f32) (b : Fin 4) (t : Fin 2048) (n : Fin 5664) :
    refZ (refN X G) W (ix3 b t n) = proj (fun k => X (ix3 b t k)) (fun k => G (ix3 0 0 k)) fun k => W (ix3 0 k n) := by
  rw [refZ_at, proj]
  simp only [refN_at]

/-- The first result, by element. -/
theorem refK_at (Z : FVec Ideal S4x2048x5664 .f32) (b : Fin 4) (t : Fin 2048) (i : Fin 4) (j : Fin 2) (d : Fin 128) :
    refK Z (ix5 b t i j d) = Z (ix3 b t ⟨1024 + (i.val * 256 + j.val * 128 + d.val), by omega⟩) := by
  pointwise [refK, refA]

/-- The second result, by element. -/
theorem refF_at (Z : FVec Ideal S4x2048x5664 .f32) (b : Fin 4) (t : Fin 2048) (i : Fin 2) (j : Fin 8) (d : Fin 128) :
    refF Z (ix5 b t i j d) = Z (ix3 b t ⟨3608 + (i.val * 1024 + j.val * 128 + d.val), by omega⟩) := by
  pointwise [refF]
  split <;> (congr 2; apply Fin.ext; dsimp only; omega)

/-- The third result, by element. -/
theorem refV_at (Z : FVec Ideal S4x2048x5664 .f32) (b : Fin 4) (t : Fin 512) (i : Fin 2) (j : Fin 2) (d : Fin 128) :
    refV Z (ix5 b t i j d) = Z (ix3 b ⟨1536 + t.val, by omega⟩ ⟨2048 + (i.val * 256 + j.val * 128 + d.val), by omega⟩) := by
  pointwise [refV, refA]
  congr 2
  apply Fin.ext
  dsimp only
  omega

/-- The reference's first queries. -/
def refC22 (Z : FVec Ideal S4x2048x5664 .f32) : FVec Ideal S4x2048x1024 .f32 :=
  extractStridedSlice S4x2048x1024 ![0, 0, 0] Z slices_S4x2048x5664_S4x2048x1024_0_0_0

/-- The reference's first queries, by element. -/
theorem refC22_at (Z : FVec Ideal S4x2048x5664 .f32) (b : Fin 4) (t : Fin 2048) (n : Fin 1024) : refC22 Z (ix3 b t n) = Z (ix3 b t ⟨n.val, by omega⟩) := by
  pointwise [refC22]

/-- The reference's window's keys and values. -/
def refC23 (Z : FVec Ideal S4x2048x5664 .f32) : FVec Ideal S4x2048x512 .f32 :=
  extractStridedSlice S4x2048x512 ![0, 0, 2048] Z slices_S4x2048x5664_S4x2048x512_0_0_2048

/-- The reference's window's keys and values, by element. -/
theorem refC23_at (Z : FVec Ideal S4x2048x5664 .f32) (b : Fin 4) (t : Fin 2048) (n : Fin 512) : refC23 Z (ix3 b t n) = Z (ix3 b t ⟨2048 + n.val, by omega⟩) := by
  pointwise [refC23]

/-- The reference's second queries. -/
def refC24 (Z : FVec Ideal S4x2048x5664 .f32) : FVec Ideal S4x2048x1024 .f32 :=
  extractStridedSlice S4x2048x1024 ![0, 0, 2584] Z slices_S4x2048x5664_S4x2048x1024_0_0_2584

/-- The reference's second queries, by element. -/
theorem refC24_at (Z : FVec Ideal S4x2048x5664 .f32) (b : Fin 4) (t : Fin 2048) (n : Fin 1024) : refC24 Z (ix3 b t n) = Z (ix3 b t ⟨2584 + n.val, by omega⟩) := by
  pointwise [refC24]

/-- The reference's gates. -/
def refC25 (Z : FVec Ideal S4x2048x5664 .f32) : FVec Ideal S4x2048x24 .f32 :=
  extractStridedSlice S4x2048x24 ![0, 0, 2560] Z slices_S4x2048x5664_S4x2048x24_0_0_2560

/-- The reference's gates, by element. -/
theorem refC25_at (Z : FVec Ideal S4x2048x5664 .f32) (b : Fin 4) (t : Fin 2048) (n : Fin 24) : refC25 Z (ix3 b t n) = Z (ix3 b t ⟨2560 + n.val, by omega⟩) := by
  pointwise [refC25]

/-- The reference's forget gates. -/
def refC26 (Z : FVec Ideal S4x2048x5664 .f32) : FVec Ideal S4x2048x8 .f32 :=
  extractStridedSlice S4x2048x8 ![0, 0, 5656] Z slices_S4x2048x5664_S4x2048x8_0_0_5656

/-- The reference's forget gates, by element. -/
theorem refC26_at (Z : FVec Ideal S4x2048x5664 .f32) (b : Fin 4) (t : Fin 2048) (n : Fin 8) : refC26 Z (ix3 b t n) = Z (ix3 b t ⟨5656 + n.val, by omega⟩) := by
  pointwise [refC26]

end Cert.InEvenRefIdeal.Proj

end
end
-- ==== Proof.InEvenSArr.lean ====
module

public import proofs.«01_k».proof.Proof.InEvenArr
public import proofs.«01_k».proof.Proof.Gen.InEvenSIdeal.Skeleton
public import proofs.«01_k».proof.Proof.Gen.InEvenSIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InEvenSIdeal.Proj

open Cert.InEvenSIdeal Cert.InEvenSIdeal.Gen Cert.Norm
open Cert.InEvenIdeal.Proj (prep prep_lo prep_hi prep_gate prep_forget g_at)

/-- The normalization payload, by element. -/
theorem pay1_at (x : FVec Ideal S32x2048 .f32) (g : FVec Ideal S1x2048 .f32) (r : Fin 32) (k : Fin 2048) :
    k0_pay1 (F := Ideal) x g (ix2 r k) = nrm (fun k => x (ix2 r k)) (fun k => g (ix2 0 k)) k := by
  pointwise [k0_pay1]
  rfl

/-- The product payload, by element. -/
theorem pay2_at (xn : FVec Ideal S32x2048 .bf16) (w : FVec Ideal S2048x1024 .bf16) (r : Fin 32) (n : Fin 1024) :
    k0_pay2 (F := Ideal) xn w (ix2 r n) = ∑ k : Fin 2048, xn (ix2 r k) * w (ix2 k n) := by
  pointwise [k0_pay2]

/-- The activations as rows, by element. -/
theorem rows_at (X : FVec Ideal S32x1x2048 .f32) (r : Fin 32) (k : Fin 2048) :
    shapeCast S32x2048 X shapeCasts_S32x1x2048_S32x2048 (ix2 r k) = X (ix3 r 0 k) := by
  pointwise

variable (m : (ℓ : Loc nD τ sig) → Buf (Elt Ideal) ℓ)

/-- The region finds the activations as rows. -/
theorem V_x (c : Dev nD) : (V m c main_v0 : FVec Ideal S32x2048 .f32)
    = shapeCast S32x2048 (m ((c.tc : Thread nD τ).loc main_arg0) : FVec Ideal S32x1x2048 .f32) shapeCasts_S32x1x2048_S32x2048 := by
  unfold V V0
  rfl

/-- The region finds the norm's weight as a row. -/
theorem V_g (c : Dev nD) : (V m c main_v13 : FVec Ideal S1x2048 .f32)
    = shapeCast S1x2048 (shapeCast S2048 (extractStridedSlice S1x2048 ![0, 0] (shapeCast S5x2048 (extractStridedSlice S1x5x2048 ![0, 0, 0]
        (m ((c.tc : Thread nD τ).loc main_arg1) : FVec Ideal S2x5x2048 .f32) slices_S2x5x2048_S1x5x2048_0_0_0) shapeCasts_S1x5x2048_S5x2048) slices_S5x2048_S1x2048_0_0) shapeCasts_S1x2048_S2048) shapeCasts_S2048_S1x2048 := by
  unfold V V0
  rfl

/-- The region finds the weights in the array's order. -/
theorem V_w (c : Dev nD) : (V m c main_v12 : FVec Ideal S2048x6144 .bf16) = prep (m ((c.tc : Thread nD τ).loc main_arg2)) := by
  unfold V V0
  rfl

/-- Which block of its array each window holds at a point. -/
theorem idx : ∀ t : Fin cfg0.N,
    win0_0.index t = ![0, 0] ∧ win0_1.index t = ![0, 0] ∧ win0_2.index t = ![0, t.val % 6]
    ∧ win0_3.index t = ![0, t.val % 6] :=
  (by decide +kernel : ∀ t : Fin grid0.N, _)

/-- A row of the normalized activations. -/
def rowN (X : FVec Ideal S32x1x2048 .f32) (G : FVec Ideal S2x5x2048 .f32) (r : Fin 32) : Fin 2048 → EReal :=
  nrm (fun k => X (ix3 r 0 k)) fun k => G (ix3 0 0 k)

/-- A block of the activations. -/
theorem blk_x (c : Dev nD) (t : Fin cfg0.N) (r : Fin 32) (k : Fin 2048) :
    (iblk m c 0 t : FVec Ideal S32x2048 .f32) (ix2 r k) = (m ((c.tc : Thread nD τ).loc main_arg0) : FVec Ideal S32x1x2048 .f32)
      (ix3 r 0 k) := by
  have e : (iblk m c 0 t : FVec Ideal S32x2048 .f32) (ix2 r k) = (V m c main_v0 : FVec Ideal S32x2048 .f32) (ix2 r k) := by
    blk_point [iblk, idx t]
  rw [e, V_x]
  exact rows_at _ _ k

/-- The block of the norm's weight. -/
theorem blk_g (c : Dev nD) (t : Fin cfg0.N) (k : Fin 2048) :
    (iblk m c 1 t : FVec Ideal S1x2048 .f32) (ix2 0 k) = (m ((c.tc : Thread nD τ).loc main_arg1) : FVec Ideal S2x5x2048 .f32) (ix3 0 0 k) := by
  have e : (iblk m c 1 t : FVec Ideal S1x2048 .f32) (ix2 0 k) = (V m c main_v13 : FVec Ideal S1x2048 .f32) (ix2 0 k) := by
    blk_point [iblk, idx t]
  rw [e, V_g]
  exact g_at _ k

/-- A block of the weights. -/
theorem blk_w (c : Dev nD) (t : Fin cfg0.N) (k : Fin 2048) (n : Fin 1024) :
    (iblk m c 2 t : FVec Ideal S2048x1024 .bf16) (ix2 k n) = prep (m ((c.tc : Thread nD τ).loc main_arg2)) (ix2 k ⟨1024 * (t.val % 6) + n.val, by omega⟩) := by
  rw [← V_w]
  blk_point [iblk, idx t]

/-- What the carried scratch holds after a point: the normalized rows. -/
theorem scratch (c : Dev nD) (n : ℕ) (hn : n < cfg0.N) (r : Fin 32) (k : Fin 2048) :
    (outsAt0 m c n hn).2 (ix2 r k) = rowN (m ((c.tc : Thread nD τ).loc main_arg0)) (m ((c.tc : Thread nD τ).loc main_arg1)) r k := by
  induction n with
  | zero =>
    rw [outsAt0_A m c ⟨0, hn⟩ rfl]
    frame_out
    rw [pay1_at, rowN]
    congr 1
    · funext k; exact blk_x m c ⟨0, hn⟩ r k
    · funext k; exact blk_g m c ⟨0, hn⟩ k
  | succ n ih =>
    have hN : n + 1 < 6 := hn
    have h0 : ¬ (n + 1) % 6 = 0 := by omega
    rw [outsAt0_B m c ⟨n + 1, hn⟩ h0]
    frame_out
    exact ih (Nat.lt_of_succ_lt hn)

/-- The projected activations, by row and column of the array. -/
def z (X : FVec Ideal S32x1x2048 .f32) (G : FVec Ideal S2x5x2048 .f32) (W : FVec Ideal S1x2048x5664 .f32) (r : Fin 32) (n : Fin 6144) : EReal :=
  ∑ k : Fin 2048, rowN X G r k * prep W (ix2 k n)

/-- A column of the first part of the array. -/
theorem z_lo (X : FVec Ideal S32x1x2048 .f32) (G : FVec Ideal S2x5x2048 .f32) (W : FVec Ideal S1x2048x5664 .f32) (r : Fin 32) (n : Fin 6144)
    (hn : n.val < 2560) :
    z X G W r n = proj (fun k => X (ix3 r 0 k)) (fun k => G (ix3 0 0 k)) fun k => W (ix3 0 k ⟨n.val, by omega⟩) := by
  rw [z, proj]
  simp only [prep_lo W _ n hn, rowN]

/-- A column of the second part of the array. -/
theorem z_hi (X : FVec Ideal S32x1x2048 .f32) (G : FVec Ideal S2x5x2048 .f32) (W : FVec Ideal S1x2048x5664 .f32) (r : Fin 32) (n : Fin 6144)
    (hn : 2560 ≤ n.val) (hn' : n.val < 5632) (a : Fin 5664) (ha : a.val = n.val + 24) :
    z X G W r n = proj (fun k => X (ix3 r 0 k)) (fun k => G (ix3 0 0 k)) fun k => W (ix3 0 k a) := by
  rw [show a = ⟨n.val + 24, by omega⟩ from Fin.ext ha]
  rw [z, proj]
  simp only [prep_hi W _ n hn hn', rowN]

/-- A column of the gates. -/
theorem z_gate (X : FVec Ideal S32x1x2048 .f32) (G : FVec Ideal S2x5x2048 .f32) (W : FVec Ideal S1x2048x5664 .f32) (r : Fin 32) (n : Fin 6144)
    (hn : 5632 ≤ n.val) (hn' : n.val < 5656) (a : Fin 5664) (ha : a.val = n.val - 3072) :
    z X G W r n = proj (fun k => X (ix3 r 0 k)) (fun k => G (ix3 0 0 k)) fun k => W (ix3 0 k a) := by
  rw [show a = ⟨n.val - 3072, by omega⟩ from Fin.ext ha]
  rw [z, proj]
  simp only [prep_gate W _ n hn hn', rowN]

/-- A column of the forget gates. -/
theorem z_forget (X : FVec Ideal S32x1x2048 .f32) (G : FVec Ideal S2x5x2048 .f32) (W : FVec Ideal S1x2048x5664 .f32) (r : Fin 32) (n : Fin 6144)
    (hn : 5656 ≤ n.val) (hn' : n.val < 5664) :
    z X G W r n = proj (fun k => X (ix3 r 0 k)) (fun k => G (ix3 0 0 k)) fun k => W (ix3 0 k ⟨n.val, hn'⟩) := by
  rw [z, proj]
  simp only [prep_forget W _ n hn hn', rowN]

/-- What a point leaves in the output block. -/
theorem point (c : Dev nD) (t : Fin cfg0.N) (r : Fin 32) (n : Fin 1024) :
    (outsAt0 m c t.val t.isLt).1 (ix2 r n)
      = z (m ((c.tc : Thread nD τ).loc main_arg0)) (m ((c.tc : Thread nD τ).loc main_arg1)) (m ((c.tc : Thread nD τ).loc main_arg2))
        r ⟨1024 * (t.val % 6) + n.val, by omega⟩ := by
  have e : (outsAt0 m c t.val t.isLt).1 = k0_pay2 (F := Ideal) (outsAt0 m c t.val t.isLt).2 (iblk m c 2 t) := by
    by_cases h0 : t.val % 6 = 0
    · rw [outsAt0_A m c t h0]; frame_out
    · rw [outsAt0_B m c t h0]; frame_out
      exact congrArg (fun x => k0_pay2 (F := Ideal) x (iblk m c 2 t)) (Memref.IsWhole.read_unread _ _)
  rw [e, pay2_at, z]
  refine Finset.sum_congr rfl fun k _ => ?_
  rw [scratch, blk_w]

/-- The output array after the run. -/
theorem final (c : Dev nD) : (dats m 0 c).arrAt 3 cfg0.N = fun i : S32x6144.Idx =>
    z (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  obtain ⟨r, n, rfl⟩ : ∃ (r : Fin 32) (n : Fin 1024), y = ix2 r n := ⟨y 0, y 1, by blk_ext⟩
  refine (point m c t r n).trans ?_
  congr 1 <;> apply Fin.ext <;> blk_simp [idx t]
  all_goals first | rfl | (dsimp only; omega)

/-- The first result's columns of the array. -/
def tail16 (Z : FVec Ideal S32x6144 .f32) : FVec Ideal S32x1x4x2x128 .f32 :=
  shapeCast _ (extractStridedSlice S32x1024 ![0, 1024] Z slices_S32x6144_S32x1024_0_1024) shapeCasts_S32x1024_S32x1x4x2x128

/-- The first result's columns, by element. -/
theorem tail16_at (Z : FVec Ideal S32x6144 .f32) (r : Fin 32) (i : Fin 4) (j : Fin 2) (d : Fin 128) :
    tail16 Z (ix5 r 0 i j d) = Z (ix2 r ⟨1024 + (i.val * 256 + j.val * 128 + d.val), by omega⟩) := by
  pointwise [tail16]

/-- The second result's columns of the array. -/
def tail18 (Z : FVec Ideal S32x6144 .f32) : FVec Ideal S32x1x2x8x128 .f32 :=
  shapeCast _ (extractStridedSlice S32x2048 ![0, 3584] Z slices_S32x6144_S32x2048_0_3584) shapeCasts_S32x2048_S32x1x2x8x128

/-- The second result's columns, by element. -/
theorem tail18_at (Z : FVec Ideal S32x6144 .f32) (r : Fin 32) (i : Fin 2) (j : Fin 8) (d : Fin 128) :
    tail18 Z (ix5 r 0 i j d) = Z (ix2 r ⟨3584 + (i.val * 1024 + j.val * 128 + d.val), by omega⟩) := by
  pointwise [tail18]

/-- The first queries' columns of the array. -/
def tail19 (Z : FVec Ideal S32x6144 .f32) : FVec Ideal S32x1024 .f32 :=
  extractStridedSlice S32x1024 ![0, 0] Z slices_S32x6144_S32x1024_0_0

/-- The first queries' columns, by element. -/
theorem tail19_at (Z : FVec Ideal S32x6144 .f32) (r : Fin 32) (n : Fin 1024) : tail19 Z (ix2 r n) = Z (ix2 r ⟨n.val, by omega⟩) := by
  pointwise [tail19]

/-- The window's columns of the array. -/
def tail20 (Z : FVec Ideal S32x6144 .f32) : FVec Ideal S32x512 .f32 :=
  extractStridedSlice S32x512 ![0, 2048] Z slices_S32x6144_S32x512_0_2048

/-- The window's columns, by element. -/
theorem tail20_at (Z : FVec Ideal S32x6144 .f32) (r : Fin 32) (n : Fin 512) : tail20 Z (ix2 r n) = Z (ix2 r ⟨2048 + n.val, by omega⟩) := by
  pointwise [tail20]

/-- The second queries' columns of the array. -/
def tail21 (Z : FVec Ideal S32x6144 .f32) : FVec Ideal S32x1024 .f32 :=
  extractStridedSlice S32x1024 ![0, 2560] Z slices_S32x6144_S32x1024_0_2560

/-- The second queries' columns, by element. -/
theorem tail21_at (Z : FVec Ideal S32x6144 .f32) (r : Fin 32) (n : Fin 1024) : tail21 Z (ix2 r n) = Z (ix2 r ⟨2560 + n.val, by omega⟩) := by
  pointwise [tail21]

/-- The gates' columns of the array. -/
def tail22 (Z : FVec Ideal S32x6144 .f32) : FVec Ideal S32x24 .f32 :=
  extractStridedSlice S32x24 ![0, 5632] Z slices_S32x6144_S32x24_0_5632

/-- The gates' columns, by element. -/
theorem tail22_at (Z : FVec Ideal S32x6144 .f32) (r : Fin 32) (n : Fin 24) : tail22 Z (ix2 r n) = Z (ix2 r ⟨5632 + n.val, by omega⟩) := by
  pointwise [tail22]

/-- The forget gates' columns of the array. -/
def tail23 (Z : FVec Ideal S32x6144 .f32) : FVec Ideal S32x8 .f32 :=
  extractStridedSlice S32x8 ![0, 5656] Z slices_S32x6144_S32x8_0_5656

/-- The forget gates' columns, by element. -/
theorem tail23_at (Z : FVec Ideal S32x6144 .f32) (r : Fin 32) (n : Fin 8) : tail23 Z (ix2 r n) = Z (ix2 r ⟨5656 + n.val, by omega⟩) := by
  pointwise [tail23]

/-- The array as the lines after the region find it. -/
theorem after_out (c : Dev nD) : Pipeline.withArrays (cfgs 0).spec c (V0 m c) (fun w => (dats m 0 c).arrAt w (cfgs 0).N) (Proc.devRef .tc main_v14)
    = (dats m 0 c).arrAt 3 cfg0.N :=
  Pipeline.withArrays_arr (cfgs 0).spec (by decide) c (V0 m c) (fun w => (dats m 0 c).arrAt w (cfgs 0).N) 3

/-- The lines after the region leave the first result's columns. -/
theorem after16 (c : Dev nD) : (Pipeline.afterTail₀ cfgs (dats m) 0 (V0 m) [hostOps1] c main_v16 : FVec Ideal S32x1x4x2x128 .f32)
    = tail16 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- The lines after the region leave the second result's columns. -/
theorem after18 (c : Dev nD) : (Pipeline.afterTail₀ cfgs (dats m) 0 (V0 m) [hostOps1] c main_v18 : FVec Ideal S32x1x2x8x128 .f32)
    = tail18 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- The lines after the region leave the first queries' columns. -/
theorem after19 (c : Dev nD) : (Pipeline.afterTail₀ cfgs (dats m) 0 (V0 m) [hostOps1] c main_v19 : FVec Ideal S32x1024 .f32)
    = tail19 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- The lines after the region leave the window's columns. -/
theorem after20 (c : Dev nD) : (Pipeline.afterTail₀ cfgs (dats m) 0 (V0 m) [hostOps1] c main_v20 : FVec Ideal S32x512 .f32)
    = tail20 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- The lines after the region leave the second queries' columns. -/
theorem after21 (c : Dev nD) : (Pipeline.afterTail₀ cfgs (dats m) 0 (V0 m) [hostOps1] c main_v21 : FVec Ideal S32x1024 .f32)
    = tail21 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- The lines after the region leave the gates' columns. -/
theorem after22 (c : Dev nD) : (Pipeline.afterTail₀ cfgs (dats m) 0 (V0 m) [hostOps1] c main_v22 : FVec Ideal S32x24 .f32)
    = tail22 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

/-- The lines after the region leave the forget gates' columns. -/
theorem after23 (c : Dev nD) : (Pipeline.afterTail₀ cfgs (dats m) 0 (V0 m) [hostOps1] c main_v23 : FVec Ideal S32x8 .f32)
    = tail23 ((dats m 0 c).arrAt 3 cfg0.N) := by
  rw [← after_out]
  unfold Pipeline.afterTail₀
  simp only [List.flatten_cons, List.flatten_nil, List.append_nil, StableHlo.after_cons, StableHlo.after_nil]
  after_results_simp
  after_results_loop
  rfl

end Cert.InEvenSIdeal.Proj

end
end
-- ==== Proof.InEvenSRef.lean ====
module

public import proofs.«01_k».proof.Proof.Norm
public import proofs.«01_k».proof.Proof.Gen.InEvenSRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InEvenSRefIdeal.Proj

open Cert.InEvenSRefIdeal Cert.InEvenSRefIdeal.Gen Cert.Norm

/-- The reference's normalized activations. -/
def refN (X : FVec Ideal S32x1x2048 .f32) (G : FVec Ideal S2x5x2048 .f32) : FVec Ideal S32x1x2048 .f32 :=
  mulf (mulf X (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf X X) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x358637BD#32)))))) (broadcastInDim S32x1x2048 ![0, 1, 2] bcast_S1x1x2048_S32x1x2048_0_1_2 (broadcastInDim S1x1x2048 ![2] bcast_S2048_S1x1x2048_2 (shapeCast _ (extractStridedSlice S1x2048 ![0, 0] (shapeCast _ (extractStridedSlice S1x5x2048 ![0, 0, 0] G slices_S2x5x2048_S1x5x2048_0_0_0) shapeCasts_S1x5x2048_S5x2048) slices_S5x2048_S1x2048_0_0) shapeCasts_S1x2048_S2048)))

/-- The reference's projection. -/
def refZ (N : FVec Ideal S32x1x2048 .f32) (W : FVec Ideal S1x2048x5664 .f32) : FVec Ideal S32x1x5664 .f32 :=
  Host.dotGeneral dot_S32x1x2048_S2048x5664_S32x1x5664_2_0_01_1_n_n none N (shapeCast _ W shapeCasts_S1x2048x5664_S2048x5664)

/-- The first attention's keys and values. -/
def refA (Z : FVec Ideal S32x1x5664 .f32) : FVec Ideal S32x1x6x2x128 .f32 :=
  shapeCast _ (extractStridedSlice S32x1x1536 ![0, 0, 1024] Z slices_S32x1x5664_S32x1x1536_0_0_1024) shapeCasts_S32x1x1536_S32x1x6x2x128

/-- The reference's first result. -/
def refK (Z : FVec Ideal S32x1x5664 .f32) : FVec Ideal S32x1x4x2x128 .f32 :=
  extractStridedSlice S32x1x4x2x128 ![0, 0, 0, 0, 0] (refA Z) slices_S32x1x6x2x128_S32x1x4x2x128_0_0_0_0_0

/-- The reference's second result. -/
def refF (Z : FVec Ideal S32x1x5664 .f32) : FVec Ideal S32x1x2x8x128 .f32 :=
  concatenate S32x1x2x8x128 2
    [⟨S32x1x1x8x128, broadcastInDim S32x1x1x8x128 ![0, 1, 3, 4] bcast_S32x1x8x128_S32x1x1x8x128_0_1_3_4 (shapeCast S32x1x8x128 (extractStridedSlice S32x1x1024 ![0, 0, 3608] Z slices_S32x1x5664_S32x1x1024_0_0_3608) shapeCasts_S32x1x1024_S32x1x8x128)⟩,
     ⟨S32x1x1x8x128, broadcastInDim S32x1x1x8x128 ![0, 1, 3, 4] bcast_S32x1x8x128_S32x1x1x8x128_0_1_3_4 (shapeCast S32x1x8x128 (extractStridedSlice S32x1x1024 ![0, 0, 4632] Z slices_S32x1x5664_S32x1x1024_0_0_4632) shapeCasts_S32x1x1024_S32x1x8x128)⟩]
    concatenates_S32x1x1x8x128_S32x1x1x8x128_S32x1x2x8x128_d2

/-- The normalization, by element. -/
theorem refN_at (X : FVec Ideal S32x1x2048 .f32) (G : FVec Ideal S2x5x2048 .f32) (b : Fin 32) (n : Fin 2048) :
    refN X G (ix3 b 0 n) = nrm (fun k => X (ix3 b 0 k)) (fun k => G (ix3 0 0 k)) n := by
  pointwise [refN]
  rfl

/-- The projection, by element. -/
theorem refZ_at (N : FVec Ideal S32x1x2048 .f32) (W : FVec Ideal S1x2048x5664 .f32) (b : Fin 32) (n : Fin 5664) :
    refZ N W (ix3 b 0 n) = ∑ k : Fin 2048, N (ix3 b 0 k) * W (ix3 0 k n) := by
  pointwise [refZ]

/-- The projection of the normalized activations, by element. -/
theorem ref_at (X : FVec Ideal S32x1x2048 .f32) (G : FVec Ideal S2x5x2048 .f32) (W : FVec Ideal S1x2048x5664 .f32) (b : Fin 32) (n : Fin 5664) :
    refZ (refN X G) W (ix3 b 0 n) = proj (fun k => X (ix3 b 0 k)) (fun k => G (ix3 0 0 k)) fun k => W (ix3 0 k n) := by
  rw [refZ_at, proj]
  simp only [refN_at]

/-- The first result, by element. -/
theorem refK_at (Z : FVec Ideal S32x1x5664 .f32) (b : Fin 32) (i : Fin 4) (j : Fin 2) (d : Fin 128) :
    refK Z (ix5 b 0 i j d) = Z (ix3 b 0 ⟨1024 + (i.val * 256 + j.val * 128 + d.val), by omega⟩) := by
  pointwise [refK, refA]

/-- The second result, by element. -/
theorem refF_at (Z : FVec Ideal S32x1x5664 .f32) (b : Fin 32) (i : Fin 2) (j : Fin 8) (d : Fin 128) :
    refF Z (ix5 b 0 i j d) = Z (ix3 b 0 ⟨3608 + (i.val * 1024 + j.val * 128 + d.val), by omega⟩) := by
  pointwise [refF]
  split <;> (congr 2; apply Fin.ext; dsimp only; omega)

/-- The reference's first queries. -/
def refC33 (Z : FVec Ideal S32x1x5664 .f32) : FVec Ideal S32x1024 .f32 :=
  shapeCast _ (extractStridedSlice S32x1x1024 ![0, 0, 0] Z slices_S32x1x5664_S32x1x1024_0_0_0) shapeCasts_S32x1x1024_S32x1024

/-- The reference's first queries, by element. -/
theorem refC33_at (Z : FVec Ideal S32x1x5664 .f32) (b : Fin 32) (n : Fin 1024) : refC33 Z (ix2 b n) = Z (ix3 b 0 ⟨n.val, by omega⟩) := by
  pointwise [refC33]

/-- The reference's window's keys and values. -/
def refC35 (Z : FVec Ideal S32x1x5664 .f32) : FVec Ideal S32x512 .f32 :=
  shapeCast _ (extractStridedSlice S32x1x512 ![0, 0, 2048] Z slices_S32x1x5664_S32x1x512_0_0_2048) shapeCasts_S32x1x512_S32x512

/-- The reference's window's keys and values, by element. -/
theorem refC35_at (Z : FVec Ideal S32x1x5664 .f32) (b : Fin 32) (n : Fin 512) : refC35 Z (ix2 b n) = Z (ix3 b 0 ⟨2048 + n.val, by omega⟩) := by
  pointwise [refC35]

/-- The reference's second queries. -/
def refC36 (Z : FVec Ideal S32x1x5664 .f32) : FVec Ideal S32x1024 .f32 :=
  shapeCast _ (extractStridedSlice S32x1x1024 ![0, 0, 2584] Z slices_S32x1x5664_S32x1x1024_0_0_2584) shapeCasts_S32x1x1024_S32x1024

/-- The reference's second queries, by element. -/
theorem refC36_at (Z : FVec Ideal S32x1x5664 .f32) (b : Fin 32) (n : Fin 1024) : refC36 Z (ix2 b n) = Z (ix3 b 0 ⟨2584 + n.val, by omega⟩) := by
  pointwise [refC36]

/-- The reference's gates. -/
def refC37 (Z : FVec Ideal S32x1x5664 .f32) : FVec Ideal S32x24 .f32 :=
  shapeCast _ (extractStridedSlice S32x1x24 ![0, 0, 2560] Z slices_S32x1x5664_S32x1x24_0_0_2560) shapeCasts_S32x1x24_S32x24

/-- The reference's gates, by element. -/
theorem refC37_at (Z : FVec Ideal S32x1x5664 .f32) (b : Fin 32) (n : Fin 24) : refC37 Z (ix2 b n) = Z (ix3 b 0 ⟨2560 + n.val, by omega⟩) := by
  pointwise [refC37]

/-- The reference's forget gates. -/
def refC38 (Z : FVec Ideal S32x1x5664 .f32) : FVec Ideal S32x8 .f32 :=
  shapeCast _ (extractStridedSlice S32x1x8 ![0, 0, 5656] Z slices_S32x1x5664_S32x1x8_0_0_5656) shapeCasts_S32x1x8_S32x8

/-- The reference's forget gates, by element. -/
theorem refC38_at (Z : FVec Ideal S32x1x5664 .f32) (b : Fin 32) (n : Fin 8) : refC38 Z (ix2 b n) = Z (ix3 b 0 ⟨5656 + n.val, by omega⟩) := by
  pointwise [refC38]

end Cert.InEvenSRefIdeal.Proj

end
end
-- ==== Proof.FfnDownSArr.lean ====
module

public import proofs.«01_k».proof.Proof.Norm
public import proofs.«01_k».proof.Proof.Gen.FfnDownSIdeal.Skeleton
public import proofs.«01_k».proof.Proof.Gen.FfnDownSIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownSIdeal.Ffn

open Cert.FfnDownSIdeal Cert.FfnDownSIdeal.Gen Cert.Norm

/-- The residual payload, by element. -/
theorem pay2_at (a : FVec Ideal S32x5632 .bf16) (w : FVec Ideal S5632x2048 .bf16) (h : FVec Ideal S32x2048 .f32) (g : FVec Ideal S1x2048 .f32)
    (r : Fin 32) (n : Fin 2048) :
    k0_pay2 (F := Ideal) a w h g (ix2 r n) = post (fun k => h (ix2 r k)) (fun k => ∑ f : Fin 5632, a (ix2 r f) * w (ix2 f k)) (fun k => g (ix2 0 k)) n := by
  pointwise [k0_pay2]
  rfl

/-- The embedding's payload, by element. -/
theorem pay3_at (p : FVec Ideal S32x256 .f32) (w : FVec Ideal S256x2048 .bf16) (r : Fin 32) (n : Fin 2048) :
    k0_pay3 (F := Ideal) p w (ix2 r n) = ∑ k : Fin 256, p (ix2 r k) * w (ix2 k n) := by
  pointwise [k0_pay3]

/-- The gate's payload, by element. -/
theorem pay4_at (a : FVec Ideal S32x5632 .bf16) (w : FVec Ideal S5632x2048 .bf16) (h : FVec Ideal S32x2048 .f32) (g : FVec Ideal S1x2048 .f32)
    (v : FVec Ideal S2048x2048 .bf16) (r : Fin 32) (n : Fin 2048) :
    k0_pay4 (F := Ideal) a w h g v (ix2 r n) = ∑ k : Fin 2048, k0_pay2 (F := Ideal) a w h g (ix2 r k) * v (ix2 k n) := by
  pointwise [k0_pay4]

/-- The embedding norm's weight payload, by element. -/
theorem pay5_at (g : FVec Ideal S1x2048 .f32) (n : Fin 2048) : k0_pay5 (F := Ideal) g (ix2 0 n) = g (ix2 0 n) := by
  pointwise [k0_pay5]

/-- The sum of squares payload, by element. -/
theorem pay6_at (p : FVec Ideal S32x256 .f32) (w : FVec Ideal S256x2048 .bf16) (r : Fin 32) :
    k0_pay6 (F := Ideal) p w (ix2 r 0) = ∑ k : Fin 2048, k0_pay3 (F := Ideal) p w (ix2 r k) * k0_pay3 (F := Ideal) p w (ix2 r k) := by
  pointwise [k0_pay6]

/-- The final payload, by element, once its row sum is that of its row. -/
theorem pay1_at (h y z : FVec Ideal S32x2048 .f32) (g : FVec Ideal S1x2048 .f32) (s : FVec Ideal S32x1 .f32) (r : Fin 32) (n : Fin 2048)
    (hs : s (ix2 r 0) = ∑ k : Fin 2048, y (ix2 r k) * y (ix2 r k)) :
    k0_pay1 (F := Ideal) h y z g s (Scalar.ofBits .f32 0x45000000#32) (ix2 r n)
      = h (ix2 r n) + nrm (fun k => y (ix2 r k)) (fun k => g (ix2 0 k)) n * Ideal.logistic (z (ix2 r n)) := by
  pointwise [k0_pay1]
  rw [hs]
  rfl

/-- The stored block, by element. -/
theorem out_at (a : FVec Ideal S32x5632 .bf16) (w : FVec Ideal S5632x2048 .bf16) (g3 : FVec Ideal S1x2048 .f32) (h : FVec Ideal S32x2048 .f32)
    (p : FVec Ideal S32x256 .f32) (wp : FVec Ideal S256x2048 .bf16) (v : FVec Ideal S2048x2048 .bf16) (g4 : FVec Ideal S1x2048 .f32) (r : Fin 32) (n : Fin 2048) :
    out0_8 (F := Ideal) a w g3 h p wp v g4 (ix2 r n)
      = gated (post (fun k => h (ix2 r k)) (fun k => ∑ f : Fin 5632, a (ix2 r f) * w (ix2 f k)) (fun k => g3 (ix2 0 k)))
          (fun n => ∑ k : Fin 256, p (ix2 r k) * wp (ix2 k n)) (fun k => g4 (ix2 0 k)) (fun j k => v (ix2 j k)) n := by
  frame_out
  rw [pay1_at _ _ _ _ _ r n (pay6_at p wp r), pay2_at, pay4_at]
  simp only [pay2_at, pay3_at, pay5_at]
  rfl

variable (m : (ℓ : Loc nD τ sig) → Buf (Elt Ideal) ℓ)

/-- Which block of its array each window holds at a point. -/
theorem idx : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The activations after the feed-forward part's residual. -/
def hid (A : FVec Ideal S32x5632 .bf16) (H : FVec Ideal S32x2048 .f32) (G : FVec Ideal S2x5x2048 .f32) (W : FVec Ideal S2x5632x2048 .f32)
    (r : Fin 32) : Fin 2048 → EReal :=
  post (fun k => H (ix2 r k)) (fun k => ∑ f : Fin 5632, A (ix2 r f) * W (ix3 1 f k)) fun k => G (ix3 1 3 k)

/-- The projection of the layer's embedding. -/
def emb (Q : FVec Ideal S2x32x1x256 .f32) (W : FVec Ideal S2x256x2048 .f32) (r : Fin 32) (n : Fin 2048) : EReal :=
  ∑ k : Fin 256, Q (ix4 1 r 0 k) * W (ix3 1 k n)

/-- The layer's output. -/
def unit (A : FVec Ideal S32x5632 .bf16) (H : FVec Ideal S32x2048 .f32) (Q : FVec Ideal S2x32x1x256 .f32) (G : FVec Ideal S2x5x2048 .f32)
    (W : FVec Ideal S2x5632x2048 .f32) (E : FVec Ideal S2x256x2048 .f32) (V : FVec Ideal S2x2048x2048 .f32) (r : Fin 32) (n : Fin 2048) : EReal :=
  gated (hid A H G W r) (emb Q E r) (fun k => G (ix3 1 4 k)) (fun j k => V (ix3 1 j k)) n

/-- What a point leaves in the output block. -/
theorem point (c : Dev nD) (t : Fin cfg0.N) (r : Fin 32) (n : Fin 2048) :
    out0_8 (F := Ideal) (iblk m c 0 t) (iblk m c 1 t) (iblk m c 2 t) (iblk m c 3 t) (iblk m c 4 t) (iblk m c 5 t) (iblk m c 6 t) (iblk m c 7 t) (ix2 r n)
      = unit (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) r n := by
  refine (out_at _ _ _ _ _ _ _ _ r n).trans ?_
  rw [unit]
  congr 1
  · rw [hid]
    congr 1
    · funext k; blk_point [iblk, V, idx t]
    · funext k
      refine Finset.sum_congr rfl fun f _ => ?_
      congr 1
      · blk_point [iblk, V, idx t]
      · blk_point [iblk, V, idx t]
    · funext k; blk_point [iblk, V, idx t]
  · funext k
    rw [emb]
    refine Finset.sum_congr rfl fun f _ => ?_
    congr 1
    · blk_point [iblk, V, idx t]
    · blk_point [iblk, V, idx t]
  · funext k; blk_point [iblk, V, idx t]
  · funext j k; blk_point [iblk, V, idx t]

/-- The output array after the run. -/
theorem final (c : Dev nD) : (dats m 0 c).arrAt 8 cfg0.N = fun i : S32x2048.Idx =>
    unit (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (i 0) (i 1) := by
  refine (dats m 0 c).arrAt_eq_of_covers 8 _ (by decide +kernel) fun t hf y => ?_
  blk_simp
  rw [after0_8]
  obtain ⟨r, n, rfl⟩ : ∃ (r : Fin 32) (n : Fin 2048), y = ix2 r n := ⟨y 0, y 1, by blk_ext⟩
  refine (point m c t r n).trans ?_
  congr 1 <;> apply Fin.ext <;> blk_simp [idx t]
  all_goals first | rfl | (dsimp only; omega)

end Cert.FfnDownSIdeal.Ffn

end
end
-- ==== Proof.FfnDownSRef.lean ====
module

public import proofs.«01_k».proof.Proof.Norm
public import proofs.«01_k».proof.Proof.Gen.FfnDownSRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownSRefIdeal.Ffn

open Cert.FfnDownSRefIdeal Cert.FfnDownSRefIdeal.Gen Cert.FfnDownSRefIdeal.Value Cert.Norm

/-- The reference's down-projection. -/
def refD (A : FVec Ideal S32x5632 .bf16) (W : FVec Ideal S2x5632x2048 .f32) : FVec Ideal S32x2048 .f32 :=
  Host.dotGeneral dot_S32x5632_S5632x2048_S32x2048_1_0_0_1_n_n none (extf .f32 A bitsLt_bf16_f32) (shapeCast _ (extractStridedSlice S1x5632x2048 ![1, 0, 0] W slices_S2x5632x2048_S1x5632x2048_1_0_0) shapeCasts_S1x5632x2048_S5632x2048)

/-- The reference's projection of the layer's embedding. -/
def refE (Q : FVec Ideal S2x32x1x256 .f32) (W : FVec Ideal S2x256x2048 .f32) : FVec Ideal S32x2048 .f32 :=
  Host.dotGeneral dot_S32x256_S256x2048_S32x2048_1_0_0_1_n_n none (shapeCast _ (shapeCast _ (extractStridedSlice S1x32x1x256 ![1, 0, 0, 0] Q slices_S2x32x1x256_S1x32x1x256_1_0_0_0) shapeCasts_S1x32x1x256_S32x1x256) shapeCasts_S32x1x256_S32x256) (shapeCast _ (extractStridedSlice S1x256x2048 ![1, 0, 0] W slices_S2x256x2048_S1x256x2048_1_0_0) shapeCasts_S1x256x2048_S256x2048)

/-- The reference's normalization with a weight. -/
def refN (Y : FVec Ideal S32x2048 .f32) (g : FVec Ideal S2048 .f32) : FVec Ideal S32x2048 .f32 :=
  mulf (mulf Y (broadcastInDim S32x2048 ![0, 1] bcast_S32x1_S32x2048_0_1 (Host.rsqrt (addf (Host.divf (broadcastInDim S32x1 ![0] bcast_S32_S32x1_0 (Host.reduceAdd (mulf Y Y) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 g))

/-- The weight of the norm after the feed-forward part. -/
def refG3 (G : FVec Ideal S2x5x2048 .f32) : FVec Ideal S2048 .f32 := (shapeCast _ (extractStridedSlice S1x2048 ![3, 0] (shapeCast _ (extractStridedSlice S1x5x2048 ![1, 0, 0] G slices_S2x5x2048_S1x5x2048_1_0_0) shapeCasts_S1x5x2048_S5x2048) slices_S5x2048_S1x2048_3_0) shapeCasts_S1x2048_S2048)

/-- The weight of the embedding's norm. -/
def refG4 (G : FVec Ideal S2x5x2048 .f32) : FVec Ideal S2048 .f32 := (shapeCast _ (extractStridedSlice S1x2048 ![4, 0] (shapeCast _ (extractStridedSlice S1x5x2048 ![1, 0, 0] G slices_S2x5x2048_S1x5x2048_1_0_0) shapeCasts_S1x5x2048_S5x2048) slices_S5x2048_S1x2048_4_0) shapeCasts_S1x2048_S2048)

/-- The reference's gate: the sigmoid of a product with the activations. -/
def refS (H : FVec Ideal S32x2048 .f32) (W : FVec Ideal S2x2048x2048 .f32) : FVec Ideal S32x2048 .f32 :=
  Host.divf (broadcastInDim S32x2048 ![] bcast_S_S32x2048 (constant S_ .f32 0x3F800000#32)) (addf (broadcastInDim S32x2048 ![] bcast_S_S32x2048 (constant S_ .f32 0x3F800000#32)) (Host.exp (Host.negf (Host.dotGeneral dot_S32x2048_S2048x2048_S32x2048_1_0_0_1_n_n none H (shapeCast _ (extractStridedSlice S1x2048x2048 ![1, 0, 0] W slices_S2x2048x2048_S1x2048x2048_1_0_0) shapeCasts_S1x2048x2048_S2048x2048)))))

/-- The activations after the feed-forward part's residual. -/
def refH (A : FVec Ideal S32x5632 .bf16) (H : FVec Ideal S32x2048 .f32) (G : FVec Ideal S2x5x2048 .f32) (W : FVec Ideal S2x5632x2048 .f32) : FVec Ideal S32x2048 .f32 :=
  addf H (refN (refD A W) (refG3 G))

/-- The reference's result. -/
def refO (H : FVec Ideal S32x2048 .f32) (E : FVec Ideal S32x2048 .f32) (G : FVec Ideal S2x5x2048 .f32) (W : FVec Ideal S2x2048x2048 .f32) : FVec Ideal S32x2048 .f32 :=
  addf H (mulf (refN E (refG4 G)) (refS H W))

/-- The reference's result is these steps. -/
theorem res_eq (m : (ℓ : Loc nD τ sig) → Buf (Elt Ideal) ℓ) (c : Dev nD) :
    (res_main_v53 m c : FVec Ideal S32x2048 .f32) = refO
      (refH (m ((c.tc : Thread nD τ).loc main_arg0)) (m ((c.tc : Thread nD τ).loc main_arg1)) (m ((c.tc : Thread nD τ).loc main_arg3)) (m ((c.tc : Thread nD τ).loc main_arg4)))
      (refE (m ((c.tc : Thread nD τ).loc main_arg2)) (m ((c.tc : Thread nD τ).loc main_arg5)))
      (m ((c.tc : Thread nD τ).loc main_arg3)) (m ((c.tc : Thread nD τ).loc main_arg6)) := rfl

/-- The down-projection, by element. -/
theorem refD_at (A : FVec Ideal S32x5632 .bf16) (W : FVec Ideal S2x5632x2048 .f32) (r : Fin 32) (n : Fin 2048) :
    refD A W (ix2 r n) = ∑ f : Fin 5632, A (ix2 r f) * W (ix3 1 f n) := by
  pointwise [refD]

/-- The embedding's projection, by element. -/
theorem refE_at (Q : FVec Ideal S2x32x1x256 .f32) (W : FVec Ideal S2x256x2048 .f32) (r : Fin 32) (n : Fin 2048) :
    refE Q W (ix2 r n) = ∑ k : Fin 256, Q (ix4 1 r 0 k) * W (ix3 1 k n) := by
  pointwise [refE]

/-- The normalization, by element. -/
theorem refN_at (Y : FVec Ideal S32x2048 .f32) (g : FVec Ideal S2048 .f32) (r : Fin 32) (n : Fin 2048) :
    refN Y g (ix2 r n) = nrm (fun k => Y (ix2 r k)) (fun k => g (ix1 k)) n := by
  pointwise [refN]
  rfl

/-- The weight of the norm after the feed-forward part, by element. -/
theorem refG3_at (G : FVec Ideal S2x5x2048 .f32) (n : Fin 2048) : refG3 G (ix1 n) = G (ix3 1 3 n) := by
  pointwise [refG3]

/-- The weight of the embedding's norm, by element. -/
theorem refG4_at (G : FVec Ideal S2x5x2048 .f32) (n : Fin 2048) : refG4 G (ix1 n) = G (ix3 1 4 n) := by
  pointwise [refG4]

/-- The gate, by element. -/
theorem refS_at (H : FVec Ideal S32x2048 .f32) (W : FVec Ideal S2x2048x2048 .f32) (r : Fin 32) (n : Fin 2048) :
    refS H W (ix2 r n) = Ideal.logistic (∑ k : Fin 2048, H (ix2 r k) * W (ix3 1 k n)) := by
  pointwise [refS]
  rfl

/-- The activations after the residual, by element. -/
theorem refH_at (A : FVec Ideal S32x5632 .bf16) (H : FVec Ideal S32x2048 .f32) (G : FVec Ideal S2x5x2048 .f32) (W : FVec Ideal S2x5632x2048 .f32)
    (r : Fin 32) (n : Fin 2048) :
    refH A H G W (ix2 r n) = post (fun k => H (ix2 r k)) (fun k => ∑ f : Fin 5632, A (ix2 r f) * W (ix3 1 f k)) (fun k => G (ix3 1 3 k)) n := by
  show H (ix2 r n) + refN (refD A W) (refG3 G) (ix2 r n) = _
  rw [refN_at]
  simp only [refD_at, refG3_at]
  rfl

/-- The result, by element. -/
theorem refO_at (H : FVec Ideal S32x2048 .f32) (E : FVec Ideal S32x2048 .f32) (G : FVec Ideal S2x5x2048 .f32) (W : FVec Ideal S2x2048x2048 .f32)
    (r : Fin 32) (n : Fin 2048) :
    refO H E G W (ix2 r n) = gated (fun k => H (ix2 r k)) (fun k => E (ix2 r k)) (fun k => G (ix3 1 4 k)) (fun j k => W (ix3 1 j k)) n := by
  show H (ix2 r n) + refN E (refG4 G) (ix2 r n) * refS H W (ix2 r n) = _
  rw [refN_at, refS_at]
  simp only [refG4_at]
  rfl

end Cert.FfnDownSRefIdeal.Ffn

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenRefIdeal
public import proofs.«01_k».proof.Proof.Gen.InEvenRefIdeal.Run
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenRefIdeal
public import proofs.«01_k».proof.Proof.Gen.OutEvenRefIdeal.Run
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddRefIdeal
public import proofs.«01_k».proof.Proof.Gen.OutOddRefIdeal.Run
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddRefIdeal
public import proofs.«01_k».proof.Proof.Gen.InOddRefIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.GatesRefIdeal.Run
public import proofs.«01_k».proof.Proof.Gen.InEvenS
public import proofs.«01_k».proof.Proof.Gen.InEvenS.Skeleton
public import proofs.«01_k».proof.Proof.Gen.InEvenS.Launch
public import proofs.«01_k».proof.Proof.Gen.InEvenS.Points
public import proofs.«01_k».proof.Proof.Gen.InEvenS.Frame
public import proofs.«01_k».proof.Proof.Gen.InEvenSIdeal
public import proofs.«01_k».proof.Proof.Gen.InEvenSIdeal.Skeleton
public import proofs.«01_k».proof.Proof.Gen.InEvenSIdeal.Launch
public import proofs.«01_k».proof.Proof.Gen.InEvenSIdeal.Points
public import proofs.«01_k».proof.Proof.Gen.InEvenSIdeal.Frame
public import proofs.«01_k».proof.Proof.Gen.InEvenSRefIdeal
public import proofs.«01_k».proof.Proof.Gen.InEvenSRefIdeal.Run
public import proofs.«01_k».proof.Proof.Gen.FfnDownS
public import proofs.«01_k».proof.Proof.Gen.FfnDownS.Skeleton
public import proofs.«01_k».proof.Proof.Gen.FfnDownS.Launch
public import proofs.«01_k».proof.Proof.Gen.FfnDownS.Points
public import proofs.«01_k».proof.Proof.Gen.FfnDownS.Frame
public import proofs.«01_k».proof.Proof.Gen.FfnDownSIdeal
public import proofs.«01_k».proof.Proof.Gen.FfnDownSIdeal.Skeleton
public import proofs.«01_k».proof.Proof.Gen.FfnDownSIdeal.Launch
public import proofs.«01_k».proof.Proof.Gen.FfnDownSIdeal.Points
public import proofs.«01_k».proof.Proof.Gen.FfnDownSIdeal.Frame
public import proofs.«01_k».proof.Proof.Gen.FfnDownSIdeal.Value
public import proofs.«01_k».proof.Proof.Gen.FfnDownSRefIdeal
public import proofs.«01_k».proof.Proof.Gen.FfnDownSRefIdeal.Run
public import proofs.«01_k».proof.Proof.FoxRef
public import proofs.«01_k».proof.Proof.OutEvenArr
public import proofs.«01_k».proof.Proof.OutEvenRef
public import proofs.«01_k».proof.Proof.OutOddArr
public import proofs.«01_k».proof.Proof.OutOddRef
public import proofs.«01_k».proof.Proof.InOddArr
public import proofs.«01_k».proof.Proof.InOddRef
public import proofs.«01_k».proof.Proof.GatesArr
public import proofs.«01_k».proof.Proof.GatesRef
public import proofs.«01_k».proof.Proof.SwigluArr
public import proofs.«01_k».proof.Proof.SwigluRef
public import proofs.«01_k».proof.Proof.FfnDownArr
public import proofs.«01_k».proof.Proof.FfnDownRef
public import proofs.«01_k».proof.Proof.InEvenArr
public import proofs.«01_k».proof.Proof.InEvenRef
public import proofs.«01_k».proof.Proof.InEvenSArr
public import proofs.«01_k».proof.Proof.InEvenSRef
public import proofs.«01_k».proof.Proof.FfnDownSArr
public import proofs.«01_k».proof.Proof.FfnDownSRef
public import Idealize.ShloMosaic.Adequacy
public import Idealize.ShloMosaic.Init
public import Idealize.ShloMosaic.Lib.Claim

@[expose] public section

noncomputable section

namespace Cert.Proof

open Idealize.ShloMosaic Idealize.SL.Sem

/-- The attention kernel runs and leaves its arguments alone. -/
theorem fox_kernel : Cert.quiescent_Kernel := fun m g _ => Cert.Kernel.Gen.frame m g

/-- So does its idealization. -/
theorem fox_ideal : Cert.quiescent_KernelIdeal := fun m g _ => Cert.KernelIdeal.Gen.frame m g

/-- So does its idealization from finite arguments. -/
theorem fox_ideal_pre : Cert.quiescent_KernelIdeal_pre_finite := fun m g _ => Cert.KernelIdeal.Gen.frame m g

/-- The attention reference runs and leaves its arguments alone. -/
theorem fox_ref : Cert.quiescent_ReferenceIdeal := by
  intro m g _
  exact (θ_run _ _ _).mono (fun r h => ⟨fun c => (h c).2, sem_eq_zero_of_no_sems (by decide) _⟩) (Cert.ReferenceIdeal.Value.run m g)

/-- So it does from finite arguments. -/
theorem fox_ref_pre : Cert.quiescent_ReferenceIdeal_pre_finite := fun m g _ => fox_ref m g trivial

/-- The named constants of the attention kernel. -/
theorem fox_preserves : Cert.preserves_Kernel_KernelIdeal :=
  ⟨IdealRules.named_const.statement Cert.KernelIdeal.κ "mask" .f32 0xF149F2CA#32 _ rfl,
    IdealRules.named_const.statement Cert.KernelIdeal.κ "log2e" .f32 0x3FB8AA3B#32 _ rfl,
    IdealRules.named_const.statement Cert.KernelIdeal.κ "qscale" .f32 0x3E0293EE#32 _ rfl⟩

/-- The attention kernel computes the attention's mathematics. -/
theorem fox_algebraic : Cert.algebraic_KernelIdeal_ReferenceIdeal_pre_finite := by
  pair_intro
  · run_from Cert.KernelIdeal.Gen.run_main m g
  · run_from Cert.ReferenceIdeal.Value.run m' g'
    obtain ⟨⟨z, hz⟩, f, hf⟩ := Cert.ReferenceIdeal.Fox.pre_reals _ _ (hpre c)
    rw [Cert.KernelIdeal.Fox.final m c z f hz hf]
    refine (Cert.ReferenceIdeal.Fox.res_eq m' c).trans ?_
    rw [(hagree c).1, (hagree c).2]
    funext i
    obtain ⟨b, q, n, rfl⟩ : ∃ (b : Fin 4) (q : Fin 2048) (n : Fin 1024), i = ix3 b q n := ⟨i 0, i 1, i 2, by blk_ext⟩
    exact Cert.ReferenceIdeal.Fox.ref_at _ _ z f hz hf b q n

/-- The gated-unit kernel runs and leaves its arguments alone. -/
theorem swiglu_kernel : Cert.quiescent_Swiglu := fun m g _ => Cert.Swiglu.Gen.frame m g

/-- So does its idealization. -/
theorem swiglu_ideal : Cert.quiescent_SwigluIdeal := fun m g _ => Cert.SwigluIdeal.Gen.frame m g

/-- The gated-unit reference runs and leaves its arguments alone. -/
theorem swiglu_ref : Cert.quiescent_SwigluRefIdeal := by
  intro m g _
  exact (θ_run _ _ _).mono (fun r h => ⟨fun c => (h c).2, sem_eq_zero_of_no_sems (by decide) _⟩) (Cert.SwigluRefIdeal.Value.run m g)

/-- The gated-unit kernel is idealized with no rewriting. -/
theorem swiglu_preserves : Cert.preserves_Swiglu_SwigluIdeal := trivial

/-- The gated-unit kernel computes the unit's mathematics. -/
theorem swiglu_algebraic : Cert.algebraic_SwigluIdeal_SwigluRefIdeal := by
  pair_intro
  · run_from Cert.SwigluIdeal.Gen.run_main m g
  · run_from Cert.SwigluRefIdeal.Value.run m' g'
    rw [Cert.SwigluIdeal.Ffn.final m c]
    refine Eq.trans (b := Cert.SwigluRefIdeal.Ffn.refU (Cert.SwigluRefIdeal.Ffn.refP (Cert.SwigluRefIdeal.Ffn.refN _ _) _)) rfl ?_
    funext i
    obtain ⟨r, n, rfl⟩ : ∃ (r : Fin 8192) (n : Fin 5632), i = ix2 r n := ⟨i 0, i 1, by blk_ext⟩
    exact Cert.SwigluRefIdeal.Ffn.ref_at _ _ _ r n

/-- The down-projection kernel runs and leaves its arguments alone. -/
theorem down_kernel : Cert.quiescent_FfnDown := fun m g _ => Cert.FfnDown.Gen.frame m g

/-- So does its idealization. -/
theorem down_ideal : Cert.quiescent_FfnDownIdeal := fun m g _ => Cert.FfnDownIdeal.Gen.frame m g

/-- The down-projection reference runs and leaves its arguments alone. -/
theorem down_ref : Cert.quiescent_FfnDownRefIdeal := by
  intro m g _
  exact (θ_run _ _ _).mono (fun r h => ⟨fun c => (h c).2, sem_eq_zero_of_no_sems (by decide) _⟩) (Cert.FfnDownRefIdeal.Value.run m g)

/-- The down-projection kernel is idealized with no rewriting. -/
theorem down_preserves : Cert.preserves_FfnDown_FfnDownIdeal := trivial

/-- The down-projection kernel computes the layer's output. -/
theorem down_algebraic : Cert.algebraic_FfnDownIdeal_FfnDownRefIdeal := by
  pair_intro
  · run_from Cert.FfnDownIdeal.Gen.run_main m g
  · run_from Cert.FfnDownRefIdeal.Value.run m' g'
    rw [Cert.FfnDownIdeal.Ffn.final m c]
    refine (Cert.FfnDownRefIdeal.Ffn.res_eq m' c).trans ?_
    obtain ⟨h0, h1, h2, h3, h4, h5, h6⟩ := hagree c
    rw [h0, h1, h2, h3, h4, h5, h6]
    funext i
    obtain ⟨r, n, rfl⟩ : ∃ (r : Fin 8192) (n : Fin 2048), i = ix2 r n := ⟨i 0, i 1, by blk_ext⟩
    rw [Cert.FfnDownRefIdeal.Ffn.refO_at]
    simp only [Cert.FfnDownRefIdeal.Ffn.refH_at, Cert.FfnDownRefIdeal.Ffn.refE_at]
    rfl

/-- The in-projection kernel runs and leaves its arguments alone. -/
theorem even_kernel : Cert.quiescent_InEven := fun m g _ => Cert.InEven.Gen.frame m g

/-- So does its idealization. -/
theorem even_ideal : Cert.quiescent_InEvenIdeal := fun m g _ => Cert.InEvenIdeal.Gen.frame m g

/-- The in-projection reference runs and leaves its arguments alone. -/
theorem even_ref : Cert.quiescent_InEvenRefIdeal := by
  intro m g _
  exact (θ_run _ _ _).mono (fun r h => ⟨fun c => (h c).2.2.2.2.2.2.2.2, sem_eq_zero_of_no_sems (by decide) _⟩) (Cert.InEvenRefIdeal.Value.run m g)

/-- The in-projection kernel is idealized with no rewriting. -/
theorem even_preserves : Cert.preserves_InEven_InEvenIdeal := trivial

/-- The in-projection kernel computes the cache rows. -/
theorem even_algebraic : Cert.algebraic_InEvenIdeal_InEvenRefIdeal := by
  pair_intro
  · run_from Cert.InEvenIdeal.Gen.run_main m g & Cert.InEvenIdeal.Gen.unchanged m g
  · run_from Cert.InEvenRefIdeal.Value.run m' g'
    · rw [Cert.InEvenIdeal.Proj.after17 m c, Cert.InEvenIdeal.Proj.final m c]
      refine Eq.trans (b := Cert.InEvenRefIdeal.Proj.refK (Cert.InEvenRefIdeal.Proj.refZ (Cert.InEvenRefIdeal.Proj.refN _ _) _)) rfl ?_
      try rw [(hagree c).2.2]
      funext i
      obtain ⟨b, t, i, j, d, rfl⟩ : ∃ (b : Fin 4) (t : Fin 2048) (i' : Fin 4) (j : Fin 2) (d : Fin 128), i = ix5 b t i' j d :=
        ⟨i 0, i 1, i 2, i 3, i 4, by blk_ext⟩
      rw [Cert.InEvenRefIdeal.Proj.refK_at, Cert.InEvenRefIdeal.Proj.ref_at]
      refine Eq.trans ?_ (Cert.InEvenIdeal.Proj.tail17_at _ b t i j d).symm
      exact (Cert.InEvenIdeal.Proj.z_lo _ _ _ b t (by omega) ⟨1024 + (i.val * 256 + j.val * 128 + d.val), by omega⟩ (by dsimp only; omega)).symm
    · rw [Cert.InEvenIdeal.Proj.after19 m c, Cert.InEvenIdeal.Proj.final m c]
      refine Eq.trans (b := Cert.InEvenRefIdeal.Proj.refF (Cert.InEvenRefIdeal.Proj.refZ (Cert.InEvenRefIdeal.Proj.refN _ _) _)) rfl ?_
      try rw [(hagree c).2.2]
      funext i
      obtain ⟨b, t, i, j, d, rfl⟩ : ∃ (b : Fin 4) (t : Fin 2048) (i' : Fin 2) (j : Fin 8) (d : Fin 128), i = ix5 b t i' j d :=
        ⟨i 0, i 1, i 2, i 3, i 4, by blk_ext⟩
      rw [Cert.InEvenRefIdeal.Proj.refF_at, Cert.InEvenRefIdeal.Proj.ref_at]
      refine Eq.trans ?_ (Cert.InEvenIdeal.Proj.tail19_at _ b t i j d).symm
      exact (Cert.InEvenIdeal.Proj.z_hi _ _ _ b t (by omega) ⟨3584 + (i.val * 1024 + j.val * 128 + d.val), by omega⟩ (by dsimp only; omega) (by dsimp only; omega) _ (by dsimp only; omega)).symm
    · rw [Cert.InEvenIdeal.Proj.after21 m c, Cert.InEvenIdeal.Proj.final m c]
      refine Eq.trans (b := Cert.InEvenRefIdeal.Proj.refV (Cert.InEvenRefIdeal.Proj.refZ (Cert.InEvenRefIdeal.Proj.refN _ _) _)) rfl ?_
      try rw [(hagree c).2.2]
      funext i
      obtain ⟨b, t, i, j, d, rfl⟩ : ∃ (b : Fin 4) (t : Fin 512) (i' : Fin 2) (j : Fin 2) (d : Fin 128), i = ix5 b t i' j d :=
        ⟨i 0, i 1, i 2, i 3, i 4, by blk_ext⟩
      rw [Cert.InEvenRefIdeal.Proj.refV_at, Cert.InEvenRefIdeal.Proj.ref_at]
      refine Eq.trans ?_ (Cert.InEvenIdeal.Proj.tail21_at _ b t i j d).symm
      exact (Cert.InEvenIdeal.Proj.z_lo _ _ _ b ⟨1536 + t.val, by omega⟩ (by dsimp only; omega) ⟨2048 + (i.val * 256 + j.val * 128 + d.val), by omega⟩ (by dsimp only; omega)).symm
    · rw [Cert.InEvenIdeal.Proj.after22 m c, Cert.InEvenIdeal.Proj.final m c]
      refine Eq.trans (b := Cert.InEvenRefIdeal.Proj.refC22 (Cert.InEvenRefIdeal.Proj.refZ (Cert.InEvenRefIdeal.Proj.refN _ _) _)) rfl ?_
      try rw [(hagree c).2.2]
      funext i
      obtain ⟨b, t, n, rfl⟩ : ∃ (b : Fin 4) (t : Fin 2048) (n : Fin 1024), i = ix3 b t n := ⟨i 0, i 1, i 2, by blk_ext⟩
      rw [Cert.InEvenRefIdeal.Proj.refC22_at, Cert.InEvenRefIdeal.Proj.ref_at]
      refine Eq.trans ?_ (Cert.InEvenIdeal.Proj.tail22_at _ b t n).symm
      exact (Cert.InEvenIdeal.Proj.z_lo _ _ _ b t (by omega) ⟨n.val, by omega⟩ (by dsimp only; omega)).symm
    · rw [Cert.InEvenIdeal.Proj.after23 m c, Cert.InEvenIdeal.Proj.final m c]
      refine Eq.trans (b := Cert.InEvenRefIdeal.Proj.refC23 (Cert.InEvenRefIdeal.Proj.refZ (Cert.InEvenRefIdeal.Proj.refN _ _) _)) rfl ?_
      try rw [(hagree c).2.2]
      funext i
      obtain ⟨b, t, n, rfl⟩ : ∃ (b : Fin 4) (t : Fin 2048) (n : Fin 512), i = ix3 b t n := ⟨i 0, i 1, i 2, by blk_ext⟩
      rw [Cert.InEvenRefIdeal.Proj.refC23_at, Cert.InEvenRefIdeal.Proj.ref_at]
      refine Eq.trans ?_ (Cert.InEvenIdeal.Proj.tail23_at _ b t n).symm
      exact (Cert.InEvenIdeal.Proj.z_lo _ _ _ b t (by omega) ⟨2048 + n.val, by omega⟩ (by dsimp only; omega)).symm
    · rw [Cert.InEvenIdeal.Proj.after24 m c, Cert.InEvenIdeal.Proj.final m c]
      refine Eq.trans (b := Cert.InEvenRefIdeal.Proj.refC24 (Cert.InEvenRefIdeal.Proj.refZ (Cert.InEvenRefIdeal.Proj.refN _ _) _)) rfl ?_
      try rw [(hagree c).2.2]
      funext i
      obtain ⟨b, t, n, rfl⟩ : ∃ (b : Fin 4) (t : Fin 2048) (n : Fin 1024), i = ix3 b t n := ⟨i 0, i 1, i 2, by blk_ext⟩
      rw [Cert.InEvenRefIdeal.Proj.refC24_at, Cert.InEvenRefIdeal.Proj.ref_at]
      refine Eq.trans ?_ (Cert.InEvenIdeal.Proj.tail24_at _ b t n).symm
      exact (Cert.InEvenIdeal.Proj.z_hi _ _ _ b t (by omega) ⟨2560 + n.val, by omega⟩ (by dsimp only; omega) (by dsimp only; omega) _ (by dsimp only; omega)).symm
    · rw [Cert.InEvenIdeal.Proj.after25 m c, Cert.InEvenIdeal.Proj.final m c]
      refine Eq.trans (b := Cert.InEvenRefIdeal.Proj.refC25 (Cert.InEvenRefIdeal.Proj.refZ (Cert.InEvenRefIdeal.Proj.refN _ _) _)) rfl ?_
      try rw [(hagree c).2.2]
      funext i
      obtain ⟨b, t, n, rfl⟩ : ∃ (b : Fin 4) (t : Fin 2048) (n : Fin 24), i = ix3 b t n := ⟨i 0, i 1, i 2, by blk_ext⟩
      rw [Cert.InEvenRefIdeal.Proj.refC25_at, Cert.InEvenRefIdeal.Proj.ref_at]
      refine Eq.trans ?_ (Cert.InEvenIdeal.Proj.tail25_at _ b t n).symm
      exact (Cert.InEvenIdeal.Proj.z_gate _ _ _ b t (by omega) ⟨5632 + n.val, by omega⟩ (by dsimp only; omega) (by dsimp only; omega) _ (by dsimp only; omega)).symm
    · rw [Cert.InEvenIdeal.Proj.after26 m c, Cert.InEvenIdeal.Proj.final m c]
      refine Eq.trans (b := Cert.InEvenRefIdeal.Proj.refC26 (Cert.InEvenRefIdeal.Proj.refZ (Cert.InEvenRefIdeal.Proj.refN _ _) _)) rfl ?_
      try rw [(hagree c).2.2]
      funext i
      obtain ⟨b, t, n, rfl⟩ : ∃ (b : Fin 4) (t : Fin 2048) (n : Fin 8), i = ix3 b t n := ⟨i 0, i 1, i 2, by blk_ext⟩
      rw [Cert.InEvenRefIdeal.Proj.refC26_at, Cert.InEvenRefIdeal.Proj.ref_at]
      refine Eq.trans ?_ (Cert.InEvenIdeal.Proj.tail26_at _ b t n).symm
      exact (Cert.InEvenIdeal.Proj.z_forget _ _ _ b t (by omega) ⟨5656 + n.val, by omega⟩ (by dsimp only; omega) (by dsimp only; omega)).symm

/-- The sample's in-projection kernel runs and leaves its arguments alone. -/
theorem evens_kernel : Cert.quiescent_InEvenS := fun m g _ => Cert.InEvenS.Gen.frame m g

/-- So does its idealization. -/
theorem evens_ideal : Cert.quiescent_InEvenSIdeal := fun m g _ => Cert.InEvenSIdeal.Gen.frame m g

/-- The sample's in-projection reference runs and leaves its arguments alone. -/
theorem evens_ref : Cert.quiescent_InEvenSRefIdeal := by
  intro m g _
  exact (θ_run _ _ _).mono (fun r h => ⟨fun c => (h c).2.2.2.2.2.2.2, sem_eq_zero_of_no_sems (by decide) _⟩) (Cert.InEvenSRefIdeal.Value.run m g)

/-- The sample's in-projection kernel is idealized with no rewriting. -/
theorem evens_preserves : Cert.preserves_InEvenS_InEvenSIdeal := trivial

/-- The sample's in-projection kernel computes the sample's rows. -/
theorem evens_algebraic : Cert.algebraic_InEvenSIdeal_InEvenSRefIdeal := by
  pair_intro
  · run_from Cert.InEvenSIdeal.Gen.run_main m g & Cert.InEvenSIdeal.Gen.unchanged m g
  · run_from Cert.InEvenSRefIdeal.Value.run m' g'
    · rw [Cert.InEvenSIdeal.Proj.after16 m c, Cert.InEvenSIdeal.Proj.final m c]
      refine Eq.trans (b := Cert.InEvenSRefIdeal.Proj.refK (Cert.InEvenSRefIdeal.Proj.refZ (Cert.InEvenSRefIdeal.Proj.refN _ _) _)) rfl ?_
      try rw [(hagree c).2.2]
      funext i
      obtain ⟨b, t, i, j, d, rfl⟩ : ∃ (b : Fin 32) (t : Fin 1) (i' : Fin 4) (j : Fin 2) (d : Fin 128), i = ix5 b t i' j d :=
        ⟨i 0, i 1, i 2, i 3, i 4, by blk_ext⟩
      obtain rfl : t = 0 := Subsingleton.elim _ _
      rw [Cert.InEvenSRefIdeal.Proj.refK_at, Cert.InEvenSRefIdeal.Proj.ref_at]
      refine Eq.trans ?_ (Cert.InEvenSIdeal.Proj.tail16_at _ b i j d).symm
      exact (Cert.InEvenSIdeal.Proj.z_lo _ _ _ b ⟨1024 + (i.val * 256 + j.val * 128 + d.val), by omega⟩ (by dsimp only; omega)).symm
    · rw [Cert.InEvenSIdeal.Proj.after18 m c, Cert.InEvenSIdeal.Proj.final m c]
      refine Eq.trans (b := Cert.InEvenSRefIdeal.Proj.refF (Cert.InEvenSRefIdeal.Proj.refZ (Cert.InEvenSRefIdeal.Proj.refN _ _) _)) rfl ?_
      try rw [(hagree c).2.2]
      funext i
      obtain ⟨b, t, i, j, d, rfl⟩ : ∃ (b : Fin 32) (t : Fin 1) (i' : Fin 2) (j : Fin 8) (d : Fin 128), i = ix5 b t i' j d :=
        ⟨i 0, i 1, i 2, i 3, i 4, by blk_ext⟩
      obtain rfl : t = 0 := Subsingleton.elim _ _
      rw [Cert.InEvenSRefIdeal.Proj.refF_at, Cert.InEvenSRefIdeal.Proj.ref_at]
      refine Eq.trans ?_ (Cert.InEvenSIdeal.Proj.tail18_at _ b i j d).symm
      exact (Cert.InEvenSIdeal.Proj.z_hi _ _ _ b ⟨3584 + (i.val * 1024 + j.val * 128 + d.val), by omega⟩ (by dsimp only; omega) (by dsimp only; omega) _ (by dsimp only; omega)).symm
    · rw [Cert.InEvenSIdeal.Proj.after19 m c, Cert.InEvenSIdeal.Proj.final m c]
      refine Eq.trans (b := Cert.InEvenSRefIdeal.Proj.refC33 (Cert.InEvenSRefIdeal.Proj.refZ (Cert.InEvenSRefIdeal.Proj.refN _ _) _)) rfl ?_
      try rw [(hagree c).2.2]
      funext i
      obtain ⟨b, n, rfl⟩ : ∃ (b : Fin 32) (n : Fin 1024), i = ix2 b n := ⟨i 0, i 1, by blk_ext⟩
      rw [Cert.InEvenSRefIdeal.Proj.refC33_at, Cert.InEvenSRefIdeal.Proj.ref_at]
      refine Eq.trans ?_ (Cert.InEvenSIdeal.Proj.tail19_at _ b n).symm
      exact (Cert.InEvenSIdeal.Proj.z_lo _ _ _ b ⟨n.val, by omega⟩ (by dsimp only; omega)).symm
    · rw [Cert.InEvenSIdeal.Proj.after20 m c, Cert.InEvenSIdeal.Proj.final m c]
      refine Eq.trans (b := Cert.InEvenSRefIdeal.Proj.refC35 (Cert.InEvenSRefIdeal.Proj.refZ (Cert.InEvenSRefIdeal.Proj.refN _ _) _)) rfl ?_
      try rw [(hagree c).2.2]
      funext i
      obtain ⟨b, n, rfl⟩ : ∃ (b : Fin 32) (n : Fin 512), i = ix2 b n := ⟨i 0, i 1, by blk_ext⟩
      rw [Cert.InEvenSRefIdeal.Proj.refC35_at, Cert.InEvenSRefIdeal.Proj.ref_at]
      refine Eq.trans ?_ (Cert.InEvenSIdeal.Proj.tail20_at _ b n).symm
      exact (Cert.InEvenSIdeal.Proj.z_lo _ _ _ b ⟨2048 + n.val, by omega⟩ (by dsimp only; omega)).symm
    · rw [Cert.InEvenSIdeal.Proj.after21 m c, Cert.InEvenSIdeal.Proj.final m c]
      refine Eq.trans (b := Cert.InEvenSRefIdeal.Proj.refC36 (Cert.InEvenSRefIdeal.Proj.refZ (Cert.InEvenSRefIdeal.Proj.refN _ _) _)) rfl ?_
      try rw [(hagree c).2.2]
      funext i
      obtain ⟨b, n, rfl⟩ : ∃ (b : Fin 32) (n : Fin 1024), i = ix2 b n := ⟨i 0, i 1, by blk_ext⟩
      rw [Cert.InEvenSRefIdeal.Proj.refC36_at, Cert.InEvenSRefIdeal.Proj.ref_at]
      refine Eq.trans ?_ (Cert.InEvenSIdeal.Proj.tail21_at _ b n).symm
      exact (Cert.InEvenSIdeal.Proj.z_hi _ _ _ b ⟨2560 + n.val, by omega⟩ (by dsimp only; omega) (by dsimp only; omega) _ (by dsimp only; omega)).symm
    · rw [Cert.InEvenSIdeal.Proj.after22 m c, Cert.InEvenSIdeal.Proj.final m c]
      refine Eq.trans (b := Cert.InEvenSRefIdeal.Proj.refC37 (Cert.InEvenSRefIdeal.Proj.refZ (Cert.InEvenSRefIdeal.Proj.refN _ _) _)) rfl ?_
      try rw [(hagree c).2.2]
      funext i
      obtain ⟨b, n, rfl⟩ : ∃ (b : Fin 32) (n : Fin 24), i = ix2 b n := ⟨i 0, i 1, by blk_ext⟩
      rw [Cert.InEvenSRefIdeal.Proj.refC37_at, Cert.InEvenSRefIdeal.Proj.ref_at]
      refine Eq.trans ?_ (Cert.InEvenSIdeal.Proj.tail22_at _ b n).symm
      exact (Cert.InEvenSIdeal.Proj.z_gate _ _ _ b ⟨5632 + n.val, by omega⟩ (by dsimp only; omega) (by dsimp only; omega) _ (by dsimp only; omega)).symm
    · rw [Cert.InEvenSIdeal.Proj.after23 m c, Cert.InEvenSIdeal.Proj.final m c]
      refine Eq.trans (b := Cert.InEvenSRefIdeal.Proj.refC38 (Cert.InEvenSRefIdeal.Proj.refZ (Cert.InEvenSRefIdeal.Proj.refN _ _) _)) rfl ?_
      try rw [(hagree c).2.2]
      funext i
      obtain ⟨b, n, rfl⟩ : ∃ (b : Fin 32) (n : Fin 8), i = ix2 b n := ⟨i 0, i 1, by blk_ext⟩
      rw [Cert.InEvenSRefIdeal.Proj.refC38_at, Cert.InEvenSRefIdeal.Proj.ref_at]
      refine Eq.trans ?_ (Cert.InEvenSIdeal.Proj.tail23_at _ b n).symm
      exact (Cert.InEvenSIdeal.Proj.z_forget _ _ _ b ⟨5656 + n.val, by omega⟩ (by dsimp only; omega) (by dsimp only; omega)).symm

/-- The sample's down-projection kernel runs and leaves its arguments alone. -/
theorem downs_kernel : Cert.quiescent_FfnDownS := fun m g _ => Cert.FfnDownS.Gen.frame m g

/-- So does its idealization. -/
theorem downs_ideal : Cert.quiescent_FfnDownSIdeal := fun m g _ => Cert.FfnDownSIdeal.Gen.frame m g

/-- The sample's down-projection reference runs and leaves its arguments alone. -/
theorem downs_ref : Cert.quiescent_FfnDownSRefIdeal := by
  intro m g _
  exact (θ_run _ _ _).mono (fun r h => ⟨fun c => (h c).2, sem_eq_zero_of_no_sems (by decide) _⟩) (Cert.FfnDownSRefIdeal.Value.run m g)

/-- The sample's down-projection kernel is idealized with no rewriting. -/
theorem downs_preserves : Cert.preserves_FfnDownS_FfnDownSIdeal := trivial

/-- The sample's down-projection kernel computes the layer's output. -/
theorem downs_algebraic : Cert.algebraic_FfnDownSIdeal_FfnDownSRefIdeal := by
  pair_intro
  · run_from Cert.FfnDownSIdeal.Gen.run_main m g
  · run_from Cert.FfnDownSRefIdeal.Value.run m' g'
    rw [Cert.FfnDownSIdeal.Ffn.final m c]
    refine (Cert.FfnDownSRefIdeal.Ffn.res_eq m' c).trans ?_
    obtain ⟨h0, h1, h2, h3, h4, h5, h6⟩ := hagree c
    rw [h0, h1, h2, h3, h4, h5, h6]
    funext i
    obtain ⟨r, n, rfl⟩ : ∃ (r : Fin 32) (n : Fin 2048), i = ix2 r n := ⟨i 0, i 1, by blk_ext⟩
    rw [Cert.FfnDownSRefIdeal.Ffn.refO_at]
    simp only [Cert.FfnDownSRefIdeal.Ffn.refH_at, Cert.FfnDownSRefIdeal.Ffn.refE_at]
    rfl

/-- The even out-projection kernel runs and leaves its arguments alone. -/
theorem oute_kernel : Cert.quiescent_OutEven := fun m g _ => Cert.OutEven.Gen.frame m g

/-- So does its idealization. -/
theorem oute_ideal : Cert.quiescent_OutEvenIdeal := fun m g _ => Cert.OutEvenIdeal.Gen.frame m g

/-- The even out-projection reference runs and leaves its arguments alone. -/
theorem oute_ref : Cert.quiescent_OutEvenRefIdeal := by
  intro m g _
  exact (θ_run _ _ _).mono (fun r h => ⟨fun c => (h c).2, sem_eq_zero_of_no_sems (by decide) _⟩) (Cert.OutEvenRefIdeal.Value.run m g)

/-- The even out-projection kernel is idealized with no rewriting. -/
theorem oute_preserves : Cert.preserves_OutEven_OutEvenIdeal := trivial

/-- The even out-projection kernel computes the activations after the mixing part. -/
theorem oute_algebraic : Cert.algebraic_OutEvenIdeal_OutEvenRefIdeal := by
  pair_intro
  · run_from Cert.OutEvenIdeal.Gen.run_main m g
  · run_from Cert.OutEvenRefIdeal.Value.run m' g'
    rw [Cert.OutEvenIdeal.Proj.final m c]
    refine Eq.trans (b := Cert.OutEvenRefIdeal.Proj.refO _ _ _ _ _) rfl ?_
    funext i
    obtain ⟨r, n, rfl⟩ : ∃ (r : Fin 8192) (n : Fin 2048), i = ix2 r n := ⟨i 0, i 1, by blk_ext⟩
    exact Cert.OutEvenRefIdeal.Proj.refO_at _ _ _ _ _ r n

/-- The odd out-projection kernel runs and leaves its arguments alone. -/
theorem outo_kernel : Cert.quiescent_OutOdd := fun m g _ => Cert.OutOdd.Gen.frame m g

/-- So does its idealization. -/
theorem outo_ideal : Cert.quiescent_OutOddIdeal := fun m g _ => Cert.OutOddIdeal.Gen.frame m g

/-- The odd out-projection reference runs and leaves its arguments alone. -/
theorem outo_ref : Cert.quiescent_OutOddRefIdeal := by
  intro m g _
  exact (θ_run _ _ _).mono (fun r h => ⟨fun c => (h c).2, sem_eq_zero_of_no_sems (by decide) _⟩) (Cert.OutOddRefIdeal.Value.run m g)

/-- The odd out-projection kernel is idealized with no rewriting. -/
theorem outo_preserves : Cert.preserves_OutOdd_OutOddIdeal := trivial

/-- The odd out-projection kernel computes the activations after the mixing part. -/
theorem outo_algebraic : Cert.algebraic_OutOddIdeal_OutOddRefIdeal := by
  pair_intro
  · run_from Cert.OutOddIdeal.Gen.run_main m g
  · run_from Cert.OutOddRefIdeal.Value.run m' g'
    rw [Cert.OutOddIdeal.Proj.final m c]
    refine Eq.trans (b := Cert.OutOddRefIdeal.Proj.refO _ _ _ _) rfl ?_
    funext i
    obtain ⟨r, n, rfl⟩ : ∃ (r : Fin 8192) (n : Fin 2048), i = ix2 r n := ⟨i 0, i 1, by blk_ext⟩
    exact Cert.OutOddRefIdeal.Proj.refO_at _ _ _ _ r n

/-- The odd in-projection kernel runs and leaves its arguments alone. -/
theorem odd_kernel : Cert.quiescent_InOdd := fun m g _ => Cert.InOdd.Gen.frame m g

/-- So does its idealization. -/
theorem odd_ideal : Cert.quiescent_InOddIdeal := fun m g _ => Cert.InOddIdeal.Gen.frame m g

/-- The odd in-projection reference runs and leaves its arguments alone. -/
theorem odd_ref : Cert.quiescent_InOddRefIdeal := by
  intro m g _
  exact (θ_run _ _ _).mono (fun r h => ⟨fun c => (h c).2.2.2.2, sem_eq_zero_of_no_sems (by decide) _⟩) (Cert.InOddRefIdeal.Value.run m g)

/-- The odd in-projection kernel is idealized with no rewriting. -/
theorem odd_preserves : Cert.preserves_InOdd_InOddIdeal := trivial

/-- The odd in-projection kernel computes the queries, the keys and the values. -/
theorem odd_algebraic : Cert.algebraic_InOddIdeal_InOddRefIdeal := by
  pair_intro
  · run_from Cert.InOddIdeal.Gen.run_main m g & Cert.InOddIdeal.Gen.unchanged m g
  · run_from Cert.InOddRefIdeal.Value.run m' g'
    · rw [Cert.InOddIdeal.Proj.after22 m c, Cert.InOddIdeal.Proj.final m c]
      refine Eq.trans (b := Cert.InOddRefIdeal.Proj.refW (Cert.InOddRefIdeal.Proj.refZ (Cert.InOddRefIdeal.Proj.refN _ _) _)) rfl ?_
      try rw [(hagree c).2.2]
      funext i
      obtain ⟨b, t, i, j, d, rfl⟩ : ∃ (b : Fin 4) (t : Fin 128) (i' : Fin 2) (j : Fin 4) (d : Fin 64), i = ix5 b t i' j d :=
        ⟨i 0, i 1, i 2, i 3, i 4, by blk_ext⟩
      rw [Cert.InOddRefIdeal.Proj.refW_at, Cert.InOddRefIdeal.Proj.ref_at]
      refine Eq.trans ?_ (Cert.InOddIdeal.Proj.tail22_at _ b t i j d).symm
      exact (Cert.InOddIdeal.Proj.z_hi _ _ _ ⟨b.val * 2048 + (1920 + t.val), by omega⟩ ⟨2048 + (i.val * 512 + j.val * 128 + d.val), by omega⟩ (by dsimp only; omega) _ (by dsimp only; omega)).symm
    · rw [Cert.InOddIdeal.Proj.after23 m c, Cert.InOddIdeal.Proj.final m c]
      refine Eq.trans (b := Cert.InOddRefIdeal.Proj.refQ (Cert.InOddRefIdeal.Proj.refZ (Cert.InOddRefIdeal.Proj.refN _ _) _)) rfl ?_
      try rw [(hagree c).2.2]
      funext i
      obtain ⟨b, t, n, rfl⟩ : ∃ (b : Fin 4) (t n : Fin 2048), i = ix3 b t n := ⟨i 0, i 1, i 2, by blk_ext⟩
      rw [Cert.InOddRefIdeal.Proj.refQ_at, Cert.InOddRefIdeal.Proj.ref_at]
      refine Eq.trans ?_ (Cert.InOddIdeal.Proj.tail23_at _ b t n).symm
      exact (Cert.InOddIdeal.Proj.z_lo _ _ _ ⟨b.val * 2048 + t.val, by omega⟩ ⟨n.val, by omega⟩ (by dsimp only; omega)).symm
    · rw [Cert.InOddIdeal.Proj.after27 m c, Cert.InOddIdeal.Proj.final m c]
      refine Eq.trans (b := Cert.InOddRefIdeal.Proj.refKV (Cert.InOddRefIdeal.Proj.refZ (Cert.InOddRefIdeal.Proj.refN _ _) _)) rfl ?_
      try rw [(hagree c).2.2]
      funext i
      obtain ⟨b, t, i, j, d, rfl⟩ : ∃ (b : Fin 4) (t : Fin 2048) (i' : Fin 2) (j : Fin 4) (d : Fin 64), i = ix5 b t i' j d :=
        ⟨i 0, i 1, i 2, i 3, i 4, by blk_ext⟩
      rw [Cert.InOddRefIdeal.Proj.refKV_at, Cert.InOddRefIdeal.Proj.ref_at]
      refine Eq.trans ?_ (Cert.InOddIdeal.Proj.tail27_at _ b t i j d).symm
      exact (Cert.InOddIdeal.Proj.z_hi _ _ _ ⟨b.val * 2048 + t.val, by omega⟩ ⟨2048 + (i.val * 512 + j.val * 128 + d.val), by omega⟩ (by dsimp only; omega) _ (by dsimp only; omega)).symm
    · rw [Cert.InOddIdeal.Proj.after31 m c, Cert.InOddIdeal.Proj.final m c]
      refine Eq.trans (b := Cert.InOddRefIdeal.Proj.refKV (Cert.InOddRefIdeal.Proj.refZ (Cert.InOddRefIdeal.Proj.refN _ _) _)) rfl ?_
      try rw [(hagree c).2.2]
      funext i
      obtain ⟨b, t, i, j, d, rfl⟩ : ∃ (b : Fin 4) (t : Fin 2048) (i' : Fin 2) (j : Fin 4) (d : Fin 64), i = ix5 b t i' j d :=
        ⟨i 0, i 1, i 2, i 3, i 4, by blk_ext⟩
      rw [Cert.InOddRefIdeal.Proj.refKV_at, Cert.InOddRefIdeal.Proj.ref_at]
      refine Eq.trans ?_ (Cert.InOddIdeal.Proj.tail31_at _ b t i j d).symm
      exact (Cert.InOddIdeal.Proj.z_hi _ _ _ ⟨b.val * 2048 + t.val, by omega⟩ ⟨2048 + (i.val * 512 + j.val * 128 + 64 + d.val), by omega⟩ (by dsimp only; omega) _ (by dsimp only; omega)).symm

/-- The log-forget gates kernel runs and leaves its arguments alone. -/
theorem gates_kernel : Cert.quiescent_Gates := fun m g _ => Cert.Gates.Gen.frame m g

/-- So does its idealization. -/
theorem gates_ideal : Cert.quiescent_GatesIdeal := fun m g _ => Cert.GatesIdeal.Gen.frame m g

/-- The log-forget gates reference runs and leaves its arguments alone. -/
theorem gates_ref : Cert.quiescent_GatesRefIdeal := by
  intro m g _
  exact (θ_run _ _ _).mono (fun r h => ⟨fun c => (h c).2.2, sem_eq_zero_of_no_sems (by decide) _⟩) (Cert.GatesRefIdeal.Value.run m g)

/-- The log-forget gates kernel is idealized with no rewriting. -/
theorem gates_preserves : Cert.preserves_Gates_GatesIdeal := trivial

/-- The log-forget gates kernel computes the gates and their running sum. -/
theorem gates_algebraic : Cert.algebraic_GatesIdeal_GatesRefIdeal := by
  pair_intro
  · run_from Cert.GatesIdeal.Gen.run_main m g & Cert.GatesIdeal.Gen.unchanged m g
  · refine (θ_run _ _ _).mono (fun r h c => ⟨(h c).1.trans ?_, (h c).2.1.trans ?_, (h c).2.2.1, (h c).2.2.2⟩) (Cert.GatesRefIdeal.Value.run m' g')
    · refine Eq.trans (b := Cert.GatesRefIdeal.Fg.refS (Cert.GatesRefIdeal.Fg.refP _ _)) rfl ?_
      rw [(hagree c).1, (hagree c).2]
      refine Eq.trans ?_ (Cert.GatesIdeal.Fg.after7 m c).symm
      rw [Cert.GatesIdeal.Fg.final2 m c]
      funext i
      obtain ⟨b, t, h, rfl⟩ : ∃ (b : Fin 4) (t : Fin 2048) (h : Fin 8), i = ix3 b t h := ⟨i 0, i 1, i 2, by blk_ext⟩
      rw [Cert.GatesRefIdeal.Fg.refS_at]
      refine Eq.trans ?_ (Cert.GatesIdeal.Fg.tail_at _ b t h).symm
      exact (Cert.GatesIdeal.Fg.gate_fl _ _ b t h).symm
    · refine Eq.trans (b := Cert.GatesRefIdeal.Fg.refF (Cert.GatesRefIdeal.Fg.refS (Cert.GatesRefIdeal.Fg.refP _ _))) rfl ?_
      rw [(hagree c).1, (hagree c).2]
      refine Eq.trans ?_ (Cert.GatesIdeal.Fg.after8 m c).symm
      rw [Cert.GatesIdeal.Fg.final3 m c]
      funext i
      obtain ⟨b, t, h, rfl⟩ : ∃ (b : Fin 4) (t : Fin 2048) (h : Fin 8), i = ix3 b t h := ⟨i 0, i 1, i 2, by blk_ext⟩
      rw [Cert.GatesRefIdeal.Fg.refFS_at]
      refine Eq.trans ?_ (Cert.GatesIdeal.Fg.tail_at _ b t h).symm
      exact (Cert.GatesIdeal.Fg.cum_fl _ _ b t h).symm

/-- Every claim of the certificate. -/
theorem claim : Cert.Claim := ⟨Cert.Kernel.Gen.facts, Cert.KernelIdeal.Gen.facts, Cert.ReferenceIdeal.Gen.facts,
  Cert.Swiglu.Gen.facts, Cert.SwigluIdeal.Gen.facts, Cert.SwigluRefIdeal.Gen.facts,
  Cert.FfnDown.Gen.facts, Cert.FfnDownIdeal.Gen.facts, Cert.FfnDownRefIdeal.Gen.facts,
  Cert.InEven.Gen.facts, Cert.InEvenIdeal.Gen.facts, Cert.InEvenRefIdeal.Gen.facts,
  Cert.OutEven.Gen.facts, Cert.OutEvenIdeal.Gen.facts, Cert.OutEvenRefIdeal.Gen.facts,
  Cert.OutOdd.Gen.facts, Cert.OutOddIdeal.Gen.facts, Cert.OutOddRefIdeal.Gen.facts,
  Cert.InOdd.Gen.facts, Cert.InOddIdeal.Gen.facts, Cert.InOddRefIdeal.Gen.facts,
  Cert.Gates.Gen.facts, Cert.GatesIdeal.Gen.facts, Cert.GatesRefIdeal.Gen.facts,
  Cert.InEvenS.Gen.facts, Cert.InEvenSIdeal.Gen.facts, Cert.InEvenSRefIdeal.Gen.facts,
  Cert.FfnDownS.Gen.facts, Cert.FfnDownSIdeal.Gen.facts, Cert.FfnDownSRefIdeal.Gen.facts, Cert.Pre_finite.Gen.facts,
  fox_kernel, fox_ideal, fox_ideal_pre, fox_ref, fox_ref_pre,
  swiglu_kernel, swiglu_ideal, swiglu_ref, down_kernel, down_ideal, down_ref, even_kernel, even_ideal, even_ref,
  oute_kernel, oute_ideal, oute_ref, outo_kernel, outo_ideal, outo_ref, odd_kernel, odd_ideal, odd_ref, gates_kernel, gates_ideal, gates_ref,
  evens_kernel, evens_ideal, evens_ref, downs_kernel, downs_ideal, downs_ref,
  fox_preserves, fox_algebraic, swiglu_preserves, swiglu_algebraic, down_preserves, down_algebraic, even_preserves, even_algebraic,
  oute_preserves, oute_algebraic, outo_preserves, outo_algebraic, odd_preserves, odd_algebraic, gates_preserves, gates_algebraic, evens_preserves, evens_algebraic,
  downs_preserves, downs_algebraic⟩

end Cert.Proof

end
